-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_gate [hPre_finite_gate : Cert.Pre_finite_gate.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_gate.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_gate [hPre_finite_gate : Cert.Pre_finite_gate.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_gate.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite_gate [hKernel5Ideal : Cert.Kernel5Ideal.Facts] [hPre_finite_gate : Cert.Pre_finite_gate.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_gate m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite_gate [hReference5Ideal : Cert.Reference5Ideal.Facts] [hPre_finite_gate : Cert.Pre_finite_gate.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_gate m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_v27) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v44) = v0 c
          ∧ r.2.mem ((c.tc : Thread Cert.Reference4Ideal.nD Cert.Reference4Ideal.τ).loc Cert.Reference4Ideal.main_v46) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal_pre_finite_gate [hKernel5Ideal : Cert.Kernel5Ideal.Facts] [hReference5Ideal : Cert.Reference5Ideal.Facts] [hPre_finite_gate : Cert.Pre_finite_gate.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_gate m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v25) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite_gate : Cert.Pre_finite_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_gate (hKernel5Ideal := hKernel5Ideal) (hPre_finite_gate := hPre_finite_gate)
    ∧ quiescent_Reference5Ideal (hReference5Ideal := hReference5Ideal)
    ∧ quiescent_Reference5Ideal_pre_finite_gate (hReference5Ideal := hReference5Ideal) (hPre_finite_gate := hPre_finite_gate)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_gate (hKernel5Ideal := hKernel5Ideal) (hReference5Ideal := hReference5Ideal) (hPre_finite_gate := hPre_finite_gate)
-- ==== Pre_finite.lean ====
abbrev S16x16384x256 : Shape := ⟨3, ![16, 16384, 256]⟩
abbrev S16x32x128x512 : Shape := ⟨4, ![16, 32, 128, 512]⟩
abbrev S_ : Shape := ⟨0, ![]⟩

class Facts : Prop where
  bitsLt_bf16_f32 : FTy.bits .bf16 < FTy.bits .f32
  bcast_S_S16x16384x256 : S_.BroadcastsInDim S16x16384x256 (![] : Fin 0 → Fin S16x16384x256.rank)
  reducesTo_S16x16384x256_S_d0_1_2 : S16x16384x256.ReducesTo [0, 1, 2] S_
  h_S_ : 0 < S_.numel

variable [Facts]

def fn {F : FTy → Type} [FloatOps F] (main_arg0 : FVec F S16x16384x256 .bf16) (main_arg1 : FVec F S16x16384x256 .bf16) (main_arg2 : FVec F S16x32x128x512 .bf16) : IVec S_ 1 :=
  let main_v0 : FVec F S16x16384x256 .f32 := (extf .f32 · bitsLt_bf16_f32) main_arg0
  let main_v1 : FVec F S16x16384x256 .f32 := Host.absf main_v0
  let main_cst : FVec F S_ .f32 := constant S_ .f32 0x7F800000#32
  let main_v2 : FVec F S16x16384x256 .f32 := broadcastInDim S16x16384x256 ![] bcast_S_S16x16384x256 main_cst
  let main_v3 : IVec S16x16384x256 1 := cmpf .olt main_v1 main_v2
  let main_c : IVec S_ 1 := constantI S_ 1 1#1
  let main_v4 : IVec S_ 1 := (fun x v => Host.reduce IntOp.andi x v reducesTo_S16x16384x256_S_d0_1_2 h_S_) main_v3 main_c
  let main_v5 : FVec F S16x16384x256 .f32 := (extf .f32 · bitsLt_bf16_f32) main_arg1
  let main_v6 : FVec F S16x16384x256 .f32 := Host.absf main_v5
  let main_cst_0 : FVec F S_ .f32 := constant S_ .f32 0x7F800000#32
  let main_v7 : FVec F S16x16384x256 .f32 := broadcastInDim S16x16384x256 ![] bcast_S_S16x16384x256 main_cst_0
  let main_v8 : IVec S16x16384x256 1 := cmpf .olt main_v6 main_v7
  let main_c_1 : IVec S_ 1 := constantI S_ 1 1#1
  let main_v9 : IVec S_ 1 := (fun x v => Host.reduce IntOp.andi x v reducesTo_S16x16384x256_S_d0_1_2 h_S_) main_v8 main_c_1
  let main_v10 : IVec S_ 1 := andi main_v4 main_v9
  main_v10
-- ==== Pre_finite_gate.lean ====
abbrev S512x4096 : Shape := ⟨2, ![512, 4096]⟩
abbrev S32x4096 : Shape := ⟨2, ![32, 4096]⟩
abbrev S1x4096 : Shape := ⟨2, ![1, 4096]⟩
abbrev S4096x16384 : Shape := ⟨2, ![4096, 16384]⟩
abbrev S16384x4096 : Shape := ⟨2, ![16384, 4096]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel

variable [Facts]

def fn {F : FTy → Type} [FloatOps F] (main_arg0 : FVec F S512x4096 .f32) (main_arg1 : FVec F S512x4096 .bf16) (main_arg2 : FVec F S32x4096 .f32) (main_arg3 : FVec F S1x4096 .f32) (main_arg4 : FVec F S4096x16384 .bf16) (main_arg5 : FVec F S16384x4096 .bf16) : IVec S_ 1 :=
  let main_v0 : FVec F S32x4096 .f32 := Host.absf main_arg2
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  main_v3
-- ==== Kernel.lean ====
abbrev S16x16384x256 : Shape := ⟨3, ![16, 16384, 256]⟩
abbrev S16x32x128x512 : Shape := ⟨4, ![16, 32, 128, 512]⟩
abbrev S16384x2048 : Shape := ⟨2, ![16384, 2048]⟩
abbrev S1x8192x256 : Shape := ⟨3, ![1, 8192, 256]⟩
abbrev S1x16x128x512 : Shape := ⟨4, ![1, 16, 128, 512]⟩
abbrev S8192x128 : Shape := ⟨2, ![8192, 128]⟩
abbrev S128x1024 : Shape := ⟨2, ![128, 1024]⟩
abbrev S1x1024 : Shape := ⟨2, ![1, 1024]⟩
abbrev S1x1024x256 : Shape := ⟨3, ![1, 1024, 256]⟩
abbrev S1024x256 : Shape := ⟨2, ![1024, 256]⟩
abbrev S1024x1024 : Shape := ⟨2, ![1024, 1024]⟩
abbrev S1024 : Shape := ⟨1, ![1024]⟩
abbrev S1x1x128x512 : Shape := ⟨4, ![1, 1, 128, 512]⟩
abbrev S128x512 : Shape := ⟨2, ![128, 512]⟩
abbrev S512x1024 : Shape := ⟨2, ![512, 1024]⟩
abbrev S1024x128 : Shape := ⟨2, ![1024, 128]⟩

abbrev nBuf : Space → Nat
  | .hbm => 4
  | .vmem => 11
  | .smem => 0
  | _ => 0

abbrev bufTy : (tb : Table) → Fin (tcTables nBuf tb) → BufTy
  | .hbm, ⟨0, _⟩ => ⟨S16x16384x256, .bf16⟩
  | .hbm, ⟨1, _⟩ => ⟨S16x16384x256, .bf16⟩
  | .hbm, ⟨2, _⟩ => ⟨S16x32x128x512, .bf16⟩
  | .hbm, ⟨3, _⟩ => ⟨S16384x2048, .bf16⟩
  | .local _ .vmem, ⟨0, _⟩ => ⟨S1x8192x256, .bf16⟩
  | .local _ .vmem, ⟨1, _⟩ => ⟨S1x8192x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x16x128x512, .bf16⟩
  | .local _ .vmem, ⟨5, _⟩ => ⟨S1x16x128x512, .bf16⟩
  | .local _ .vmem, ⟨6, _⟩ => ⟨S8192x128, .bf16⟩
  | .local _ .vmem, ⟨7, _⟩ => ⟨S8192x128, .bf16⟩
  | .local _ .vmem, ⟨8, _⟩ => ⟨S128x1024, .f32⟩
  | .local _ .vmem, ⟨9, _⟩ => ⟨S1x1024, .f32⟩
  | .local _ .vmem, ⟨10, _⟩ => ⟨S1x1024, .f32⟩
  | _, _ => ⟨S16x16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c1024_i32 : BitVec 32 := 1024#32
  let v1 : BitVec 32 := Scalar.muli arg9 c1024_i32
  v1
def k0_off1 (k0_t1 : Fin k0_t1_loop.trips) : Fin 3 → Nat :=
  let c0 : Index := 0#32
  let c0_i32 : BitVec 32 := 0#32
  let c1_i32 : BitVec 32 := 1#32
  let arg9 : BitVec 32 := Scf.iv c0_i32 c1_i32 k0_t1
  let c1024_i32 : BitVec 32 := 1024#32
  let v1 : BitVec 32 := Scalar.muli arg9 c1024_i32
  let v2 : BitVec 32 := v1
  let v3 : Index := Scalar.indexCast v2
  let c0_1 : Index := 0#32
  ![0, v3.toNat, 0]
@[reducible] def k0_t2_loop (k0_t1 : Fin k0_t1_loop.trips) : Scf.Loop 32 :=
  let c0_i32_11 : BitVec 32 := 0#32
  let c0_i32 : BitVec 32 := 0#32
  let c1_i32 : BitVec 32 := 1#32
  let arg9 : BitVec 32 := Scf.iv c0_i32 c1_i32 k0_t1
  let v18 : BitVec 32 := Scalar.subi arg9 c0_i32_11
  let c1_i32_12 : BitVec 32 := 1#32
  let v20 : BitVec 32 := Scalar.divsi v18 c1_i32_12
  let v21 : BitVec 32 := Scalar.muli v20 c1_i32_12
  let v22 : BitVec 32 := Scalar.addi c0_i32_11 v21
  let c1_i32_13 : BitVec 32 := 1#32
  ⟨c0_i32_11, v22, c1_i32_13⟩
def k0_mult2 (k0_t1 : Fin k0_t1_loop.trips) (k0_t2 : Fin (k0_t2_loop k0_t1).trips) : BitVec 32 :=
  let c0_i32_11 : BitVec 32 := 0#32
  let c1_i32_13 : BitVec 32 := 1#32
  let arg10 : BitVec 32 := Scf.iv c0_i32_11 c1_i32_13 k0_t2
  let c1024_i32_63 : BitVec 32 := 1024#32
  let v134 : BitVec 32 := Scalar.muli arg10 c1024_i32_63
  v134
def k0_off2 (k0_t1 : Fin k0_t1_loop.trips) (k0_t2 : Fin (k0_t2_loop k0_t1).trips) : Fin 3 → Nat :=
  let c0_64 : Index := 0#32
  let c0_i32_11 : BitVec 32 := 0#32
  let c1_i32_13 : BitVec 32 := 1#32
  let arg10 : BitVec 32 := Scf.iv c0_i32_11 c1_i32_13 k0_t2
  let c1024_i32_63 : BitVec 32 := 1024#32
  let v134 : BitVec 32 := Scalar.muli arg10 c1024_i32_63
  let v135 : BitVec 32 := v134
  let v136 : Index := Scalar.indexCast v135
  let c0_65 : Index := 0#32
  ![0, v136.toNat, 0]
def k0_off3 (k0_t1 : Fin k0_t1_loop.trips) (k0_t2 : Fin (k0_t2_loop k0_t1).trips) : Fin 4 → Nat :=
  let c0_76 : Index := 0#32
  let c0_i32_11 : BitVec 32 := 0#32
  let c1_i32_13 : BitVec 32 := 1#32
  let arg10 : BitVec 32 := Scf.iv c0_i32_11 c1_i32_13 k0_t2
  let c2_i32_75 : BitVec 32 := 2#32
  let v158 : BitVec 32 := Scalar.muli arg10 c2_i32_75
  let v159 : Index := Scalar.indexCast v158
  let c0_77 : Index := 0#32
  let c0_78 : Index := 0#32
  ![0, v159.toNat, 0, 0]
def k0_off4 (k0_t1 : Fin k0_t1_loop.trips) (k0_t2 : Fin (k0_t2_loop k0_t1).trips) : Fin 4 → Nat :=
  let c0_82 : Index := 0#32
  let c0_i32_11 : BitVec 32 := 0#32
  let c1_i32_13 : BitVec 32 := 1#32
  let arg10 : BitVec 32 := Scf.iv c0_i32_11 c1_i32_13 k0_t2
  let c2_i32_80 : BitVec 32 := 2#32
  let v164 : BitVec 32 := Scalar.muli arg10 c2_i32_80
  let c1_i32_81 : BitVec 32 := 1#32
  let v165 : BitVec 32 := Scalar.addi v164 c1_i32_81
  let v166 : Index := Scalar.indexCast v165
  let c0_83 : Index := 0#32
  let c0_84 : Index := 0#32
  ![0, v166.toNat, 0, 0]
@[reducible] def k0_t3_loop (k0_t1 : Fin k0_t1_loop.trips) : Scf.Loop 32 :=
  let c0_i32_11 : BitVec 32 := 0#32
  let c0_i32 : BitVec 32 := 0#32
  let c1_i32 : BitVec 32 := 1#32
  let arg9 : BitVec 32 := Scf.iv c0_i32 c1_i32 k0_t1
  let v18 : BitVec 32 := Scalar.subi arg9 c0_i32_11
  let c1_i32_12 : BitVec 32 := 1#32
  let v20 : BitVec 32 := Scalar.divsi v18 c1_i32_12
  let v21 : BitVec 32 := Scalar.muli v20 c1_i32_12
  let v22 : BitVec 32 := Scalar.addi c0_i32_11 v21
  let v19 : BitVec 32 := Scalar.addi c0_i32_11 v18
  let c1_i32_14 : BitVec 32 := 1#32
  ⟨v22, v19, c1_i32_14⟩
def k0_mult3 (k0_t1 : Fin k0_t1_loop.trips) (k0_t3 : Fin (k0_t3_loop k0_t1).trips) : BitVec 32 :=
  let c0_i32_11 : BitVec 32 := 0#32
  let c0_i32 : BitVec 32 := 0#32
  let c1_i32 : BitVec 32 := 1#32
  let arg9 : BitVec 32 := Scf.iv c0_i32 c1_i32 k0_t1
  let v18 : BitVec 32 := Scalar.subi arg9 c0_i32_11
  let c1_i32_12 : BitVec 32 := 1#32
  let v20 : BitVec 32 := Scalar.divsi v18 c1_i32_12
  let v21 : BitVec 32 := Scalar.muli v20 c1_i32_12
  let v22 : BitVec 32 := Scalar.addi c0_i32_11 v21
  let c1_i32_14 : BitVec 32 := 1#32
  let arg10 : BitVec 32 := Scf.iv v22 c1_i32_14 k0_t3
  let c1024_i32_63 : BitVec 32 := 1024#32
  let v134 : BitVec 32 := Scalar.muli arg10 c1024_i32_63
  v134
def k0_off5 (k0_t1 : Fin k0_t1_loop.trips) (k0_t3 : Fin (k0_t3_loop k0_t1).trips) : Fin 3 → Nat :=
  let c0_64 : Index := 0#32
  let c0_i32_11 : BitVec 32 := 0#32
  let c0_i32 : BitVec 32 := 0#32
  let c1_i32 : BitVec 32 := 1#32
  let arg9 : BitVec 32 := Scf.iv c0_i32 c1_i32 k0_t1
  let v18 : BitVec 32 := Scalar.subi arg9 c0_i32_11
  let c1_i32_12 : BitVec 32 := 1#32
  let v20 : BitVec 32 := Scalar.divsi v18 c1_i32_12
  let v21 : BitVec 32 := Scalar.muli v20 c1_i32_12
  let v22 : BitVec 32 := Scalar.addi c0_i32_11 v21
  let c1_i32_14 : BitVec 32 := 1#32
  let arg10 : BitVec 32 := Scf.iv v22 c1_i32_14 k0_t3
  let c1024_i32_63 : BitVec 32 := 1024#32
  let v134 : BitVec 32 := Scalar.muli arg10 c1024_i32_63
  let v135 : BitVec 32 := v134
  let v136 : Index := Scalar.indexCast v135
  let c0_65 : Index := 0#32
  ![0, v136.toNat, 0]
def k0_off6 (k0_t1 : Fin k0_t1_loop.trips) (k0_t3 : Fin (k0_t3_loop k0_t1).trips) : Fin 4 → Nat :=
  let c0_76 : Index := 0#32
  let c0_i32_11 : BitVec 32 := 0#32
  let c0_i32 : BitVec 32 := 0#32
  let c1_i32 : BitVec 32 := 1#32
  let arg9 : BitVec 32 := Scf.iv c0_i32 c1_i32 k0_t1
  let v18 : BitVec 32 := Scalar.subi arg9 c0_i32_11
  let c1_i32_12 : BitVec 32 := 1#32
  let v20 : BitVec 32 := Scalar.divsi v18 c1_i32_12
  let v21 : BitVec 32 := Scalar.muli v20 c1_i32_12
  let v22 : BitVec 32 := Scalar.addi c0_i32_11 v21
  let c1_i32_14 : BitVec 32 := 1#32
  let arg10 : BitVec 32 := Scf.iv v22 c1_i32_14 k0_t3
  let c2_i32_75 : BitVec 32 := 2#32
  let v158 : BitVec 32 := Scalar.muli arg10 c2_i32_75
  let v159 : Index := Scalar.indexCast v158
  let c0_77 : Index := 0#32
  let c0_78 : Index := 0#32
  ![0, v159.toNat, 0, 0]
def k0_off7 (k0_t1 : Fin k0_t1_loop.trips) (k0_t3 : Fin (k0_t3_loop k0_t1).trips) : Fin 4 → Nat :=
  let c0_82 : Index := 0#32
  let c0_i32_11 : BitVec 32 := 0#32
  let c0_i32 : BitVec 32 := 0#32
  let c1_i32 : BitVec 32 := 1#32
  let arg9 : BitVec 32 := Scf.iv c0_i32 c1_i32 k0_t1
  let v18 : BitVec 32 := Scalar.subi arg9 c0_i32_11
  let c1_i32_12 : BitVec 32 := 1#32
  let v20 : BitVec 32 := Scalar.divsi v18 c1_i32_12
  let v21 : BitVec 32 := Scalar.muli v20 c1_i32_12
  let v22 : BitVec 32 := Scalar.addi c0_i32_11 v21
  let c1_i32_14 : BitVec 32 := 1#32
  let arg10 : BitVec 32 := Scf.iv v22 c1_i32_14 k0_t3
  let c2_i32_80 : BitVec 32 := 2#32
  let v164 : BitVec 32 := Scalar.muli arg10 c2_i32_80
  let c1_i32_81 : BitVec 32 := 1#32
  let v165 : BitVec 32 := Scalar.addi v164 c1_i32_81
  let v166 : Index := Scalar.indexCast v165
  let c0_83 : Index := 0#32
  let c0_84 : Index := 0#32
  ![0, v166.toNat, 0, 0]
def k0_mult4 (k0_t1 : Fin k0_t1_loop.trips) : BitVec 32 :=
  let c0_i32 : BitVec 32 := 0#32
  let c1_i32 : BitVec 32 := 1#32
  let arg9 : BitVec 32 := Scf.iv c0_i32 c1_i32 k0_t1
  let c1024_i32_15 : BitVec 32 := 1024#32
  let v23 : BitVec 32 := Scalar.muli arg9 c1024_i32_15
  v23
def k0_off8 (k0_t1 : Fin k0_t1_loop.trips) : Fin 4 → Nat :=
  let c0_41 : Index := 0#32
  let c0_i32 : BitVec 32 := 0#32
  let c1_i32 : BitVec 32 := 1#32
  let arg9 : BitVec 32 := Scf.iv c0_i32 c1_i32 k0_t1
  let c2_i32 : BitVec 32 := 2#32
  let v100 : BitVec 32 := Scalar.muli arg9 c2_i32
  let v101 : Index := Scalar.indexCast v100
  let c0_42 : Index := 0#32
  let c0_43 : Index := 0#32
  ![0, v101.toNat, 0, 0]
def k0_off9 (k0_t1 : Fin k0_t1_loop.trips) : Fin 4 → Nat :=
  let c0_47 : Index := 0#32
  let c0_i32 : BitVec 32 := 0#32
  let c1_i32 : BitVec 32 := 1#32
  let arg9 : BitVec 32 := Scf.iv c0_i32 c1_i32 k0_t1
  let c2_i32_45 : BitVec 32 := 2#32
  let v106 : BitVec 32 := Scalar.muli arg9 c2_i32_45
  let c1_i32_46 : BitVec 32 := 1#32
  let v107 : BitVec 32 := Scalar.addi v106 c1_i32_46
  let v108 : Index := Scalar.indexCast v107
  let c0_48 : Index := 0#32
  let c0_49 : Index := 0#32
  ![0, v108.toNat, 0, 0]
def k0_off10 (k0_t1 : Fin k0_t1_loop.trips) : Fin 2 → Nat :=
  let c0_i32 : BitVec 32 := 0#32
  let c1_i32 : BitVec 32 := 1#32
  let arg9 : BitVec 32 := Scf.iv c0_i32 c1_i32 k0_t1
  let c1024_i32 : BitVec 32 := 1024#32
  let v1 : BitVec 32 := Scalar.muli arg9 c1024_i32
  let v2 : BitVec 32 := v1
  let v132 : Index := Scalar.indexCast v2
  let c0_62 : Index := 0#32
  ![v132.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x16384x256 : Shape := ⟨3, ![16, 16384, 256]⟩
abbrev S16x32x128x512 : Shape := ⟨4, ![16, 32, 128, 512]⟩
abbrev S16x2x8192x256 : Shape := ⟨4, ![16, 2, 8192, 256]⟩
abbrev S16x32x512x128 : Shape := ⟨4, ![16, 32, 512, 128]⟩
abbrev S16x2x8192x128 : Shape := ⟨4, ![16, 2, 8192, 128]⟩
abbrev S16x2x8192x8192 : Shape := ⟨4, ![16, 2, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x2x8192 : Shape := ⟨3, ![16, 2, 8192]⟩
abbrev S16x2x8192x1 : Shape := ⟨4, ![16, 2, 8192, 1]⟩
abbrev S2x16x128x8192 : Shape := ⟨4, ![2, 16, 128, 8192]⟩
abbrev S2x8192x16x128 : Shape := ⟨4, ![2, 8192, 16, 128]⟩
abbrev S16384x2048 : Shape := ⟨2, ![16384, 2048]⟩

abbrev nBuf : Space → Nat
  | .hbm => 62
  | .vmem => 0
  | .smem => 0
  | _ => 0

abbrev bufTy : (tb : Table) → Fin (tcTables nBuf tb) → BufTy
  | .hbm, ⟨0, _⟩ => ⟨S16x16384x256, .bf16⟩
  | .hbm, ⟨1, _⟩ => ⟨S16x16384x256, .bf16⟩
  | .hbm, ⟨2, _⟩ => ⟨S16x32x128x512, .bf16⟩
  | .hbm, ⟨3, _⟩ => ⟨S16x16384x256, .f32⟩
  | .hbm, ⟨4, _⟩ => ⟨S16x2x8192x256, .f32⟩
  | .hbm, ⟨5, _⟩ => ⟨S16x16384x256, .f32⟩
  | .hbm, ⟨6, _⟩ => ⟨S16x2x8192x256, .f32⟩
  | .hbm, ⟨7, _⟩ => ⟨S16x32x128x512, .f32⟩
  | .hbm, ⟨8, _⟩ => ⟨S16x32x512x128, .f32⟩
  | .hbm, ⟨9, _⟩ => ⟨S16x2x8192x128, .f32⟩
  | .hbm, ⟨10, _⟩ => ⟨S16x2x8192x8192, .f32⟩
  | .hbm, ⟨11, _⟩ => ⟨S_, .f32⟩
  | .hbm, ⟨12, _⟩ => ⟨S_, .f32⟩
  | .hbm, ⟨13, _⟩ => ⟨S16x2x8192x8192, .f32⟩
  | .hbm, ⟨14, _⟩ => ⟨S16x2x8192x8192, .f32⟩
  | .hbm, ⟨15, _⟩ => ⟨S8192, .i32⟩
  | .hbm, ⟨16, _⟩ => ⟨S_, .i32⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S8192, .i32⟩
  | .hbm, ⟨25, _⟩ => ⟨S8192, .i32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S1x8192, .i32⟩
  | .hbm, ⟨35, _⟩ => ⟨S8192x1, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S_, .f32⟩
  | .hbm, ⟨40, _⟩ => ⟨S_, .f32⟩
  | .hbm, ⟨41, _⟩ => ⟨S16x2x8192x8192, .i1⟩
  | .hbm, ⟨42, _⟩ => ⟨S16x2x8192x8192, .f32⟩
  | .hbm, ⟨43, _⟩ => ⟨S16x2x8192x8192, .f32⟩
  | .hbm, ⟨44, _⟩ => ⟨S_, .f32⟩
  | .hbm, ⟨45, _⟩ => ⟨S16x2x8192, .f32⟩
  | .hbm, ⟨46, _⟩ => ⟨S_, .f32⟩
  | .hbm, ⟨47, _⟩ => ⟨S16x2x8192, .f32⟩
  | .hbm, ⟨48, _⟩ => ⟨S16x2x8192, .f32⟩
  | .hbm, ⟨49, _⟩ => ⟨S16x2x8192x1, .f32⟩
  | .hbm, ⟨50, _⟩ => ⟨S16x2x8192x8192, .f32⟩
  | .hbm, ⟨51, _⟩ => ⟨S16x2x8192x8192, .f32⟩
  | .hbm, ⟨52, _⟩ => ⟨S16x2x8192x8192, .f32⟩
  | .hbm, ⟨53, _⟩ => ⟨S_, .f32⟩
  | .hbm, ⟨54, _⟩ => ⟨S16x2x8192, .f32⟩
  | .hbm, ⟨55, _⟩ => ⟨S16x2x8192x1, .f32⟩
  | .hbm, ⟨56, _⟩ => ⟨S16x2x8192x8192, .f32⟩
  | .hbm, ⟨57, _⟩ => ⟨S16x2x8192x8192, .f32⟩
  | .hbm, ⟨58, _⟩ => ⟨S2x16x128x8192, .f32⟩
  | .hbm, ⟨59, _⟩ => ⟨S2x8192x16x128, .f32⟩
  | .hbm, ⟨60, _⟩ => ⟨S16384x2048, .f32⟩
  | .hbm, ⟨61, _⟩ => ⟨S16384x2048, .bf16⟩
  | _, _ => ⟨S16x16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v18 : Ref sig .tc := ⟨.hbm, 43, rfl⟩
abbrev main_cst_1 : Ref sig .tc := ⟨.hbm, 44, rfl⟩
abbrev main_v19 : Ref sig .tc := ⟨.hbm, 45, rfl⟩
abbrev main_cst_2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_3 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩

abbrev nD : Nat := 1
abbrev τ : Topo := Topo.v7x

variable {F : FTy → Type} [FloatOps F]
-- ==== Kernel2.lean ====
abbrev S16384x4096 : Shape := ⟨2, ![16384, 4096]⟩
abbrev S2x4096 : Shape := ⟨2, ![2, 4096]⟩
abbrev S1x4096 : Shape := ⟨2, ![1, 4096]⟩
abbrev S4096x16384 : Shape := ⟨2, ![4096, 16384]⟩
abbrev S2x1x4096 : Shape := ⟨3, ![2, 1, 4096]⟩
abbrev S512x4096 : Shape := ⟨2, ![512, 4096]⟩
abbrev S1x1x4096 : Shape := ⟨3, ![1, 1, 4096]⟩
abbrev S4096x1024 : Shape := ⟨2, ![4096, 1024]⟩
abbrev S1024x4096 : Shape := ⟨2, ![1024, 4096]⟩
abbrev S2x128x4096 : Shape := ⟨3, ![2, 128, 4096]⟩
abbrev S2 : Shape := ⟨1, ![2]⟩
abbrev S4 : Shape := ⟨1, ![4]⟩
abbrev S512x1024 : Shape := ⟨2, ![512, 1024]⟩
abbrev S512x512 : Shape := ⟨2, ![512, 512]⟩
abbrev S1024x512 : Shape := ⟨2, ![1024, 512]⟩
abbrev S1 : Shape := ⟨1, ![1]⟩
abbrev S_ : Shape := ⟨0, ![]⟩
abbrev S1x128x4096 : Shape := ⟨3, ![1, 128, 4096]⟩
abbrev S128x4096 : Shape := ⟨2, ![128, 4096]⟩
abbrev S128 : Shape := ⟨1, ![128]⟩
abbrev S128x1 : Shape := ⟨2, ![128, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S2x4096, .f32⟩
  | .hbm, ⟨3, _⟩ => ⟨S1x4096, .f32⟩
  | .hbm, ⟨4, _⟩ => ⟨S4096x16384, .bf16⟩
  | .hbm, ⟨5, _⟩ => ⟨S16384x4096, .bf16⟩
  | .hbm, ⟨6, _⟩ => ⟨S2x1x4096, .f32⟩
  | .hbm, ⟨7, _⟩ => ⟨S16384x4096, .f32⟩
  | .local _ .vmem, ⟨0, _⟩ => ⟨S512x4096, .bf16⟩
  | .local _ .vmem, ⟨1, _⟩ => ⟨S1x1x4096, .f32⟩
  | .local _ .vmem, ⟨2, _⟩ => ⟨S1x1x4096, .f32⟩
  | .local _ .vmem, ⟨3, _⟩ => ⟨S1x4096, .f32⟩
  | .local _ .vmem, ⟨4, _⟩ => ⟨S4096x1024, .bf16⟩
  | .local _ .vmem, ⟨5, _⟩ => ⟨S4096x1024, .bf16⟩
  | .local _ .vmem, ⟨6, _⟩ => ⟨S1024x4096, .bf16⟩
  | .local _ .vmem, ⟨7, _⟩ => ⟨S1024x4096, .bf16⟩
  | .local _ .vmem, ⟨8, _⟩ => ⟨S512x4096, .f32⟩
  | .local _ .vmem, ⟨9, _⟩ => ⟨S2x128x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c15_i32 : BitVec 32 := 15#32
  let v66 : BitVec 1 := Scalar.cmpi .eq arg1 c15_i32
  let v67 : BitVec 32 := Scalar.extui v66
  let c0_i32_54 : BitVec 32 := 0#32
  let v68 : BitVec 1 := Scalar.cmpi .ne v67 c0_i32_54
  v68

def k0_off1 (i : grid0.Coords) (c0_i32_55 : BitVec 32) : Fin 2 → Nat :=
  let arg0 : BitVec 32 := BitVec.ofNat 32 (i 0).val
  let c512_i32 : BitVec 32 := 512#32
  let v69 : BitVec 32 := Scalar.muli arg0 c512_i32
  let v70 : BitVec 32 := Scalar.addi v69 c0_i32_55
  let c0_i32_60 : BitVec 32 := 0#32
  ![v70.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== Reference2Ideal.lean ====
abbrev S16384x4096 : Shape := ⟨2, ![16384, 4096]⟩
abbrev S2x4096 : Shape := ⟨2, ![2, 4096]⟩
abbrev S1x4096 : Shape := ⟨2, ![1, 4096]⟩
abbrev S4096x16384 : Shape := ⟨2, ![4096, 16384]⟩
abbrev S16384x16384 : Shape := ⟨2, ![16384, 16384]⟩
abbrev S_ : Shape := ⟨0, ![]⟩
abbrev S16384 : Shape := ⟨1, ![16384]⟩
abbrev S16384x1 : Shape := ⟨2, ![16384, 1]⟩
abbrev S2x8192x4096 : Shape := ⟨3, ![2, 8192, 4096]⟩
abbrev S2x1x4096 : Shape := ⟨3, ![2, 1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S2x4096, .f32⟩
  | .hbm, ⟨3, _⟩ => ⟨S1x4096, .f32⟩
  | .hbm, ⟨4, _⟩ => ⟨S4096x16384, .bf16⟩
  | .hbm, ⟨5, _⟩ => ⟨S16384x4096, .bf16⟩
  | .hbm, ⟨6, _⟩ => ⟨S16384x4096, .f32⟩
  | .hbm, ⟨7, _⟩ => ⟨S4096x16384, .f32⟩
  | .hbm, ⟨8, _⟩ => ⟨S16384x16384, .f32⟩
  | .hbm, ⟨9, _⟩ => ⟨S_, .f32⟩
  | .hbm, ⟨10, _⟩ => ⟨S16384x16384, .f32⟩
  | .hbm, ⟨11, _⟩ => ⟨S16384x16384, .f32⟩
  | .hbm, ⟨12, _⟩ => ⟨S16384x16384, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S2x8192x4096, .f32⟩
  | .hbm, ⟨31, _⟩ => ⟨S2x8192x4096, .f32⟩
  | .hbm, ⟨32, _⟩ => ⟨S2x1x4096, .f32⟩
  | .hbm, ⟨33, _⟩ => ⟨S2x8192x4096, .f32⟩
  | .hbm, ⟨34, _⟩ => ⟨S2x8192x4096, .f32⟩
  | .hbm, ⟨35, _⟩ => ⟨S2x8192x4096, .f32⟩
  | .hbm, ⟨36, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel3.lean ====
abbrev S16384x4096 : Shape := ⟨2, ![16384, 4096]⟩
abbrev S1x4096 : Shape := ⟨2, ![1, 4096]⟩
abbrev S2x4096 : Shape := ⟨2, ![2, 4096]⟩
abbrev S4096x8192 : Shape := ⟨2, ![4096, 8192]⟩
abbrev S2x1x4096 : Shape := ⟨3, ![2, 1, 4096]⟩
abbrev S16384x7680 : Shape := ⟨2, ![16384, 7680]⟩
abbrev S16384x256 : Shape := ⟨2, ![16384, 256]⟩
abbrev S512x4096 : Shape := ⟨2, ![512, 4096]⟩
abbrev S1x1x4096 : Shape := ⟨3, ![1, 1, 4096]⟩
abbrev S4096x512 : Shape := ⟨2, ![4096, 512]⟩
abbrev S512x512 : Shape := ⟨2, ![512, 512]⟩
abbrev S512x256 : Shape := ⟨2, ![512, 256]⟩
abbrev S128x4096 : Shape := ⟨2, ![128, 4096]⟩
abbrev S128 : Shape := ⟨1, ![128]⟩
abbrev S128x1 : Shape := ⟨2, ![128, 1]⟩

abbrev nBuf : Space → Nat
  | .hbm => 9
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S2x4096, .f32⟩
  | .hbm, ⟨3, _⟩ => ⟨S2x4096, .f32⟩
  | .hbm, ⟨4, _⟩ => ⟨S4096x8192, .bf16⟩
  | .hbm, ⟨5, _⟩ => ⟨S2x1x4096, .f32⟩
  | .hbm, ⟨6, _⟩ => ⟨S2x1x4096, .f32⟩
  | .hbm, ⟨7, _⟩ => ⟨S16384x7680, .bf16⟩
  | .hbm, ⟨8, _⟩ => ⟨S16384x256, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S4096x512, .bf16⟩
  | .local _ .vmem, ⟨8, _⟩ => ⟨S4096x512, .bf16⟩
  | .local _ .vmem, ⟨9, _⟩ => ⟨S512x512, .bf16⟩
  | .local _ .vmem, ⟨10, _⟩ => ⟨S512x512, .bf16⟩
  | .local _ .vmem, ⟨11, _⟩ => ⟨S512x256, .f32⟩
  | .local _ .vmem, ⟨12, _⟩ => ⟨S512x256, .f32⟩
  | .local _ .vmem, ⟨13, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_7 : BitVec 32 := 0#32
  let c4_i32 : BitVec 32 := 4#32
  let v12 : BitVec 32 := Scalar.addi c0_i32_7 c4_i32
  let c1_i32 : BitVec 32 := 1#32
  ⟨c0_i32_7, v12, c1_i32⟩
def k0_mult1 (k0_t1 : Fin k0_t1_loop.trips) : BitVec 32 :=
  let c0_i32_7 : BitVec 32 := 0#32
  let c1_i32 : BitVec 32 := 1#32
  let arg10 : BitVec 32 := Scf.iv c0_i32_7 c1_i32 k0_t1
  let c128_i32 : BitVec 32 := 128#32
  let v13 : BitVec 32 := Scalar.muli arg10 c128_i32
  v13
def k0_off1 (k0_t1 : Fin k0_t1_loop.trips) : Fin 2 → Nat :=
  let c0_i32_7 : BitVec 32 := 0#32
  let c1_i32 : BitVec 32 := 1#32
  let arg10 : BitVec 32 := Scf.iv c0_i32_7 c1_i32 k0_t1
  let c128_i32 : BitVec 32 := 128#32
  let v13 : BitVec 32 := Scalar.muli arg10 c128_i32
  let v14 : BitVec 32 := v13
  let v15 : Index := Scalar.indexCast v14
  let c0_9 : Index := 0#32
  ![v15.toNat, 0]
def k0_cond2 (i : grid0.Coords) : BitVec 1 :=
  let arg1 : BitVec 32 := BitVec.ofNat 32 (i 1).val
  let c15_i32 : BitVec 32 := 15#32
  let v6 : BitVec 1 := Scalar.cmpi .slt arg1 c15_i32
  let v7 : BitVec 32 := Scalar.extui v6
  let c0_i32_4 : BitVec 32 := 0#32
  let v8 : BitVec 1 := Scalar.cmpi .ne v7 c0_i32_4
  v8

def k0_cond3 (i : grid0.Coords) : BitVec 1 :=
  let arg1 : BitVec 32 := BitVec.ofNat 32 (i 1).val
  let c15_i32_5 : BitVec 32 := 15#32
  let v9 : BitVec 1 := Scalar.cmpi .eq arg1 c15_i32_5
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.minsi arg1 c14_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S16384x4096 : Shape := ⟨2, ![16384, 4096]⟩
abbrev S1x4096 : Shape := ⟨2, ![1, 4096]⟩
abbrev S2x4096 : Shape := ⟨2, ![2, 4096]⟩
abbrev S4096x8192 : Shape := ⟨2, ![4096, 8192]⟩
abbrev S2x8192x4096 : Shape := ⟨3, ![2, 8192, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x1x4096 : Shape := ⟨3, ![2, 1, 4096]⟩
abbrev S16384x8192 : Shape := ⟨2, ![16384, 8192]⟩
abbrev S16384x7680 : Shape := ⟨2, ![16384, 7680]⟩
abbrev S16384x256 : Shape := ⟨2, ![16384, 256]⟩

abbrev nBuf : Space → Nat
  | .hbm => 37
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S2x4096, .f32⟩
  | .hbm, ⟨3, _⟩ => ⟨S2x4096, .f32⟩
  | .hbm, ⟨4, _⟩ => ⟨S4096x8192, .bf16⟩
  | .hbm, ⟨5, _⟩ => ⟨S2x8192x4096, .f32⟩
  | .hbm, ⟨6, _⟩ => ⟨S2x8192x4096, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x4096, .f32⟩
  | .hbm, ⟨18, _⟩ => ⟨S2x8192x4096, .f32⟩
  | .hbm, ⟨19, _⟩ => ⟨S1x1x4096, .f32⟩
  | .hbm, ⟨20, _⟩ => ⟨S2x8192x4096, .f32⟩
  | .hbm, ⟨21, _⟩ => ⟨S2x8192x4096, .f32⟩
  | .hbm, ⟨22, _⟩ => ⟨S2x1x4096, .f32⟩
  | .hbm, ⟨23, _⟩ => ⟨S_, .f32⟩
  | .hbm, ⟨24, _⟩ => ⟨S2x1x4096, .f32⟩
  | .hbm, ⟨25, _⟩ => ⟨S2x1x4096, .f32⟩
  | .hbm, ⟨26, _⟩ => ⟨S2x8192x4096, .f32⟩
  | .hbm, ⟨27, _⟩ => ⟨S2x8192x4096, .f32⟩
  | .hbm, ⟨28, _⟩ => ⟨S2x1x4096, .f32⟩
  | .hbm, ⟨29, _⟩ => ⟨S2x8192x4096, .f32⟩
  | .hbm, ⟨30, _⟩ => ⟨S2x8192x4096, .f32⟩
  | .hbm, ⟨31, _⟩ => ⟨S16384x4096, .f32⟩
  | .hbm, ⟨32, _⟩ => ⟨S4096x8192, .f32⟩
  | .hbm, ⟨33, _⟩ => ⟨S16384x8192, .f32⟩
  | .hbm, ⟨34, _⟩ => ⟨S16384x7680, .f32⟩
  | .hbm, ⟨35, _⟩ => ⟨S16384x7680, .bf16⟩
  | .hbm, ⟨36, _⟩ => ⟨S16384x256, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel4.lean ====
abbrev S16384x2048 : Shape := ⟨2, ![16384, 2048]⟩
abbrev S4096x4096 : Shape := ⟨2, ![4096, 4096]⟩
abbrev S16384x4096 : Shape := ⟨2, ![16384, 4096]⟩
abbrev S2x4096 : Shape := ⟨2, ![2, 4096]⟩
abbrev S1x4096 : Shape := ⟨2, ![1, 4096]⟩
abbrev S2x1x4096 : Shape := ⟨3, ![2, 1, 4096]⟩
abbrev S512x512 : Shape := ⟨2, ![512, 512]⟩
abbrev S512x4096 : Shape := ⟨2, ![512, 4096]⟩
abbrev S1x1x4096 : Shape := ⟨3, ![1, 1, 4096]⟩
abbrev S128x4096 : Shape := ⟨2, ![128, 4096]⟩
abbrev S128 : Shape := ⟨1, ![128]⟩
abbrev S128x1 : Shape := ⟨2, ![128, 1]⟩

abbrev nBuf : Space → Nat
  | .hbm => 14
  | .vmem => 20
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .bf16⟩
  | .hbm, ⟨3, _⟩ => ⟨S16384x4096, .f32⟩
  | .hbm, ⟨4, _⟩ => ⟨S2x4096, .f32⟩
  | .hbm, ⟨5, _⟩ => ⟨S1x4096, .f32⟩
  | .hbm, ⟨6, _⟩ => ⟨S1x4096, .f32⟩
  | .hbm, ⟨7, _⟩ => ⟨S2x4096, .f32⟩
  | .hbm, ⟨8, _⟩ => ⟨S2x4096, .f32⟩
  | .hbm, ⟨9, _⟩ => ⟨S2x1x4096, .f32⟩
  | .hbm, ⟨10, _⟩ => ⟨S2x1x4096, .f32⟩
  | .hbm, ⟨11, _⟩ => ⟨S2x1x4096, .f32⟩
  | .hbm, ⟨12, _⟩ => ⟨S16384x4096, .f32⟩
  | .hbm, ⟨13, _⟩ => ⟨S16384x4096, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .f32⟩
  | .local _ .vmem, ⟨7, _⟩ => ⟨S512x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x4096, .f32⟩
  | .local _ .vmem, ⟨11, _⟩ => ⟨S1x4096, .f32⟩
  | .local _ .vmem, ⟨12, _⟩ => ⟨S1x1x4096, .f32⟩
  | .local _ .vmem, ⟨13, _⟩ => ⟨S1x1x4096, .f32⟩
  | .local _ .vmem, ⟨14, _⟩ => ⟨S1x1x4096, .f32⟩
  | .local _ .vmem, ⟨15, _⟩ => ⟨S1x1x4096, .f32⟩
  | .local _ .vmem, ⟨16, _⟩ => ⟨S512x4096, .f32⟩
  | .local _ .vmem, ⟨17, _⟩ => ⟨S512x4096, .f32⟩
  | .local _ .vmem, ⟨18, _⟩ => ⟨S512x4096, .bf16⟩
  | .local _ .vmem, ⟨19, _⟩ => ⟨S512x4096, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v55 : BitVec 1 := Scalar.cmpi .eq arg1 c7_i32
  let v56 : BitVec 32 := Scalar.extui v55
  let c0_i32_52 : BitVec 32 := 0#32
  let v57 : BitVec 1 := Scalar.cmpi .ne v56 c0_i32_52
  v57

@[reducible] def k0_t1_loop : Scf.Loop 32 :=
  let c0_i32_53 : BitVec 32 := 0#32
  let c4_i32_54 : BitVec 32 := 4#32
  let v58 : BitVec 32 := Scalar.addi c0_i32_53 c4_i32_54
  let c1_i32 : BitVec 32 := 1#32
  ⟨c0_i32_53, v58, c1_i32⟩
def k0_mult1 (k0_t1 : Fin k0_t1_loop.trips) : BitVec 32 :=
  let c0_i32_53 : BitVec 32 := 0#32
  let c1_i32 : BitVec 32 := 1#32
  let arg13 : BitVec 32 := Scf.iv c0_i32_53 c1_i32 k0_t1
  let c128_i32 : BitVec 32 := 128#32
  let v59 : BitVec 32 := Scalar.muli arg13 c128_i32
  v59
def k0_off1 (k0_t1 : Fin k0_t1_loop.trips) : Fin 2 → Nat :=
  let c0_i32_53 : BitVec 32 := 0#32
  let c1_i32 : BitVec 32 := 1#32
  let arg13 : BitVec 32 := Scf.iv c0_i32_53 c1_i32 k0_t1
  let c128_i32 : BitVec 32 := 128#32
  let v59 : BitVec 32 := Scalar.muli arg13 c128_i32
  let v60 : BitVec 32 := v59
  let v61 : Index := Scalar.indexCast v60
  let c0_56 : Index := 0#32
  ![v61.toNat, 0]
def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference4Ideal.lean ====
abbrev S16384x2048 : Shape := ⟨2, ![16384, 2048]⟩
abbrev S4096x4096 : Shape := ⟨2, ![4096, 4096]⟩
abbrev S16384x4096 : Shape := ⟨2, ![16384, 4096]⟩
abbrev S2x4096 : Shape := ⟨2, ![2, 4096]⟩
abbrev S1x4096 : Shape := ⟨2, ![1, 4096]⟩
abbrev S2x8192x4096 : Shape := ⟨3, ![2, 8192, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x1x4096 : Shape := ⟨3, ![2, 1, 4096]⟩

abbrev nBuf : Space → Nat
  | .hbm => 63
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .bf16⟩
  | .hbm, ⟨3, _⟩ => ⟨S16384x4096, .f32⟩
  | .hbm, ⟨4, _⟩ => ⟨S2x4096, .f32⟩
  | .hbm, ⟨5, _⟩ => ⟨S1x4096, .f32⟩
  | .hbm, ⟨6, _⟩ => ⟨S1x4096, .f32⟩
  | .hbm, ⟨7, _⟩ => ⟨S2x4096, .f32⟩
  | .hbm, ⟨8, _⟩ => ⟨S2x4096, .f32⟩
  | .hbm, ⟨9, _⟩ => ⟨S16384x4096, .bf16⟩
  | .hbm, ⟨10, _⟩ => ⟨S16384x4096, .f32⟩
  | .hbm, ⟨11, _⟩ => ⟨S4096x4096, .f32⟩
  | .hbm, ⟨12, _⟩ => ⟨S16384x4096, .f32⟩
  | .hbm, ⟨13, _⟩ => ⟨S2x8192x4096, .f32⟩
  | .hbm, ⟨14, _⟩ => ⟨S2x8192x4096, .f32⟩
  | .hbm, ⟨15, _⟩ => ⟨S_, .f32⟩
  | .hbm, ⟨16, _⟩ => ⟨S2x8192, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1, .f32⟩
  | .hbm, ⟨25, _⟩ => ⟨S2x8192x4096, .f32⟩
  | .hbm, ⟨26, _⟩ => ⟨S2x8192x4096, .f32⟩
  | .hbm, ⟨27, _⟩ => ⟨S1x1x4096, .f32⟩
  | .hbm, ⟨28, _⟩ => ⟨S2x8192x4096, .f32⟩
  | .hbm, ⟨29, _⟩ => ⟨S2x8192x4096, .f32⟩
  | .hbm, ⟨30, _⟩ => ⟨S2x8192x4096, .f32⟩
  | .hbm, ⟨31, _⟩ => ⟨S2x1x4096, .f32⟩
  | .hbm, ⟨32, _⟩ => ⟨S2x8192x4096, .f32⟩
  | .hbm, ⟨33, _⟩ => ⟨S2x8192x4096, .f32⟩
  | .hbm, ⟨34, _⟩ => ⟨S2x8192x4096, .f32⟩
  | .hbm, ⟨35, _⟩ => ⟨S2x8192x4096, .f32⟩
  | .hbm, ⟨36, _⟩ => ⟨S_, .f32⟩
  | .hbm, ⟨37, _⟩ => ⟨S2x8192, .f32⟩
  | .hbm, ⟨38, _⟩ => ⟨S2x8192x1, .f32⟩
  | .hbm, ⟨39, _⟩ => ⟨S_, .f32⟩
  | .hbm, ⟨40, _⟩ => ⟨S2x8192x1, .f32⟩
  | .hbm, ⟨41, _⟩ => ⟨S2x8192x1, .f32⟩
  | .hbm, ⟨42, _⟩ => ⟨S_, .f32⟩
  | .hbm, ⟨43, _⟩ => ⟨S2x8192x1, .f32⟩
  | .hbm, ⟨44, _⟩ => ⟨S2x8192x1, .f32⟩
  | .hbm, ⟨45, _⟩ => ⟨S2x8192x1, .f32⟩
  | .hbm, ⟨46, _⟩ => ⟨S2x8192x4096, .f32⟩
  | .hbm, ⟨47, _⟩ => ⟨S2x8192x4096, .f32⟩
  | .hbm, ⟨48, _⟩ => ⟨S1x1x4096, .f32⟩
  | .hbm, ⟨49, _⟩ => ⟨S2x8192x4096, .f32⟩
  | .hbm, ⟨50, _⟩ => ⟨S2x8192x4096, .f32⟩
  | .hbm, ⟨51, _⟩ => ⟨S2x1x4096, .f32⟩
  | .hbm, ⟨52, _⟩ => ⟨S_, .f32⟩
  | .hbm, ⟨53, _⟩ => ⟨S2x1x4096, .f32⟩
  | .hbm, ⟨54, _⟩ => ⟨S2x1x4096, .f32⟩
  | .hbm, ⟨55, _⟩ => ⟨S2x8192x4096, .f32⟩
  | .hbm, ⟨56, _⟩ => ⟨S2x8192x4096, .f32⟩
  | .hbm, ⟨57, _⟩ => ⟨S2x1x4096, .f32⟩
  | .hbm, ⟨58, _⟩ => ⟨S2x8192x4096, .f32⟩
  | .hbm, ⟨59, _⟩ => ⟨S2x8192x4096, .f32⟩
  | .hbm, ⟨60, _⟩ => ⟨S16384x4096, .f32⟩
  | .hbm, ⟨61, _⟩ => ⟨S16384x4096, .f32⟩
  | .hbm, ⟨62, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Kernel5.lean ====
abbrev S512x4096 : Shape := ⟨2, ![512, 4096]⟩
abbrev S32x4096 : Shape := ⟨2, ![32, 4096]⟩
abbrev S1x4096 : Shape := ⟨2, ![1, 4096]⟩
abbrev S4096x16384 : Shape := ⟨2, ![4096, 16384]⟩
abbrev S16384x4096 : Shape := ⟨2, ![16384, 4096]⟩
abbrev S1x32x4096 : Shape := ⟨3, ![1, 32, 4096]⟩
abbrev S_ : Shape := ⟨0, ![]⟩
abbrev S1x128x4096 : Shape := ⟨3, ![1, 128, 4096]⟩
abbrev S4096x1024 : Shape := ⟨2, ![4096, 1024]⟩
abbrev S1024x4096 : Shape := ⟨2, ![1024, 4096]⟩
abbrev S2x128x4096 : Shape := ⟨3, ![2, 128, 4096]⟩
abbrev S2 : Shape := ⟨1, ![2]⟩
abbrev S4 : Shape := ⟨1, ![4]⟩
abbrev S512x1024 : Shape := ⟨2, ![512, 1024]⟩
abbrev S512x512 : Shape := ⟨2, ![512, 512]⟩
abbrev S1024x512 : Shape := ⟨2, ![1024, 512]⟩
abbrev S1 : Shape := ⟨1, ![1]⟩
abbrev S128x4096 : Shape := ⟨2, ![128, 4096]⟩
abbrev S128 : Shape := ⟨1, ![128]⟩
abbrev S128x1 : Shape := ⟨2, ![128, 1]⟩
abbrev S128x128 : Shape := ⟨2, ![128, 128]⟩

abbrev nBuf : Space → Nat
  | .hbm => 11
  | .vmem => 9
  | .smem => 0
  | _ => 0

abbrev bufTy : (tb : Table) → Fin (tcTables nBuf tb) → BufTy
  | .hbm, ⟨0, _⟩ => ⟨S512x4096, .f32⟩
  | .hbm, ⟨1, _⟩ => ⟨S512x4096, .bf16⟩
  | .hbm, ⟨2, _⟩ => ⟨S32x4096, .f32⟩
  | .hbm, ⟨3, _⟩ => ⟨S1x4096, .f32⟩
  | .hbm, ⟨4, _⟩ => ⟨S4096x16384, .bf16⟩
  | .hbm, ⟨5, _⟩ => ⟨S16384x4096, .bf16⟩
  | .hbm, ⟨6, _⟩ => ⟨S1x32x4096, .f32⟩
  | .hbm, ⟨7, _⟩ => ⟨S_, .i32⟩
  | .hbm, ⟨8, _⟩ => ⟨S_, .f32⟩
  | .hbm, ⟨9, _⟩ => ⟨S1x128x4096, .f32⟩
  | .hbm, ⟨10, _⟩ => ⟨S512x4096, .f32⟩
  | .local _ .vmem, ⟨0, _⟩ => ⟨S512x4096, .bf16⟩
  | .local _ .vmem, ⟨1, _⟩ => ⟨S1x128x4096, .f32⟩
  | .local _ .vmem, ⟨2, _⟩ => ⟨S1x4096, .f32⟩
  | .local _ .vmem, ⟨3, _⟩ => ⟨S4096x1024, .bf16⟩
  | .local _ .vmem, ⟨4, _⟩ => ⟨S4096x1024, .bf16⟩
  | .local _ .vmem, ⟨5, _⟩ => ⟨S1024x4096, .bf16⟩
  | .local _ .vmem, ⟨6, _⟩ => ⟨S1024x4096, .bf16⟩
  | .local _ .vmem, ⟨7, _⟩ => ⟨S512x4096, .f32⟩
  | .local _ .vmem, ⟨8, _⟩ => ⟨S2x128x4096, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v66 : BitVec 1 := Scalar.cmpi .eq arg1 c15_i32
  let v67 : BitVec 32 := Scalar.extui v66
  let c0_i32_54 : BitVec 32 := 0#32
  let v68 : BitVec 1 := Scalar.cmpi .ne v67 c0_i32_54
  v68

def k0_off1 (i : grid0.Coords) (c0_i32_55 : BitVec 32) : Fin 2 → Nat :=
  let arg0 : BitVec 32 := BitVec.ofNat 32 (i 0).val
  let c512_i32 : BitVec 32 := 512#32
  let v69 : BitVec 32 := Scalar.muli arg0 c512_i32
  let v70 : BitVec 32 := Scalar.addi v69 c0_i32_55
  let c0_i32_60 : BitVec 32 := 0#32
  ![v70.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== Reference5Ideal.lean ====
abbrev S512x4096 : Shape := ⟨2, ![512, 4096]⟩
abbrev S32x4096 : Shape := ⟨2, ![32, 4096]⟩
abbrev S1x4096 : Shape := ⟨2, ![1, 4096]⟩
abbrev S4096x16384 : Shape := ⟨2, ![4096, 16384]⟩
abbrev S16384x4096 : Shape := ⟨2, ![16384, 4096]⟩
abbrev S512x16384 : Shape := ⟨2, ![512, 16384]⟩
abbrev S_ : Shape := ⟨0, ![]⟩
abbrev S512 : Shape := ⟨1, ![512]⟩
abbrev S512x1 : Shape := ⟨2, ![512, 1]⟩
abbrev S32x16x4096 : Shape := ⟨3, ![32, 16, 4096]⟩
abbrev S32x1x4096 : Shape := ⟨3, ![32, 1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S512x4096, .bf16⟩
  | .hbm, ⟨2, _⟩ => ⟨S32x4096, .f32⟩
  | .hbm, ⟨3, _⟩ => ⟨S1x4096, .f32⟩
  | .hbm, ⟨4, _⟩ => ⟨S4096x16384, .bf16⟩
  | .hbm, ⟨5, _⟩ => ⟨S16384x4096, .bf16⟩
  | .hbm, ⟨6, _⟩ => ⟨S512x4096, .f32⟩
  | .hbm, ⟨7, _⟩ => ⟨S4096x16384, .f32⟩
  | .hbm, ⟨8, _⟩ => ⟨S512x16384, .f32⟩
  | .hbm, ⟨9, _⟩ => ⟨S_, .f32⟩
  | .hbm, ⟨10, _⟩ => ⟨S512x16384, .f32⟩
  | .hbm, ⟨11, _⟩ => ⟨S512x16384, .f32⟩
  | .hbm, ⟨12, _⟩ => ⟨S512x16384, .f32⟩
  | .hbm, ⟨13, _⟩ => ⟨S16384x4096, .f32⟩
  | .hbm, ⟨14, _⟩ => ⟨S512x4096, .f32⟩
  | .hbm, ⟨15, _⟩ => ⟨S512x4096, .f32⟩
  | .hbm, ⟨16, _⟩ => ⟨S_, .f32⟩
  | .hbm, ⟨17, _⟩ => ⟨S512, .f32⟩
  | .hbm, ⟨18, _⟩ => ⟨S512x1, .f32⟩
  | .hbm, ⟨19, _⟩ => ⟨S_, .f32⟩
  | .hbm, ⟨20, _⟩ => ⟨S512x1, .f32⟩
  | .hbm, ⟨21, _⟩ => ⟨S512x1, .f32⟩
  | .hbm, ⟨22, _⟩ => ⟨S_, .f32⟩
  | .hbm, ⟨23, _⟩ => ⟨S512x1, .f32⟩
  | .hbm, ⟨24, _⟩ => ⟨S512x1, .f32⟩
  | .hbm, ⟨25, _⟩ => ⟨S512x1, .f32⟩
  | .hbm, ⟨26, _⟩ => ⟨S512x4096, .f32⟩
  | .hbm, ⟨27, _⟩ => ⟨S512x4096, .f32⟩
  | .hbm, ⟨28, _⟩ => ⟨S512x4096, .f32⟩
  | .hbm, ⟨29, _⟩ => ⟨S512x4096, .f32⟩
  | .hbm, ⟨30, _⟩ => ⟨S32x16x4096, .f32⟩
  | .hbm, ⟨31, _⟩ => ⟨S32x16x4096, .f32⟩
  | .hbm, ⟨32, _⟩ => ⟨S32x1x4096, .f32⟩
  | .hbm, ⟨33, _⟩ => ⟨S32x16x4096, .f32⟩
  | .hbm, ⟨34, _⟩ => ⟨S32x16x4096, .f32⟩
  | .hbm, ⟨35, _⟩ => ⟨S32x16x4096, .f32⟩
  | .hbm, ⟨36, _⟩ => ⟨S512x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Proof.IdealState.lean ====
/-
  What one pass of the attention kernel over a key block does to the three running arrays, as pure functions: the row
  maximum `m`, the row sum `l` and the weighted sum `acc`, all laid out with the queries along the last axis. The
  payloads are the kernel's own (`Gen.k0_payN`); nothing here mentions a buffer.
-/
module

public import proofs.«01_k».proof.Proof.Gen.KernelIdeal.Skeleton
public import Idealize.ShloMosaic.Lib.VecWindow
public import Idealize.ShloMosaic.Lib.ValueIdxCore

@[expose] public section

set_option maxRecDepth 16384

noncomputable section

namespace Cert.KernelIdeal.Attn

open Cert.KernelIdeal Cert.KernelIdeal.Gen
open Idealize.ShloMosaic

variable {F : FTy → Type} [FloatOps F] [Named F]

/-- The window of sizes `size` at offsets `off` of the array `X`. Offsets past the end wrap round, so that no bound is
    needed to write it; every use below is within the array. -/
def blk {s : Shape} {α : Type} (hpos : ∀ a, 0 < s.size a) (X : s.Idx → α) (off size : Fin s.rank → ℕ) :
    ((a : Fin s.rank) → Fin (size a)) → α :=
  fun y => X fun a => ⟨(off a + (y a).val) % s.size a, Nat.mod_lt _ (hpos a)⟩

/-- A load through a whole buffer that holds `X` reads that window. -/
theorem readAt_blk {sig : RefSig} {κ : Kind} {sp : Space} {s : Shape} {e : EltTy} {Val : EltTy → Type} [∀ e, Nonempty (Val e)]
    (v : View sig κ sp s e) (X : s.Idx → Val e) (hpos : ∀ a, 0 < s.size a) {off off' size : Fin s.rank → ℕ}
    (inb : ∀ a, off a + size a ≤ s.size a) (h : off = off') :
    v.readAt Val (Rect.unit off size inb).toLoadRect (v.rep X) = blk hpos X off' size := by
  subst h
  rw [View.readAt_rep_unit v X inb rfl inb]
  funext y
  unfold VecWindow.window blk
  refine congrArg X (funext fun a => Fin.ext ?_)
  have hy : (y a).val < size a := (y a).isLt
  have := inb a
  show off a + 1 * (y a).val = (off a + (y a).val) % s.size a
  rw [Nat.mod_eq_of_lt (by omega)]; omega

/-- Block `k` of 1024 rows of the queries or the keys. -/
def rows (X : Vec F S1x8192x256 .bf16) (k : ℕ) : Vec F S1x1024x256 .bf16 :=
  blk (s := S1x8192x256) (by decide) X ![0, 1024 * k, 0] S1x1024x256.size
/-- Block `k` of 512 positions of the transposed values. -/
def vals (X : Vec F S1x16x128x512 .bf16) (k : ℕ) : Vec F S1x1x128x512 .bf16 :=
  blk (s := S1x16x128x512) (by decide) X ![0, k, 0, 0] S1x1x128x512.size

/-- The running arrays. -/
structure St (F : FTy → Type) where
  m : FVec F S1x1024 .f32
  l : FVec F S1x1024 .f32
  acc : FVec F S128x1024 .f32

/-- Before any key block. -/
def st0 : St F := ⟨k0_pay23, k0_pay24, k0_pay25⟩

/-- After one more key block `kb`, all of it visible, with values `va` and `vb`. -/
def kvStep (q kb : Vec F S1x1024x256 .bf16) (va vb : Vec F S1x1x128x512 .bf16) (s : St F) : St F where
  m := k0_pay27 (k0_pay5 (k0_pay22 q) kb s.m)
  l := k0_pay8 (k0_pay22 q) kb s.m s.l
  acc := k0_pay26 (k0_pay6 (k0_pay22 q) kb s.m) (k0_pay10 (k0_pay22 q) kb s.m va) (k0_pay11 vb) (k0_pay12 (k0_pay22 q) kb s.m) s.acc

/-- The running arrays after the first `k` key blocks. -/
def stAt (X3 : Vec F S1x8192x256 .bf16) (X4 : Vec F S1x16x128x512 .bf16) (q : Vec F S1x1024x256 .bf16) : ℕ → St F
  | 0 => st0
  | k + 1 => kvStep q (rows X3 k) (vals X4 (2 * k)) (vals X4 (2 * k + 1)) (stAt X3 X4 q k)

/-- Which key of the block on the diagonal each query of it sees. -/
def diagMask : IVec S1024x1024 1 :=
  k0_pay32 (iota .tc S1024x1024 32 [0] iota_S1024x1024_d0_w32) 64#32 k0_pay31 0#32

/-- After the key block on the diagonal, masked. -/
def diagStep (q kb : Vec F S1x1024x256 .bf16) (va vb : Vec F S1x1x128x512 .bf16) (s : St F) : St F where
  m := k0_pay2 (k0_pay34 (k0_pay30 q kb) diagMask s.m)
  l := k0_pay37 (k0_pay30 q kb) diagMask s.m s.l
  acc := k0_pay1 (k0_pay38 (k0_pay30 q kb) diagMask s.m va vb) (k0_pay39 (k0_pay30 q kb) diagMask s.m s.acc)

/-- The running arrays of query block `t` after its last key block. -/
def fin (X2 X3 : Vec F S1x8192x256 .bf16) (X4 : Vec F S1x16x128x512 .bf16) (t : ℕ) : St F :=
  diagStep (rows X2 t) (rows X3 t) (vals X4 (2 * t)) (vals X4 (2 * t + 1)) (stAt X3 X4 (rows X2 t) t)

/-- The rows of the result that query block `t` gives. -/
def outBlk (X2 X3 : Vec F S1x8192x256 .bf16) (X4 : Vec F S1x16x128x512 .bf16) (t : ℕ) : FVec F S1024x128 .bf16 :=
  k0_pay3 (fin X2 X3 X4 t).acc (fin X2 X3 X4 t).l

/-- The whole result of one grid point: row `r` from query block `r / 1024`. -/
def outAll (X2 X3 : Vec F S1x8192x256 .bf16) (X4 : Vec F S1x16x128x512 .bf16) : Vec F S8192x128 .bf16 :=
  fun y => outBlk X2 X3 X4 ((y 0).val / 1024) (ValueIdx.ix2 ⟨(y 0).val % 1024, Nat.mod_lt _ (by decide)⟩ (y 1))

end Cert.KernelIdeal.Attn

end
-- ==== Proof.IdealOffsets.lean ====
/-
  The attention kernel's loop counts and load offsets, in closed form: query block `t1` is met by the key blocks before
  it, then by the one on the diagonal.
-/
module

public import proofs.«01_k».proof.Proof.Gen.KernelIdeal.Skeleton

@[expose] public section

set_option maxRecDepth 16384

namespace Cert.KernelIdeal.Attn

open Cert.KernelIdeal Cert.KernelIdeal.Gen
open Idealize.ShloMosaic

theorem t1_trips : k0_t1_loop.trips = 8 := by decide +kernel
theorem t2_trips : ∀ t1 : Fin k0_t1_loop.trips, (k0_t2_loop t1).trips = t1.val := by decide +kernel
theorem t3_trips : ∀ t1 : Fin k0_t1_loop.trips, (k0_t3_loop t1).trips = 0 := by decide +kernel
theorem off1 : ∀ t1 : Fin k0_t1_loop.trips, k0_off1 t1 = ![0, 1024 * t1.val, 0] := by decide +kernel
theorem off2 : ∀ (t1 : Fin k0_t1_loop.trips) (t2 : Fin (k0_t2_loop t1).trips), k0_off2 t1 t2 = ![0, 1024 * t2.val, 0] := by decide +kernel
theorem off3 : ∀ (t1 : Fin k0_t1_loop.trips) (t2 : Fin (k0_t2_loop t1).trips), k0_off3 t1 t2 = ![0, 2 * t2.val, 0, 0] := by decide +kernel
theorem off4 : ∀ (t1 : Fin k0_t1_loop.trips) (t2 : Fin (k0_t2_loop t1).trips), k0_off4 t1 t2 = ![0, 2 * t2.val + 1, 0, 0] := by decide +kernel
theorem off8 : ∀ t1 : Fin k0_t1_loop.trips, k0_off8 t1 = ![0, 2 * t1.val, 0, 0] := by decide +kernel
theorem off9 : ∀ t1 : Fin k0_t1_loop.trips, k0_off9 t1 = ![0, 2 * t1.val + 1, 0, 0] := by decide +kernel
theorem off10 : ∀ t1 : Fin k0_t1_loop.trips, k0_off10 t1 = ![1024 * t1.val, 0] := by decide +kernel

end Cert.KernelIdeal.Attn
-- ==== Proof.IdealInner.lean ====
/-
  One pass of the attention kernel's inner loop, over a key block before the diagonal: from the running arrays after
  `k` blocks to those after `k + 1`.
-/
module

public import proofs.«01_k».proof.Proof.IdealState
public import proofs.«01_k».proof.Proof.IdealOffsets
public import Idealize.ShloMosaic.Lib.Exec
public import Idealize.ShloMosaic.Lib.Tactic
public import Idealize.ShloMosaic.Lib.Pipeline.Kit

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section
variable (𝒱 : Variants) (c : Dev nD) (i : grid0.Coords) (arg2 : Memref sig .tc .vmem S1x8192x256 .bf16) (harg2 : arg2.IsWhole) (arg3 : Memref sig .tc .vmem S1x8192x256 .bf16) (harg3 : arg3.IsWhole) (arg4 : Memref sig .tc .vmem S1x16x128x512 .bf16) (harg4 : arg4.IsWhole) (arg5 : Memref sig .tc .vmem S8192x128 .bf16) (harg5 : arg5.IsWhole) (arg6 : Memref sig .tc .vmem S128x1024 .f32) (harg6 : arg6.IsWhole) (arg7 : Memref sig .tc .vmem S1x1024 .f32) (harg7 : arg7.IsWhole) (arg8 : Memref sig .tc .vmem S1x1024 .f32) (harg8 : arg8.IsWhole) (X3 : Vec F S1x8192x256 .bf16) (X4 : Vec F S1x16x128x512 .bf16)

/-- After a store of a whole buffer it holds what was stored. -/
theorem stored (c : Thread nD τ) {sp : Space} {s : Shape} {e : EltTy} (m : Memref sig c.2.kind sp s e)
    (g : Buf (Elt F) (m.view.loc c)) {off : Fin s.rank → ℕ} (inb : ∀ a, off a + s.size a ≤ s.size a)
    (w : (Rect.unit off s.size inb).shape.Idx → Elt F e) (L : List (View.Piece (Elt F) s e)) (X : s.Idx → Elt F e) (h : w = X) :
    (m.view.loc c ↦[m.view.set]{fullShare} m.view.writes (Elt F) g (⟨Rect.unit off s.size inb, w⟩ :: L) : sProp 𝕄)
      ⊢ m.view.loc c ↦[m.view.set]{fullShare} m.view.rep X :=
  pointsTo_rep_of_read c m _ fullShare X ((View.read_writes_full m.view g inb w L).trans h)

/-- What the inner loop holds: the keys and the values, and the running arrays at `s`. -/
def held (s : St F) : sProp 𝕄 :=
  iprop((arg3.view.loc (c : Thread nD τ) ↦[arg3.view.set]{fullShare} arg3.view.rep X3) ∗ (arg4.view.loc (c : Thread nD τ) ↦[arg4.view.set]{fullShare} arg4.view.rep X4) ∗ (arg6.view.loc (c : Thread nD τ) ↦[arg6.view.set]{fullShare} arg6.view.rep s.acc) ∗ (arg7.view.loc (c : Thread nD τ) ↦[arg7.view.set]{fullShare} arg7.view.rep s.m) ∗ (arg8.view.loc (c : Thread nD τ) ↦[arg8.view.set]{fullShare} arg8.view.rep s.l))

/-- One pass. -/
theorem inner_trip (E : Set ℕ) (bd : Option 𝒱.V) (c0 c1 : BitVec 32) (t1 : Fin k0_t1_loop.trips) (q : Vec F S1x1024x256 .bf16) (t2 : Fin (k0_t2_loop t1).trips) (s : St F) :
    held c arg3 arg4 arg6 arg7 arg8 X3 X4 s
    ⊢ wp frame (wpE (defs₀ (F := F)) 𝒱 (c : Thread nD τ) bd) E (k0_t2_body (F := F) i arg2 harg2 arg3 harg3 arg4 harg4 arg5 harg5 arg6 harg6 arg7 harg7 arg8 harg8 c0 c1 t1 q t2 PUnit.unit)
        (fun _ => held c arg3 arg4 arg6 arg7 arg8 X3 X4 (kvStep q (rows X3 t2.val) (vals X4 (2 * t2.val)) (vals X4 (2 * t2.val + 1)) s)) := by
  unfold held k0_t2_body
  have e3 : arg3.view.readAt (Elt F) (Rect.unit (s := S1x8192x256) (k0_off2 t1 t2) S1x1024x256.size (k0_off2_inb t1 t2)).toLoadRect (arg3.view.rep X3) = rows X3 t2.val :=
    readAt_blk arg3.view X3 (by decide) _ (off2 t1 t2)
  have e4 : arg4.view.readAt (Elt F) (Rect.unit (s := S1x16x128x512) (k0_off3 t1 t2) S1x1x128x512.size (k0_off3_inb t1 t2)).toLoadRect (arg4.view.rep X4) = vals X4 (2 * t2.val) :=
    readAt_blk arg4.view X4 (by decide) _ (off3 t1 t2)
  have e4' : arg4.view.readAt (Elt F) (Rect.unit (s := S1x16x128x512) (k0_off4 t1 t2) S1x1x128x512.size (k0_off4_inb t1 t2)).toLoadRect (arg4.view.rep X4) = vals X4 (2 * t2.val + 1) :=
    readAt_blk arg4.view X4 (by decide) _ (off4 t1 t2)
  have e6 : arg6.view.readAt (Elt F) (Rect.unit (s := S128x1024) ![0, 0] S128x1024.size inb_S128x1024_S128x1024_0_0).toLoadRect (arg6.view.rep s.acc) = s.acc :=
    View.readAt_rep_full (Val := Elt F) (s := S128x1024) (e := .f32) arg6.view s.acc (off := ![0, 0]) inb_S128x1024_S128x1024_0_0
  have e7 : arg7.view.readAt (Elt F) (Rect.unit (s := S1x1024) ![0, 0] S1x1024.size inb_S1x1024_S1x1024_0_0).toLoadRect (arg7.view.rep s.m) = s.m :=
    View.readAt_rep_full (Val := Elt F) (s := S1x1024) (e := .f32) arg7.view s.m (off := ![0, 0]) inb_S1x1024_S1x1024_0_0
  have e8 : arg8.view.readAt (Elt F) (Rect.unit (s := S1x1024) ![0, 0] S1x1024.size inb_S1x1024_S1x1024_0_0).toLoadRect (arg8.view.rep s.l) = s.l :=
    View.readAt_rep_full (Val := Elt F) (s := S1x1024) (e := .f32) arg8.view s.l (off := ![0, 0]) inb_S1x1024_S1x1024_0_0
  iintro ⟨H3, H4, H6, H7, H8⟩
  sl_exec
  sl_step
  ihave H6 := (stored (c : Thread nD τ) arg6 _ inb_S128x1024_S128x1024_0_0 _ [] (kvStep q (rows X3 t2.val) (vals X4 (2 * t2.val)) (vals X4 (2 * t2.val + 1)) s).acc ?h6) $$ H6
  case h6 =>
    rfl
  ihave H7 := (stored (c : Thread nD τ) arg7 _ inb_S1x1024_S1x1024_0_0 _ [] (kvStep q (rows X3 t2.val) (vals X4 (2 * t2.val)) (vals X4 (2 * t2.val + 1)) s).m ?h7) $$ H7
  case h7 =>
    rfl
  ihave H8 := (stored (c : Thread nD τ) arg8 _ inb_S1x1024_S1x1024_0_0 _ [] (kvStep q (rows X3 t2.val) (vals X4 (2 * t2.val)) (vals X4 (2 * t2.val + 1)) s).l ?h8) $$ H8
  case h8 =>
    rfl
  sl_close

/-- The inner loop's invariant: before pass `k` the running arrays are those after `k` key blocks. -/
@[instance_reducible] def innerInv (E : Set ℕ) (bd : Option 𝒱.V) (c0 c1 : BitVec 32) (t1 : Fin k0_t1_loop.trips) (q : Vec F S1x1024x256 .bf16) :
    LoopInv (M := 𝕄) frame (wpE (defs₀ (F := F)) 𝒱 (c : Thread nD τ) bd) E
      (k0_t2_loop t1).lb (k0_t2_loop t1).ub (k0_t2_loop t1).st (k0_t2_ok t1) () (k0_t2_body (F := F) i arg2 harg2 arg3 harg3 arg4 harg4 arg5 harg5 arg6 harg6 arg7 harg7 arg8 harg8 c0 c1 t1 q) where
  inv k _ := held c arg3 arg4 arg6 arg7 arg8 X3 X4 (stAt X3 X4 q k)
  step k _ := inner_trip 𝒱 c i arg2 harg2 arg3 harg3 arg4 harg4 arg5 harg5 arg6 harg6 arg7 harg7 arg8 harg8 X3 X4 E bd c0 c1 t1 q k (stAt X3 X4 q k.val)

/-- After the inner loop of query block `t1` they are those after `t1` key blocks. -/
theorem inner_exit (E : Set ℕ) (bd : Option 𝒱.V) (c0 c1 : BitVec 32) (t1 : Fin k0_t1_loop.trips) (q : Vec F S1x1024x256 .bf16) (acc : Unit) :
    (innerInv 𝒱 c i arg2 harg2 arg3 harg3 arg4 harg4 arg5 harg5 arg6 harg6 arg7 harg7 arg8 harg8 X3 X4 E bd c0 c1 t1 q).inv (Scf.trips (k0_t2_loop t1).lb (k0_t2_loop t1).ub (k0_t2_loop t1).st) acc ⊢ held c arg3 arg4 arg6 arg7 arg8 X3 X4 (stAt X3 X4 q t1.val) := by
  rw [show Scf.trips (k0_t2_loop t1).lb (k0_t2_loop t1).ub (k0_t2_loop t1).st = t1.val from t2_trips t1]
  exact .rfl

end

end Cert.KernelIdeal.Attn

end
-- ==== Proof.IdealOuter.lean ====
/-
  One query block of the attention kernel: the running arrays are reset, the key blocks before the diagonal are gone
  through, the block on the diagonal is added under its mask, and the quotient is stored.
-/
module

public import proofs.«01_k».proof.Proof.IdealInner
public import Idealize.ShloMosaic.Lib.Exec
public import Idealize.ShloMosaic.Lib.Tactic
public import Idealize.ShloMosaic.Lib.Pipeline.Kit

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section
variable (𝒱 : Variants) (c : Dev nD) (i : grid0.Coords) (arg2 : Memref sig .tc .vmem S1x8192x256 .bf16) (harg2 : arg2.IsWhole) (arg3 : Memref sig .tc .vmem S1x8192x256 .bf16) (harg3 : arg3.IsWhole) (arg4 : Memref sig .tc .vmem S1x16x128x512 .bf16) (harg4 : arg4.IsWhole) (arg5 : Memref sig .tc .vmem S8192x128 .bf16) (harg5 : arg5.IsWhole) (arg6 : Memref sig .tc .vmem S128x1024 .f32) (harg6 : arg6.IsWhole) (arg7 : Memref sig .tc .vmem S1x1024 .f32) (harg7 : arg7.IsWhole) (arg8 : Memref sig .tc .vmem S1x1024 .f32) (harg8 : arg8.IsWhole) (X2 X3 : Vec F S1x8192x256 .bf16) (X4 : Vec F S1x16x128x512 .bf16)

/-- With the rows before block `k` in place, putting block `k` brings the rows before block `k + 1` in place. -/
theorem put_outAll (Y : Vec F S8192x128 .bf16) (k : ℕ) (h : ∀ y, (y 0).val < 1024 * k → Y y = outAll X2 X3 X4 y) (y : S8192x128.Idx) (hy : (y 0).val < 1024 * (k + 1)) :
    VecWindow.put Y ![1024 * k, 0] S1024x128.size (outBlk X2 X3 X4 k) y = outAll X2 X3 X4 y := by
  unfold VecWindow.put
  by_cases hk : 1024 * k ≤ (y 0).val
  · have hd : (y 0).val / 1024 = k := by omega
    have hm : (y 0).val % 1024 = (y 0).val - 1024 * k := by omega
    have h1 := ValueIdx.idx2_lt1 y
    rw [dif_pos (by intro a; match a with
      | ⟨0, _⟩ => exact ⟨hk, by show (y 0).val < 1024 * k + 1024; omega⟩
      | ⟨1, _⟩ => exact ⟨Nat.zero_le _, by show (y 1).val < 0 + 128; omega⟩)]
    unfold outAll
    rw [hd]
    refine congrArg (outBlk X2 X3 X4 k) (funext fun a => ?_)
    match a with
    | ⟨0, _⟩ => exact Fin.ext hm.symm
    | ⟨1, _⟩ => exact Fin.ext (Nat.sub_zero _)
  · rw [dif_neg (fun hh => hk (hh 0).1)]
    exact h y (by omega)

/-- What one query block finds: the three inputs, the result so far, and scratch at anything. -/
def outerPre (Y : Vec F S8192x128 .bf16) (f6 : BufTy.Contents (Elt F) arg6.view.ty) (f7 : BufTy.Contents (Elt F) arg7.view.ty) (f8 : BufTy.Contents (Elt F) arg8.view.ty) : sProp 𝕄 :=
  iprop((arg2.view.loc (c : Thread nD τ) ↦[arg2.view.set]{fullShare} arg2.view.rep X2) ∗ (arg3.view.loc (c : Thread nD τ) ↦[arg3.view.set]{fullShare} arg3.view.rep X3) ∗ (arg4.view.loc (c : Thread nD τ) ↦[arg4.view.set]{fullShare} arg4.view.rep X4) ∗ (arg5.view.loc (c : Thread nD τ) ↦[arg5.view.set]{fullShare} arg5.view.rep Y) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))

/-- One query block. -/
theorem outer_trip (E : Set ℕ) (bd : Option 𝒱.V) (t1 : Fin k0_t1_loop.trips) (Y : Vec F S8192x128 .bf16)
    (f6 : BufTy.Contents (Elt F) arg6.view.ty) (f7 : BufTy.Contents (Elt F) arg7.view.ty) (f8 : BufTy.Contents (Elt F) arg8.view.ty) :
    outerPre c arg2 arg3 arg4 arg5 arg6 arg7 arg8 X2 X3 X4 Y f6 f7 f8
    ⊢ wp frame (wpE (defs₀ (F := F)) 𝒱 (c : Thread nD τ) bd) E (k0_t1_body (F := F) i arg2 harg2 arg3 harg3 arg4 harg4 arg5 harg5 arg6 harg6 arg7 harg7 arg8 harg8 t1 PUnit.unit)
        (fun _ => outerPre c arg2 arg3 arg4 arg5 arg6 arg7 arg8 X2 X3 X4
          (VecWindow.put Y ![1024 * t1.val, 0] S1024x128.size (outBlk X2 X3 X4 t1.val))
          (arg6.view.rep (fin X2 X3 X4 t1.val).acc) (arg7.view.rep (fin X2 X3 X4 t1.val).m) (arg8.view.rep (fin X2 X3 X4 t1.val).l)) := by
  have e2 : arg2.view.readAt (Elt F) (Rect.unit (s := S1x8192x256) (k0_off1 t1) S1x1024x256.size (k0_off1_inb t1)).toLoadRect (arg2.view.rep X2) = rows X2 t1.val :=
    readAt_blk arg2.view X2 (by decide) _ (off1 t1)
  have e3 : arg3.view.readAt (Elt F) (Rect.unit (s := S1x8192x256) (k0_off1 t1) S1x1024x256.size (k0_off1_inb t1)).toLoadRect (arg3.view.rep X3) = rows X3 t1.val :=
    readAt_blk arg3.view X3 (by decide) _ (off1 t1)
  have e4 : arg4.view.readAt (Elt F) (Rect.unit (s := S1x16x128x512) (k0_off8 t1) S1x1x128x512.size (k0_off8_inb t1)).toLoadRect (arg4.view.rep X4) = vals X4 (2 * t1.val) :=
    readAt_blk arg4.view X4 (by decide) _ (off8 t1)
  have e4' : arg4.view.readAt (Elt F) (Rect.unit (s := S1x16x128x512) (k0_off9 t1) S1x1x128x512.size (k0_off9_inb t1)).toLoadRect (arg4.view.rep X4) = vals X4 (2 * t1.val + 1) :=
    readAt_blk arg4.view X4 (by decide) _ (off9 t1)
  have n3 := t3_trips t1
  unfold outerPre k0_t1_body
  iintro ⟨H2, H3, H4, H5, H6, H7, H8⟩
  sl_exec
  unfold outer_trip.sl.H6_1 outer_trip.sl.H7_1 outer_trip.sl.H8_1
  ihave H6 := (stored (c : Thread nD τ) arg6 _ inb_S128x1024_S128x1024_0_0 _ [] (stAt X3 X4 (rows X2 t1.val) 0).acc ?h6) $$ H6
  case h6 => rfl
  ihave H7 := (stored (c : Thread nD τ) arg7 _ inb_S1x1024_S1x1024_0_0 _ [] (stAt X3 X4 (rows X2 t1.val) 0).m ?h7) $$ H7
  case h7 => rfl
  ihave H8 := (stored (c : Thread nD τ) arg8 _ inb_S1x1024_S1x1024_0_0 _ [] (stAt X3 X4 (rows X2 t1.val) 0).l ?h8) $$ H8
  case h8 => rfl
  iapply (exec_loop _ _ _ _ _ _ _ _ _ (innerInv 𝒱 c i arg2 harg2 arg3 harg3 arg4 harg4 arg5 harg5 arg6 harg6 arg7 harg7 arg8 harg8 X3 X4 E bd 0#32 1#32 t1 (rows X2 t1.val))) $$ [H3 H4 H6 H7 H8]
  · unfold innerInv held
    sl_close
  iintro %acc HI
  ihave HI := (inner_exit 𝒱 c i arg2 harg2 arg3 harg3 arg4 harg4 arg5 harg5 arg6 harg6 arg7 harg7 arg8 harg8 X3 X4 E bd 0#32 1#32 t1 (rows X2 t1.val) acc) $$ HI
  unfold held
  icases HI with ⟨H3, H4, H6, H7, H8⟩
  generalize hs : stAt X3 X4 (rows X2 t1.val) t1.val = s
  have e6 : arg6.view.readAt (Elt F) (Rect.unit (s := S128x1024) ![0, 0] S128x1024.size inb_S128x1024_S128x1024_0_0).toLoadRect (arg6.view.rep s.acc) = s.acc :=
    View.readAt_rep_full (Val := Elt F) (s := S128x1024) (e := .f32) arg6.view s.acc (off := ![0, 0]) inb_S128x1024_S128x1024_0_0
  have e7 : arg7.view.readAt (Elt F) (Rect.unit (s := S1x1024) ![0, 0] S1x1024.size inb_S1x1024_S1x1024_0_0).toLoadRect (arg7.view.rep s.m) = s.m :=
    View.readAt_rep_full (Val := Elt F) (s := S1x1024) (e := .f32) arg7.view s.m (off := ![0, 0]) inb_S1x1024_S1x1024_0_0
  have e8 : arg8.view.readAt (Elt F) (Rect.unit (s := S1x1024) ![0, 0] S1x1024.size inb_S1x1024_S1x1024_0_0).toLoadRect (arg8.view.rep s.l) = s.l :=
    View.readAt_rep_full (Val := Elt F) (s := S1x1024) (e := .f32) arg8.view s.l (off := ![0, 0]) inb_S1x1024_S1x1024_0_0
  sl_exec
  sl_step
  unfold outer_trip.sl.H6_1_1 outer_trip.sl.H8_1_1
  ihave H6 := (stored (c : Thread nD τ) arg6 _ inb_S128x1024_S128x1024_0_0 _ [] (fin X2 X3 X4 t1.val).acc ?h6) $$ H6
  case h6 => subst hs; rfl
  ihave H7 := (stored (c : Thread nD τ) arg7 _ inb_S1x1024_S1x1024_0_0 _ [] (fin X2 X3 X4 t1.val).m ?h7) $$ H7
  case h7 => subst hs; rfl
  ihave H8 := (stored (c : Thread nD τ) arg8 _ inb_S1x1024_S1x1024_0_0 _ [] (fin X2 X3 X4 t1.val).l ?h8) $$ H8
  case h8 => subst hs; rfl
  ihave H5 := (pointsTo_rep_of_read (c : Thread nD τ) arg5 _ fullShare (VecWindow.put Y ![1024 * t1.val, 0] S1024x128.size (outBlk X2 X3 X4 t1.val)) ?h5) $$ H5
  case h5 =>
    rw [View.read_writes_rep_unit arg5.view Y _ _ (off10 t1)]
    congr 1
    unfold outer_trip.sl.v124 outer_trip.sl.v125
    unfold outer_trip.sl.H6_1_1 outer_trip.sl.H8_1_1
    rw [View.readCov_full, View.readCov_full]
    subst hs; rfl
  sl_close

/-- Before query block `k`: the rows of the blocks before it are in place. -/
def outerAt (k : ℕ) : sProp 𝕄 :=
  iprop(∃ Y f6 f7 f8, outerPre c arg2 arg3 arg4 arg5 arg6 arg7 arg8 X2 X3 X4 Y f6 f7 f8 ∗ ⌜∀ y : S8192x128.Idx, (y 0).val < 1024 * k → Y y = outAll X2 X3 X4 y⌝)

/-- The outer loop's invariant: before query block `k` the rows of the blocks before it are in place. -/
@[instance_reducible] def outerInv (E : Set ℕ) (bd : Option 𝒱.V) :
    LoopInv (M := 𝕄) frame (wpE (defs₀ (F := F)) 𝒱 (c : Thread nD τ) bd) E
      k0_t1_loop.lb k0_t1_loop.ub k0_t1_loop.st k0_t1_ok () (k0_t1_body (F := F) i arg2 harg2 arg3 harg3 arg4 harg4 arg5 harg5 arg6 harg6 arg7 harg7 arg8 harg8) where
  inv k _ := outerAt c arg2 arg3 arg4 arg5 arg6 arg7 arg8 X2 X3 X4 k
  step k _ := by
    unfold outerAt
    iintro ⟨%Y, %f6, %f7, %f8, H, %hY⟩
    iapply (wp_wand_r frame (wpE (defs₀ (F := F)) 𝒱 (c : Thread nD τ) bd) E)
    isplitl [H]
    · iapply (outer_trip 𝒱 c i arg2 harg2 arg3 harg3 arg4 harg4 arg5 harg5 arg6 harg6 arg7 harg7 arg8 harg8 X2 X3 X4 E bd k Y f6 f7 f8) $$ H
    iintro %v H
    iexists _, _, _, _
    isplitl [H]
    · iexact H
    ipureintro
    exact put_outAll X2 X3 X4 Y k.val hY

/-- The body of a grid point: from any result buffer and any scratch to the whole result. -/
theorem body_triple (E : Set ℕ) (bd : Option 𝒱.V) (Y : Vec F S8192x128 .bf16)
    (f6 : BufTy.Contents (Elt F) arg6.view.ty) (f7 : BufTy.Contents (Elt F) arg7.view.ty) (f8 : BufTy.Contents (Elt F) arg8.view.ty) :
    outerPre c arg2 arg3 arg4 arg5 arg6 arg7 arg8 X2 X3 X4 Y f6 f7 f8
    ⊢ wp frame (wpE (defs₀ (F := F)) 𝒱 (c : Thread nD τ) bd) E (cc0_mla_attention (F := F) i arg2 harg2 arg3 harg3 arg4 harg4 arg5 harg5 arg6 harg6 arg7 harg7 arg8 harg8)
        (fun _ => iprop(∃ g6 g7 g8, outerPre c arg2 arg3 arg4 arg5 arg6 arg7 arg8 X2 X3 X4 (outAll X2 X3 X4) g6 g7 g8)) := by
  rw [cc0_mla_attention_eq_skeleton]
  unfold cc0_mla_attention_skel
  iintro H
  iapply (exec_loop _ _ _ _ _ _ _ _ _ (outerInv 𝒱 c i arg2 harg2 arg3 harg3 arg4 harg4 arg5 harg5 arg6 harg6 arg7 harg7 arg8 harg8 X2 X3 X4 E bd)) $$ [H]
  · iapply (show outerAt c arg2 arg3 arg4 arg5 arg6 arg7 arg8 X2 X3 X4 0 ⊢ (outerInv 𝒱 c i arg2 harg2 arg3 harg3 arg4 harg4 arg5 harg5 arg6 harg6 arg7 harg7 arg8 harg8 X2 X3 X4 E bd).inv 0 () from .rfl)
    unfold outerAt
    iexists Y, f6, f7, f8
    isplitl [H]
    · iexact H
    ipureintro
    intro y hy; exact absurd hy (by omega)
  iintro %acc HI
  ihave HI := (show (outerInv 𝒱 c i arg2 harg2 arg3 harg3 arg4 harg4 arg5 harg5 arg6 harg6 arg7 harg7 arg8 harg8 X2 X3 X4 E bd).inv (Scf.trips k0_t1_loop.lb k0_t1_loop.ub k0_t1_loop.st) acc ⊢ outerAt c arg2 arg3 arg4 arg5 arg6 arg7 arg8 X2 X3 X4 (Scf.trips k0_t1_loop.lb k0_t1_loop.ub k0_t1_loop.st) from .rfl) $$ HI
  unfold outerAt
  icases HI with ⟨%Z, %g6, %g7, %g8, H, %hZ⟩
  have hZ' : Z = outAll X2 X3 X4 := funext fun y => hZ y (by
    rw [show Scf.trips k0_t1_loop.lb k0_t1_loop.ub k0_t1_loop.st = 8 from t1_trips]
    have := ValueIdx.idx2_lt0 y; omega)
  subst hZ'
  sl_step
  iexists g6, g7, g8
  iexact H

end

end Cert.KernelIdeal.Attn

end
-- ==== Proof.IdealFrame.lean ====
/-
  The attention kernel run on the whole grid: at each grid point the result block is `outAll` of the point's blocks of
  the queries, the keys and the values; the run leaves the arguments as they were and every counter at zero.
-/
module

public import proofs.«01_k».proof.Proof.IdealOuter
public import proofs.«01_k».proof.Proof.Gen.KernelIdeal.Frame
public import Idealize.ShloMosaic.Lib.Pipeline.TableIdle
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The three scratch buffers as the body holds them. -/
theorem scratch_whole (c : Dev nD) (b : Ref sig .tc) (f : Buf (Elt F) ((c : Thread nD τ).loc b)) :
    (((c : Thread nD τ).loc b ↦{fullShare} f) : sProp 𝕄) = ((Memref.whole b).view.loc (c : Thread nD τ) ↦[(Memref.whole b).view.set]{fullShare} f) := by
  show _ = ((c : Thread nD τ).loc b ↦[(View.whole b).set]{fullShare} f)
  rw [View.set_whole]

variable (m : (ℓ : Loc nD τ sig) → Buf (Elt F) ℓ) (ρ : Dev nD → PrngReg)

/-- What the pipeline's windows hold: the inputs their blocks, the result `outAll` of them. -/
def dats (p : Fin 1) (c : Dev nD) : Dat τ (Elt F) Unit ℕ (UR sig nD τ) ℕ (cfgs p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAll (F := F) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAll (F := F) (iblk m c 0 t) (iblk m c 1 t) (iblk m c 2 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.castSucc = Pipeline.ΦA spec0 c from rfl,
    show (dats m 0 c).Φ t.succ = Pipeline.ΦA spec0 c from rfl,
    show (dats m 0 c).owesAt () t.succ = (dats m 0 c).owesAt () t.castSucc from rfl,
    after0_0, after0_1, after0_2, after0_3]
  unfold Pipeline.ΦA
  rw [scopedRest0_eq]
  simp only [scratch_whole]
  iintro ⟨⟨⟨⟨%f6, H6⟩, ⟨%f7, H7⟩, ⟨%f8, H8⟩⟩, Hr⟩, Ho, ⟨%d0, H2⟩, ⟨%d1, H3⟩, ⟨%d2, H4⟩, ⟨%d3, H5⟩⟩
  ihave H2 := (rep_of_owns (c : Thread nD τ) (st0_0 t) fullShare (iblk m c 0 t)) $$ H2
  ihave H3 := (rep_of_owns (c : Thread nD τ) (st0_1 t) fullShare (iblk m c 1 t)) $$ H3
  ihave H4 := (rep_of_owns (c : Thread nD τ) (st0_2 t) fullShare (iblk m c 2 t)) $$ H4
  ihave H5 := (rep_of_owns (c : Thread nD τ) (st0_3 t) fullShare _) $$ H5
  iapply (wp_wand_r frame (wpE (defs₀ (F := F)) Variants.none (c : Thread nD τ) none) Set.univ)
  isplitl [H2 H3 H4 H5 H6 H7 H8]
  · iapply (body_triple (F := F) Variants.none c (grid0.coords t) _ _ _ _ _ _ _ _ _ _ _ _ _ _ (iblk m c 0 t) (iblk m c 1 t) (iblk m c 2 t) Set.univ none ((dats m 0 c).before 3 t d3) f6 f7 f8)
    unfold outerPre
    isplitl [H2]; · iexact H2
    isplitl [H3]; · iexact H3
    isplitl [H4]; · iexact H4
    isplitl [H5]; · iexact H5
    isplitl [H6]; · iexact H6
    isplitl [H7]; · iexact H7
    iexact H8
  iintro %v ⟨%g6, %g7, %g8, H⟩
  unfold outerPre
  icases H with ⟨H2, H3, H4, H5, H6, H7, H8⟩
  isplitl [Hr H6 H7 H8]
  · isplitl [H6 H7 H8]
    · isplitl [H6]; · iexists _; iexact H6
      isplitl [H7]; · iexists _; iexact H7
      iexists _; iexact H8
    iexact Hr
  isplitl [Ho]; · iexact Ho
  isplitl [H2]; · iapply (owns_of_rep (c : Thread nD τ) (st0_0 t) fullShare (iblk m c 0 t)) $$ H2
  isplitl [H3]; · iapply (owns_of_rep (c : Thread nD τ) (st0_1 t) fullShare (iblk m c 1 t)) $$ H3
  isplitl [H4]; · iapply (owns_of_rep (c : Thread nD τ) (st0_2 t) fullShare (iblk m c 2 t)) $$ H4
  iapply (owns_of_rep (c : Thread nD τ) (st0_3 t) fullShare _) $$ H5

/-- The body table's row at point `t`. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every run ends with each window's array at what the blocks give, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run: it ends, the arguments as they were and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.KernelIdeal.Attn

end
-- ==== Proof.BitsOffsets.lean ====
/-
  The attention kernel's loop counts and load offsets, in closed form: query block `t1` is met by the key blocks before
  it, then by the one on the diagonal.
-/
module

public import proofs.«01_k».proof.Proof.Gen.Kernel.Skeleton

@[expose] public section

set_option maxRecDepth 16384

namespace Cert.Kernel.Attn

open Cert.Kernel Cert.Kernel.Gen
open Idealize.ShloMosaic

theorem t1_trips : k0_t1_loop.trips = 8 := by decide +kernel
theorem t2_trips : ∀ t1 : Fin k0_t1_loop.trips, (k0_t2_loop t1).trips = t1.val := by decide +kernel
theorem t3_trips : ∀ t1 : Fin k0_t1_loop.trips, (k0_t3_loop t1).trips = 0 := by decide +kernel
theorem off1 : ∀ t1 : Fin k0_t1_loop.trips, k0_off1 t1 = ![0, 1024 * t1.val, 0] := by decide +kernel
theorem off2 : ∀ (t1 : Fin k0_t1_loop.trips) (t2 : Fin (k0_t2_loop t1).trips), k0_off2 t1 t2 = ![0, 1024 * t2.val, 0] := by decide +kernel
theorem off3 : ∀ (t1 : Fin k0_t1_loop.trips) (t2 : Fin (k0_t2_loop t1).trips), k0_off3 t1 t2 = ![0, 2 * t2.val, 0, 0] := by decide +kernel
theorem off4 : ∀ (t1 : Fin k0_t1_loop.trips) (t2 : Fin (k0_t2_loop t1).trips), k0_off4 t1 t2 = ![0, 2 * t2.val + 1, 0, 0] := by decide +kernel
theorem off8 : ∀ t1 : Fin k0_t1_loop.trips, k0_off8 t1 = ![0, 2 * t1.val, 0, 0] := by decide +kernel
theorem off9 : ∀ t1 : Fin k0_t1_loop.trips, k0_off9 t1 = ![0, 2 * t1.val + 1, 0, 0] := by decide +kernel
theorem off10 : ∀ t1 : Fin k0_t1_loop.trips, k0_off10 t1 = ![1024 * t1.val, 0] := by decide +kernel

end Cert.Kernel.Attn
-- ==== Proof.Frames.lean ====
/-
  The frames of the three programs: each run ends, leaves the arguments as they were and every counter at zero; and the
  one rewrite of the ideal program, the mask's constant read as −∞.
-/
module

public import proofs.«01_k».proof.Defs
public import proofs.«01_k».proof.Proof.Gen.ReferenceIdeal.Run
public import proofs.«01_k».proof.Proof.IdealFrame
public import proofs.«01_k».proof.Proof.BitsFrame

@[expose] public section

noncomputable section

namespace Cert.Proof

open Idealize.ShloMosaic Idealize.ShloMosaic.TcCoe Idealize.SL.Sem

/-- The kernel at the words of the machine. -/
theorem frame_kernel : Cert.quiescent_Kernel (hKernel := Cert.Kernel.Gen.facts) :=
  fun m ρ _ => Cert.Kernel.Attn.run_frame (F := Bits) m ρ

/-- The kernel over the extended reals. -/
theorem frame_ideal : Cert.quiescent_KernelIdeal (hKernelIdeal := Cert.KernelIdeal.Gen.facts) :=
  fun m ρ _ => Cert.KernelIdeal.Attn.run_frame (F := Ideal) m ρ

/-- The reference over the extended reals: operations of the host only, without any counter. -/
theorem frame_reference : Cert.quiescent_ReferenceIdeal (hReferenceIdeal := Cert.ReferenceIdeal.Gen.facts) :=
  fun m ρ _ => (θ_run Cert.ReferenceIdeal.defs _ _).mono (fun r h => ⟨fun c => (h c).2,
      sem_eq_zero_of_no_sems (by decide) r.2⟩) (Cert.ReferenceIdeal.Value.run (F := Ideal) m ρ)

/-- The constant that masks a score is named −∞. -/
theorem mask_named : Cert.preserves_Kernel_KernelIdeal :=
  IdealRules.named_const.statement Cert.KernelIdeal.κ "mask" .f32 0xF149F2CA#32 ⊥ rfl

end Cert.Proof

end
-- ==== Proof.Finite.lean ====
/-
  The precondition: queries and keys that are real numbers. What the program that states it says, element by element.
-/
module

public import proofs.«01_k».proof.Pre_finite
public import Idealize.ShloMosaic.Lib.ReduceAll
public import Idealize.ShloMosaic.PureOps.Ideal.Laws

@[expose] public section

noncomputable section

namespace Cert.Pre_finite

open Idealize.ShloMosaic

/-- What the predicate's operations ask of their shapes. -/
theorem shapes : Facts where
  bitsLt_bf16_f32 := by decide
  bcast_S_S16x16384x256 := by decide
  reducesTo_S16x16384x256_S_d0_1_2 := by decide
  h_S_ := by decide

/-- An extended real whose absolute value is below +∞ is a real number. -/
theorem real_of_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- Under the precondition each element of the queries and of the keys is a real number. -/
theorem reals (hf : Facts) (Q K : FVec Ideal S16x16384x256 .bf16) (V : FVec Ideal S16x32x128x512 .bf16)
    (h : fn (F := Ideal) Q K V = fun _ => 1#1) :
    (∀ i, ∃ r : ℝ, Q i = (r : EReal)) ∧ ∀ i, ∃ r : ℝ, K i = (r : EReal) := by
  have : Subsingleton S_.Idx := ⟨fun a b => funext fun k => k.elim0⟩
  obtain ⟨hq, hk⟩ := IntOp.andi_eq_one.1 (congrFun h (fun k => k.elim0))
  exact ⟨fun i => real_of_lt _ (Host.reduce_andi_all _ _ _ _ _ hq i), fun i => real_of_lt _ (Host.reduce_andi_all _ _ _ _ _ hk i)⟩

end Cert.Pre_finite

end
-- ==== Proof.Softmax.lean ====
/-
  The running softmax over the extended reals, for one query and one channel of the values: what the running maximum,
  sum and accumulator are after any number of keys, and the quotient that both the kernel and the reference end with.
  A score is a real number or −∞ (a masked one); the values are any extended reals.
-/
module

public import Idealize.ShloMosaic.PureOps.Ideal

@[expose] public section

noncomputable section

namespace Cert.Softmax

open Idealize.ShloMosaic

/-- The weight of a score: two to its power, zero for −∞. -/
def wt (s : EReal) : ℝ := if s = ⊥ then 0 else (2 : ℝ) ^ s.toReal

theorem wt_bot : wt ⊥ = 0 := by simp [wt]
theorem wt_coe (r : ℝ) : wt (r : EReal) = (2 : ℝ) ^ r := by simp [wt]
theorem wt_nonneg (s : EReal) : 0 ≤ wt s := by unfold wt; split_ifs <;> positivity

/-- A score that is a real number or −∞. -/
def Score (s : EReal) : Prop := s = ⊥ ∨ ∃ r : ℝ, s = (r : EReal)

/-- Two to the power of a score less a real number. -/
theorem exp2_sub {s : EReal} (hs : Score s) (μ : ℝ) :
    Ideal.exp2 (s - (μ : EReal)) = ((wt s * (2 : ℝ) ^ (-μ) : ℝ) : EReal) := by
  rcases hs with rfl | ⟨r, rfl⟩
  · simp [wt_bot, sub_eq_add_neg]
  · rw [wt_coe, ← EReal.coe_sub, Ideal.exp2_coe, ← Real.rpow_add (by norm_num)]
    rfl

/-- `e` to the power of a score times ln 2, less a real number. -/
theorem exp_sub {s : EReal} (hs : Score s) (μ : ℝ) :
    Ideal.exp ((if s = ⊥ then ⊥ else s * (Real.log 2 : ℝ)) - (μ : EReal)) = ((wt s * Real.exp (-μ) : ℝ) : EReal) := by
  rcases hs with rfl | ⟨r, rfl⟩
  · simp [wt_bot, sub_eq_add_neg]
  · rw [if_neg (EReal.coe_ne_bot r), wt_coe, ← EReal.coe_mul, ← EReal.coe_sub, Ideal.exp_coe,
      Real.rpow_def_of_pos (by norm_num), ← Real.exp_add]
    congr 2; ring

/-- The maximum of a family of scores of which one is a real number, is a real number. -/
theorem fold_real {n : ℕ} (s : Fin n → EReal) (hs : ∀ k, Score (s k)) (h : ∃ k, s k ≠ ⊥) :
    ∃ r : ℝ, Finset.univ.fold max ⊥ s = (r : EReal) := by
  have ht : Finset.univ.fold max ⊥ s ≠ ⊤ := ne_of_lt ((Finset.fold_max_lt _).2 ⟨bot_lt_top, fun k _ => by
    rcases hs k with e | ⟨r, e⟩ <;> rw [e]
    · exact bot_lt_top
    · exact EReal.coe_lt_top r⟩)
  have hb : Finset.univ.fold max ⊥ s ≠ ⊥ := ne_of_gt ((Finset.lt_fold_max _).2 (.inr (by
    obtain ⟨k, hk⟩ := h
    exact ⟨k, Finset.mem_univ k, bot_lt_iff_ne_bot.2 hk⟩)))
  exact ⟨_, (EReal.coe_toReal ht hb).symm⟩

/-- A sum of real numbers. -/
theorem sum_coe {ι : Type*} (t : Finset ι) (f : ι → ℝ) : (∑ k ∈ t, (f k : EReal)) = ((∑ k ∈ t, f k : ℝ) : EReal) := by
  classical
  induction t using Finset.induction_on with
  | empty => simp
  | insert a t ha ih => rw [Finset.sum_insert ha, Finset.sum_insert ha, ih, EReal.coe_add]

/-- A factor of a sum, at least zero and real, may be taken out. -/
theorem sum_mul_real {ι : Type*} (t : Finset ι) (f : ι → EReal) {c : ℝ} (hc : 0 ≤ c) :
    (∑ k ∈ t, f k * (c : EReal)) = (∑ k ∈ t, f k) * (c : EReal) := by
  classical
  induction t using Finset.induction_on with
  | empty => simp
  | insert a t ha ih =>
    rw [Finset.sum_insert ha, Finset.sum_insert ha, ih,
      EReal.right_distrib_of_nonneg_of_ne_top (by exact_mod_cast hc) (EReal.coe_ne_top c)]

/-- What the running arrays hold of one query and one channel: `A` is the sum of the weights so far, `B` the sum of the
    weights times the values. Before the first key all is zero and the maximum −∞; after it the maximum is a real number
    `μ`, and the sums are scaled by `2 ^ (-μ)`. -/
def Holds (m l acc : EReal) (A : ℝ) (B : EReal) : Prop :=
  (m = ⊥ ∧ l = 0 ∧ acc = 0 ∧ A = 0 ∧ B = 0)
    ∨ ∃ μ : ℝ, m = (μ : EReal) ∧ l = ((A * (2 : ℝ) ^ (-μ) : ℝ) : EReal) ∧ acc = B * (((2 : ℝ) ^ (-μ) : ℝ) : EReal)

/-- One block of keys: the new maximum, the sum and the accumulator rescaled to it. -/
theorem Holds.step {m l acc : EReal} {A : ℝ} {B : EReal} (h : Holds m l acc A B) {n : ℕ} (s v : Fin n → EReal)
    (hs : ∀ k, Score (s k)) (hr : ∃ k, s k ≠ ⊥) :
    Holds (max m (Finset.univ.fold max ⊥ s))
      (Ideal.exp2 (m - max m (Finset.univ.fold max ⊥ s)) * l
        + ∑ k, Ideal.exp2 (s k - max m (Finset.univ.fold max ⊥ s)))
      (Ideal.exp2 (m - max m (Finset.univ.fold max ⊥ s)) * acc
        + ∑ k, v k * Ideal.exp2 (s k - max m (Finset.univ.fold max ⊥ s)))
      (A + ∑ k, wt (s k)) (B + ∑ k, v k * (wt (s k) : EReal)) := by
  obtain ⟨M, hM⟩ := fold_real s hs hr
  rw [hM]
  have hp (ν : ℝ) : (0 : ℝ) ≤ (2 : ℝ) ^ ν := by positivity
  have key (ν : ℝ) : (∑ k, v k * Ideal.exp2 (s k - (ν : EReal)))
      = (∑ k, v k * (wt (s k) : EReal)) * (((2 : ℝ) ^ (-ν) : ℝ) : EReal) := by
    rw [← sum_mul_real _ _ (hp _)]
    refine Finset.sum_congr rfl fun k _ => ?_
    rw [exp2_sub (hs k), EReal.coe_mul, mul_assoc]
  have key1 (ν : ℝ) : (∑ k, Ideal.exp2 (s k - (ν : EReal))) = (((∑ k, wt (s k)) * (2 : ℝ) ^ (-ν) : ℝ) : EReal) := by
    rw [Finset.sum_mul, ← sum_coe]
    exact Finset.sum_congr rfl fun k _ => exp2_sub (hs k) ν
  rcases h with ⟨rfl, rfl, rfl, rfl, rfl⟩ | ⟨μ, rfl, rfl, rfl⟩
  · rw [max_eq_right bot_le]
    refine .inr ⟨M, rfl, ?_, ?_⟩
    · rw [key1, mul_zero, zero_add, zero_add]
    · rw [key, mul_zero, zero_add, zero_add]
  · have hmax : max (μ : EReal) (M : EReal) = ((max μ M : ℝ) : EReal) :=
      (EReal.coe_strictMono.monotone.map_max).symm
    rw [hmax]
    set ν := max μ M
    have hα : Ideal.exp2 ((μ : EReal) - (ν : EReal)) = (((2 : ℝ) ^ μ * (2 : ℝ) ^ (-ν) : ℝ) : EReal) := by
      rw [exp2_sub (.inr ⟨μ, rfl⟩), wt_coe]
    have hc : (2 : ℝ) ^ (-μ) * ((2 : ℝ) ^ μ * (2 : ℝ) ^ (-ν)) = (2 : ℝ) ^ (-ν) := by
      rw [← mul_assoc, ← Real.rpow_add (by norm_num)]; simp
    refine .inr ⟨ν, rfl, ?_, ?_⟩
    · rw [hα, key1, ← EReal.coe_mul, ← EReal.coe_add]
      congr 1
      rw [add_mul]; congr 1
      rw [← mul_assoc, mul_comm _ A, mul_assoc, mul_comm _ ((2 : ℝ) ^ (-μ)), hc]
    · rw [hα, key, EReal.right_distrib_of_nonneg_of_ne_top (by exact_mod_cast hp _) (EReal.coe_ne_top _), mul_comm _ (B * _),
        mul_assoc, ← EReal.coe_mul, hc]

/-- The end of the running softmax: the accumulator divided by the sum. -/
theorem Holds.quotient {m l acc : EReal} {A : ℝ} {B : EReal} (h : Holds m l acc A B) (hA : 0 < A) :
    acc * Ideal.div 1 l = B * ((A⁻¹ : ℝ) : EReal) := by
  rcases h with ⟨_, _, _, rfl, _⟩ | ⟨μ, _, rfl, rfl⟩
  · exact absurd hA (lt_irrefl _)
  · have hp : (0 : ℝ) < (2 : ℝ) ^ (-μ) := by positivity
    rw [Ideal.div_coe (mul_pos hA hp).ne', one_mul, mul_assoc, ← EReal.coe_mul]
    congr 2
    field_simp

/-- The softmax written out: each weight divided by the sum of all, times the value. -/
theorem softmax_row {n : ℕ} (s v : Fin n → EReal) (hs : ∀ k, Score (s k)) (hr : ∃ k, s k ≠ ⊥) (μ : ℝ) :
    (∑ k, v k * Ideal.div (Ideal.exp ((if s k = ⊥ then ⊥ else s k * (Real.log 2 : ℝ)) - (μ : EReal)))
        (∑ j, Ideal.exp ((if s j = ⊥ then ⊥ else s j * (Real.log 2 : ℝ)) - (μ : EReal))))
      = (∑ k, v k * (wt (s k) : EReal)) * (((∑ k, wt (s k))⁻¹ : ℝ) : EReal) := by
  have hA : 0 < ∑ k, wt (s k) := by
    obtain ⟨k, hk⟩ := hr
    refine Finset.sum_pos' (fun k _ => wt_nonneg _) ⟨k, Finset.mem_univ k, ?_⟩
    rcases hs k with e | ⟨r, e⟩
    · exact absurd e hk
    · rw [e, wt_coe]; positivity
  have hsum : (∑ j, Ideal.exp ((if s j = ⊥ then ⊥ else s j * (Real.log 2 : ℝ)) - (μ : EReal)))
      = (((∑ k, wt (s k)) * Real.exp (-μ) : ℝ) : EReal) := by
    rw [Finset.sum_mul, ← sum_coe]
    exact Finset.sum_congr rfl fun k _ => exp_sub (hs k) μ
  rw [hsum, ← sum_mul_real _ _ (inv_nonneg.2 hA.le)]
  refine Finset.sum_congr rfl fun k _ => ?_
  have he := Real.exp_pos (-μ)
  rw [exp_sub (hs k), Ideal.div_coe (mul_pos hA he).ne', mul_assoc, ← EReal.coe_mul, ← EReal.coe_mul]
  congr 2
  field_simp

end Cert.Softmax

end
-- ==== Proof.Mask.lean ====
/-
  The mask, in words: the floor division of a position by the chunk length 64 as both programs write it, and the
  comparison of two chunks.
-/
module

public import proofs.«01_k».proof.Proof.IdealState
public import Idealize.ShloMosaic.Lib.Pointwise

@[expose] public section

set_option maxRecDepth 16384

noncomputable section

namespace Cert.Mask

open Idealize.ShloMosaic

/-- A bit that is set or not by a proposition. -/
def bit (p : Prop) [Decidable p] : BitVec 1 := if p then 1#1 else 0#1

theorem select_bit {α : Type} (p : Prop) [Decidable p] (a b : α) : Scalar.select (bit p) a b = if p then a else b := by
  unfold bit; split_ifs <;> rfl

/-- Two chunk numbers compared as signed words. -/
theorem sle_chunks : ∀ a b : Fin 128, IntOp.cmpi .sle (BitVec.ofNat 32 a.val) (BitVec.ofNat 32 b.val) = bit (a.val ≤ b.val) := by
  decide +kernel

/-- The kernel's floor division by 64 of a position of the block. -/
theorem floor_block : ∀ n : Fin 1024,
    Scalar.select
        (IntOp.andi
          (IntOp.cmpi CmpIPredicate.ne
            (IntOp.subi (BitVec.setWidth 32 (IntOp.cmpi CmpIPredicate.sgt (BitVec.ofNat 32 n.val) 0#32))
              (BitVec.setWidth 32 (IntOp.cmpi CmpIPredicate.slt (BitVec.ofNat 32 n.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 n.val) 64#32) 0#32))
        (IntOp.subi (IntOp.divsi ArithUnit.vector (BitVec.ofNat 32 n.val) 64#32) 1#32)
        (IntOp.divsi ArithUnit.vector (BitVec.ofNat 32 n.val) 64#32)
      = BitVec.ofNat 32 (n.val / 64) := by
  decide +kernel

open Cert.KernelIdeal Cert.KernelIdeal.Gen Cert.KernelIdeal.Attn in
/-- On the diagonal block a query sees the keys of its own chunk and of those before. -/
theorem diagMask_at (k q : Fin 1024) : diagMask (ix2 k q) = bit (k.val / 64 ≤ q.val / 64) := by
  pointwise [diagMask, k0_pay31, k0_pay32]
  rw [floor_block k, floor_block q]
  exact sle_chunks ⟨k.val / 64, by omega⟩ ⟨q.val / 64, by omega⟩

end Cert.Mask

end
-- ==== Proof.IdealRow.lean ====
/-
  The attention kernel over the extended reals, read for one query and one channel of the values: each key block is one
  step of the running softmax, and the result is the sum of weights times values divided by the sum of weights.
-/
module

public import proofs.«01_k».proof.Proof.Softmax
public import proofs.«01_k».proof.Proof.Mask

@[expose] public section

set_option maxRecDepth 16384

noncomputable section

namespace Cert.KernelIdeal.Attn

open Cert.KernelIdeal Cert.KernelIdeal.Gen
open Idealize.ShloMosaic
open Cert.Softmax Cert.Mask

theorem mask_bot : (Named.named κ "mask" 0xF149F2CA#32 : Ideal .f32) = (⊥ : EReal) :=
  IdealRules.named_const.ideal_named_scalar _ _ _ _ rfl

theorem neg_inf : Ideal.ofBits .f32 0xFF800000#32 = ⊥ := by simp [Ideal.ofBits, Ideal.ieee]

/-! ## One block -/

/-- The score of a key of the block for a query of the block. -/
def sc (q kb : Vec Ideal S1x1024x256 .bf16) (r k : Fin 1024) : EReal := ∑ d : Fin 256, kb (ix3 0 k d) * q (ix3 0 r d)

/-- The value of a key of the block, which the two halves of it hold. -/
def vv (va vb : Vec Ideal S1x1x128x512 .bf16) (d : Fin 128) (k : Fin 1024) : EReal :=
  if k.val < 512 then va (ix4 0 0 d ⟨k.val % 512, Nat.mod_lt _ (by decide)⟩)
  else vb (ix4 0 0 d ⟨k.val % 512, Nat.mod_lt _ (by decide)⟩)

/-- The products with the two halves of the values, together. -/
theorem halves (va vb : Vec Ideal S1x1x128x512 .bf16) (d : Fin 128) (p : Fin 1024 → EReal) :
    (∑ x : Fin 512, va (ix4 0 0 d x) * p ⟨x.val, by omega⟩) + (∑ x : Fin 512, vb (ix4 0 0 d x) * p ⟨512 + x.val, by omega⟩)
      = ∑ k, vv va vb d k * p k := by
  rw [Fin.sum_univ_two_halves 512 512 rfl fun k => vv va vb d k * p k]
  refine congrArg₂ (· + ·) (Finset.sum_congr rfl fun x _ => ?_) (Finset.sum_congr rfl fun x _ => ?_)
  · have h1 : (x.val % 512) = x.val := Nat.mod_eq_of_lt x.isLt
    simp [vv, h1]
  · have h1 : (512 + x.val) % 512 = x.val := by omega
    simp [vv, h1]

/-- A running softmax step of one query and channel: what a block with scores `s` and values `v` makes of `m`, `l`, `acc`. -/
def Steps (s v : Fin 1024 → EReal) (m l acc m' l' acc' : EReal) : Prop :=
  m' = max m (Finset.univ.fold max ⊥ s)
    ∧ l' = Ideal.exp2 (m - max m (Finset.univ.fold max ⊥ s)) * l
        + ∑ k, Ideal.exp2 (s k - max m (Finset.univ.fold max ⊥ s))
    ∧ acc' = Ideal.exp2 (m - max m (Finset.univ.fold max ⊥ s)) * acc
        + ∑ k, v k * Ideal.exp2 (s k - max m (Finset.univ.fold max ⊥ s))

/-- A block before the diagonal: every key is seen. -/
theorem kv_steps (q kb : Vec Ideal S1x1024x256 .bf16) (va vb : Vec Ideal S1x1x128x512 .bf16) (s : St Ideal) (r : Fin 1024)
    (d : Fin 128) :
    Steps (sc q kb r) (vv va vb d) (s.m (ix2 0 r)) (s.l (ix2 0 r)) (s.acc (ix2 d r))
      ((kvStep q kb va vb s).m (ix2 0 r)) ((kvStep q kb va vb s).l (ix2 0 r)) ((kvStep q kb va vb s).acc (ix2 d r)) := by
  refine ⟨?_, ?_, ?_⟩
  · pointwise [kvStep, k0_pay27, k0_pay5, k0_pay4, k0_pay22]
    rw [neg_inf]; rfl
  · pointwise [kvStep, k0_pay8, k0_pay7, k0_pay6, k0_pay5, k0_pay4, k0_pay22]
    rw [neg_inf]; rfl
  · rw [← halves]
    pointwise [kvStep, k0_pay26, k0_pay10, k0_pay11, k0_pay12, k0_pay9, k0_pay7, k0_pay6, k0_pay5, k0_pay4, k0_pay22]
    rw [neg_inf]; rfl

/-- The block on the diagonal: the keys of later chunks are masked. -/
theorem diag_steps (q kb : Vec Ideal S1x1024x256 .bf16) (va vb : Vec Ideal S1x1x128x512 .bf16) (s : St Ideal) (r : Fin 1024)
    (d : Fin 128) :
    Steps (fun k => if k.val / 64 ≤ r.val / 64 then sc q kb r k else ⊥) (vv va vb d)
      (s.m (ix2 0 r)) (s.l (ix2 0 r)) (s.acc (ix2 d r))
      ((diagStep q kb va vb s).m (ix2 0 r)) ((diagStep q kb va vb s).l (ix2 0 r)) ((diagStep q kb va vb s).acc (ix2 d r)) := by
  have hd (k : Fin 1024) (a : EReal) : Scalar.select (diagMask (ix2 k r)) a (Named.named κ "mask" 0xF149F2CA#32 : Ideal .f32)
      = if k.val / 64 ≤ r.val / 64 then a else ⊥ := by
    rw [diagMask_at, select_bit, mask_bot]
  refine ⟨?_, ?_, ?_⟩
  · pointwise [diagStep, k0_pay2, k0_pay34, k0_pay33, k0_pay30, k0_pay22]
    simp only [hd, neg_inf]; rfl
  · pointwise [diagStep, k0_pay37, k0_pay35, k0_pay36, k0_pay34, k0_pay33, k0_pay30, k0_pay22]
    simp only [hd, neg_inf]; rfl
  · rw [← halves]
    pointwise [diagStep, k0_pay1, k0_pay38, k0_pay39, k0_pay35, k0_pay36, k0_pay34, k0_pay33, k0_pay30, k0_pay22]
    simp only [hd, neg_inf]; rfl

/-- The running arrays before the first block. -/
theorem st0_at (r : Fin 1024) (d : Fin 128) : Holds ((st0 (F := Ideal)).m (ix2 0 r)) ((st0 (F := Ideal)).l (ix2 0 r))
    ((st0 (F := Ideal)).acc (ix2 d r)) 0 0 := by
  refine .inl ⟨?_, ?_, ?_, rfl, rfl⟩
  · pointwise [st0, k0_pay23]
    exact mask_bot
  · pointwise [st0, k0_pay24]
  · pointwise [st0, k0_pay25]

/-- What the last block leaves, divided. -/
theorem out_at (s : St Ideal) (r : Fin 1024) (d : Fin 128) :
    @Eq EReal (k0_pay3 (F := Ideal) s.acc s.l (ix2 r d)) (s.acc (ix2 d r) * Ideal.div 1 (s.l (ix2 0 r))) := by
  pointwise [k0_pay3]

end Cert.KernelIdeal.Attn

end
-- ==== Proof.IdealPoint.lean ====
/-
  One grid point of the attention kernel (one head of one sequence) over the extended reals: each result element is the
  softmax attention of its query over all 8192 keys, the keys of later chunks having weight zero.
-/
module

public import proofs.«01_k».proof.Proof.IdealRow

@[expose] public section

set_option maxRecDepth 16384

noncomputable section

namespace Cert.KernelIdeal.Attn

open Cert.KernelIdeal Cert.KernelIdeal.Gen
open Idealize.ShloMosaic
open Cert.Softmax Cert.Mask

variable (X2 X3 : Vec Ideal S1x8192x256 .bf16) (X4 : Vec Ideal S1x16x128x512 .bf16)

/-- The score of key `k` for query `q`; positions past the end wrap round. -/
def score (q k : ℕ) : EReal :=
  ∑ d : Fin 256, X3 (ix3 0 ⟨k % 8192, Nat.mod_lt _ (by decide)⟩ d) * X2 (ix3 0 ⟨q % 8192, Nat.mod_lt _ (by decide)⟩ d)

/-- The score as the mask leaves it: −∞ for a key of a later chunk. -/
def seen (q k : ℕ) : EReal := if k / 64 ≤ q / 64 then score X2 X3 q k else ⊥

/-- Channel `d` of the value of key `k`. -/
def valAt (d : Fin 128) (k : ℕ) : EReal :=
  X4 (ix4 0 ⟨k / 512 % 16, Nat.mod_lt _ (by decide)⟩ d ⟨k % 512, Nat.mod_lt _ (by decide)⟩)

/-! ## Blocks at positions -/

theorem rows_at (X : Vec Ideal S1x8192x256 .bf16) (t : ℕ) (r : Fin 1024) (d : Fin 256) :
    rows X t (ix3 0 r d) = X (ix3 0 ⟨(1024 * t + r.val) % 8192, Nat.mod_lt _ (by decide)⟩ d) := by
  refine congrArg X (funext fun a => Fin.ext ?_)
  fin_cases a
  · rfl
  · rfl
  · show (0 + d.val) % 256 = d.val
    omega

theorem vals_at (k : ℕ) (d : Fin 128) (x : Fin 512) :
    vals X4 k (ix4 0 0 d x) = X4 (ix4 0 ⟨k % 16, Nat.mod_lt _ (by decide)⟩ d x) := by
  refine congrArg X4 (funext fun a => Fin.ext ?_)
  fin_cases a
  · rfl
  · rfl
  · show (0 + d.val) % 128 = d.val
    omega
  · show (0 + x.val) % 512 = x.val
    omega

theorem sc_at (t j : ℕ) (r k : Fin 1024) :
    sc (rows X2 t) (rows X3 j) r k = score X2 X3 (1024 * t + r.val) (1024 * j + k.val) := by
  refine Finset.sum_congr rfl fun d _ => ?_
  rw [rows_at, rows_at]

theorem vv_at (j : ℕ) (d : Fin 128) (k : Fin 1024) :
    vv (vals X4 (2 * j)) (vals X4 (2 * j + 1)) d k = valAt X4 d (1024 * j + k.val) := by
  unfold vv valAt
  have hk := k.isLt
  have h2 : (1024 * j + k.val) % 512 = k.val % 512 := by omega
  split_ifs with h
  · have h1 : (1024 * j + k.val) / 512 = 2 * j := by omega
    rw [vals_at]; simp only [h1, h2]
  · have h1 : (1024 * j + k.val) / 512 = 2 * j + 1 := by omega
    rw [vals_at]; simp only [h1, h2]

/-! ## The sums over the keys so far -/

/-- The weights of the first `n` keys. -/
def wsum (q n : ℕ) : ℝ := ∑ k ∈ Finset.range n, wt (seen X2 X3 q k)
/-- The weights of the first `n` keys times their values. -/
def vsum (q : ℕ) (d : Fin 128) (n : ℕ) : EReal := ∑ k ∈ Finset.range n, valAt X4 d k * (wt (seen X2 X3 q k) : EReal)

theorem wsum_block (q j : ℕ) : wsum X2 X3 q (1024 * (j + 1))
    = wsum X2 X3 q (1024 * j) + ∑ k : Fin 1024, wt (seen X2 X3 q (1024 * j + k.val)) := by
  unfold wsum
  rw [Nat.mul_succ, Finset.sum_range_add, ← Finset.sum_range fun k => wt (seen X2 X3 q (1024 * j + k))]

theorem vsum_block (q : ℕ) (d : Fin 128) (j : ℕ) : vsum X2 X3 X4 q d (1024 * (j + 1))
    = vsum X2 X3 X4 q d (1024 * j)
      + ∑ k : Fin 1024, valAt X4 d (1024 * j + k.val) * (wt (seen X2 X3 q (1024 * j + k.val)) : EReal) := by
  unfold vsum
  rw [Nat.mul_succ, Finset.sum_range_add,
    ← Finset.sum_range fun k => valAt X4 d (1024 * j + k) * (wt (seen X2 X3 q (1024 * j + k)) : EReal)]

section
variable (hq : ∀ i, ∃ r : ℝ, X2 i = (r : EReal)) (hk : ∀ i, ∃ r : ℝ, X3 i = (r : EReal))
include hq hk

/-- Of real queries and keys the scores are real. -/
theorem score_real (q k : ℕ) : ∃ r : ℝ, score X2 X3 q k = (r : EReal) := by
  choose a ha using hq
  choose b hb using hk
  refine ⟨∑ d : Fin 256, b (ix3 0 ⟨k % 8192, Nat.mod_lt _ (by decide)⟩ d) * a (ix3 0 ⟨q % 8192, Nat.mod_lt _ (by decide)⟩ d), ?_⟩
  unfold score
  simp only [ha, hb, ← EReal.coe_mul]
  exact sum_coe _ _

theorem seen_score (q k : ℕ) : Score (seen X2 X3 q k) := by
  unfold seen
  split_ifs
  · exact .inr (score_real X2 X3 hq hk q k)
  · exact .inl rfl

theorem seen_first (q : ℕ) {k : ℕ} (h : k / 64 ≤ q / 64) : seen X2 X3 q k ≠ ⊥ := by
  unfold seen
  rw [if_pos h]
  obtain ⟨r, e⟩ := score_real X2 X3 hq hk q k
  rw [e]; exact EReal.coe_ne_bot r

/-- A step over a block moves the sums by that block. -/
theorem Steps.sums {q j : ℕ} {d : Fin 128} {m l acc m' l' acc' : EReal} {s v : Fin 1024 → EReal} (h : Steps s v m l acc m' l' acc')
    (hs : ∀ k, s k = seen X2 X3 q (1024 * j + k.val)) (hv : ∀ k, v k = valAt X4 d (1024 * j + k.val)) (hj : 1024 * j ≤ q)
    (hh : Holds m l acc (wsum X2 X3 q (1024 * j)) (vsum X2 X3 X4 q d (1024 * j))) :
    Holds m' l' acc' (wsum X2 X3 q (1024 * (j + 1))) (vsum X2 X3 X4 q d (1024 * (j + 1))) := by
  obtain ⟨rfl, rfl, rfl⟩ := h
  obtain rfl := funext hs
  obtain rfl := funext hv
  rw [wsum_block, vsum_block]
  refine hh.step _ _ (fun k => seen_score X2 X3 hq hk _ _) ⟨0, seen_first X2 X3 hq hk _ ?_⟩
  exact Nat.div_le_div_right (by simpa using hj)

/-- The running arrays after `n` blocks, none of them past the query's. -/
theorem stAt_holds (t : ℕ) (r : Fin 1024) (d : Fin 128) : ∀ n ≤ t,
    Holds ((stAt X3 X4 (rows X2 t) n).m (ix2 0 r)) ((stAt X3 X4 (rows X2 t) n).l (ix2 0 r))
      ((stAt X3 X4 (rows X2 t) n).acc (ix2 d r))
      (wsum X2 X3 (1024 * t + r.val) (1024 * n)) (vsum X2 X3 X4 (1024 * t + r.val) d (1024 * n))
  | 0, _ => by
    have h := st0_at r d
    have h0 : wsum X2 X3 (1024 * t + r.val) (1024 * 0) = 0 := by simp [wsum]
    have h1 : vsum X2 X3 X4 (1024 * t + r.val) d (1024 * 0) = 0 := by simp [vsum]
    rw [h0, h1]; exact h
  | n + 1, hn => by
    refine (kv_steps (rows X2 t) (rows X3 n) (vals X4 (2 * n)) (vals X4 (2 * n + 1)) (stAt X3 X4 (rows X2 t) n) r d).sums
      X2 X3 X4 hq hk (fun k => ?_) (fun k => vv_at X4 n d k) (by omega) (stAt_holds t r d n (by omega))
    have := k.isLt
    rw [sc_at, seen, if_pos (Nat.div_le_div_right (by omega))]

/-- The running arrays after the block on the diagonal. -/
theorem fin_holds (t : ℕ) (r : Fin 1024) (d : Fin 128) :
    Holds ((fin X2 X3 X4 t).m (ix2 0 r)) ((fin X2 X3 X4 t).l (ix2 0 r)) ((fin X2 X3 X4 t).acc (ix2 d r))
      (wsum X2 X3 (1024 * t + r.val) (1024 * (t + 1))) (vsum X2 X3 X4 (1024 * t + r.val) d (1024 * (t + 1))) := by
  refine (diag_steps (rows X2 t) (rows X3 t) (vals X4 (2 * t)) (vals X4 (2 * t + 1)) (stAt X3 X4 (rows X2 t) t) r d).sums
    X2 X3 X4 hq hk (fun k => ?_) (fun k => vv_at X4 t d k) (by omega) (stAt_holds X2 X3 X4 hq hk t r d t le_rfl)
  rw [sc_at, seen]
  refine if_congr ?_ rfl rfl
  omega

end

/-- Past the block of the query no key has a weight. -/
theorem seen_late {t : ℕ} {r : Fin 1024} {k : ℕ} (h : 1024 * (t + 1) ≤ k) : seen X2 X3 (1024 * t + r.val) k = ⊥ := by
  unfold seen
  have := r.isLt
  rw [if_neg (by omega)]

/-- **One grid point.** Row `R` and channel `d` of its result: the attention of query `R` over all the keys. -/
theorem outAll_at (hq : ∀ i, ∃ r : ℝ, X2 i = (r : EReal)) (hk : ∀ i, ∃ r : ℝ, X3 i = (r : EReal)) (R : Fin 8192) (d : Fin 128) :
    @Eq EReal (outAll X2 X3 X4 (ix2 R d))
      ((∑ k : Fin 8192, valAt X4 d k.val * (wt (seen X2 X3 R.val k.val) : EReal))
        * (((∑ k : Fin 8192, wt (seen X2 X3 R.val k.val))⁻¹ : ℝ) : EReal)) := by
  have hR := R.isLt
  obtain ⟨t, r, ht, hr⟩ : ∃ (t : ℕ) (r : Fin 1024), t < 8 ∧ R.val = 1024 * t + r.val :=
    ⟨R.val / 1024, ⟨R.val % 1024, Nat.mod_lt _ (by decide)⟩, by omega, by simp only []; omega⟩
  have hout : @Eq EReal (outAll X2 X3 X4 (ix2 R d)) (k0_pay3 (F := Ideal) (fin X2 X3 X4 t).acc (fin X2 X3 X4 t).l (ix2 r d)) := by
    have h1 : R.val / 1024 = t := by have := r.isLt; omega
    have h2 : R.val % 1024 = r.val := by have := r.isLt; omega
    show outBlk X2 X3 X4 (R.val / 1024) (ix2 ⟨R.val % 1024, _⟩ d) = _
    simp only [h1, h2]; rfl
  have hsub : Finset.range (1024 * (t + 1)) ⊆ Finset.range 8192 := Finset.range_subset_range.2 (by omega)
  have hA : wsum X2 X3 R.val (1024 * (t + 1)) = ∑ k : Fin 8192, wt (seen X2 X3 R.val k.val) := by
    rw [← Finset.sum_range fun k => wt (seen X2 X3 R.val k)]
    refine Finset.sum_subset hsub fun k _ hk' => ?_
    rw [hr, seen_late X2 X3 (by simpa using hk'), wt_bot]
  have hB : vsum X2 X3 X4 R.val d (1024 * (t + 1)) = ∑ k : Fin 8192, valAt X4 d k.val * (wt (seen X2 X3 R.val k.val) : EReal) := by
    rw [← Finset.sum_range fun k => valAt X4 d k * (wt (seen X2 X3 R.val k) : EReal)]
    refine Finset.sum_subset hsub fun k _ hk' => ?_
    rw [hr, seen_late X2 X3 (by simpa using hk'), wt_bot]; simp
  have hpos : 0 < wsum X2 X3 R.val (1024 * (t + 1)) := by
    refine Finset.sum_pos' (fun k _ => wt_nonneg _) ⟨0, Finset.mem_range.2 (by omega), ?_⟩
    rcases seen_score X2 X3 hq hk R.val 0 with e | ⟨x, e⟩
    · exact absurd e (seen_first X2 X3 hq hk _ (by simp))
    · rw [e, wt_coe]; positivity
  rw [hout, out_at, ← hA, ← hB]
  have h := fin_holds X2 X3 X4 hq hk t r d
  rw [← hr] at h
  exact h.quotient hpos

end Cert.KernelIdeal.Attn

end
-- ==== Proof.Ref.lean ====
/-
  The reference over the extended reals, read at one element of its result: the masked softmax attention of a query over
  the 8192 keys of its sequence and head.
-/
module

public import proofs.«01_k».proof.Proof.Softmax
public import proofs.«01_k».proof.Proof.Mask
public import proofs.«01_k».proof.Proof.Gen.ReferenceIdeal.Run
public import Idealize.ShloMosaic.Lib.Pointwise

@[expose] public section

set_option maxRecDepth 16384

noncomputable section

namespace Cert.ReferenceIdeal.Attn

open Cert.ReferenceIdeal Cert.ReferenceIdeal.Gen
open Idealize.ShloMosaic Idealize.ShloMosaic.TcCoe
open Cert.Softmax Cert.Mask

/-- The chunk of each position. -/
def chunks : IVec S8192 32 :=
  select (andi (cmpi .ne (signi (iotaInDim S8192 32 0)) (broadcastInDim S8192 ![] bcast_S_S8192 (signi (id (constantI S_ 32 64#32))))) (cmpi .ne (Host.remsi (iotaInDim S8192 32 0) (broadcastInDim S8192 ![] bcast_S_S8192 (id (constantI S_ 32 64#32)))) (broadcastInDim S8192 ![] bcast_S_S8192 (constantI S_ 32 0#32)))) (subi (Host.divsi (iotaInDim S8192 32 0) (broadcastInDim S8192 ![] bcast_S_S8192 (id (constantI S_ 32 64#32)))) (broadcastInDim S8192 ![] bcast_S_S8192 (constantI S_ 32 1#32))) (Host.divsi (iotaInDim S8192 32 0) (broadcastInDim S8192 ![] bcast_S_S8192 (id (constantI S_ 32 64#32))))

/-- Which keys a query sees. -/
def sees : IVec S8192x8192 1 :=
  cmpi .sle (broadcastInDim S8192x8192 ![0, 1] bcast_S1x8192_S8192x8192_0_1 (broadcastInDim S1x8192 ![1] bcast_S8192_S1x8192_1 chunks))
    (broadcastInDim S8192x8192 ![0, 1] bcast_S8192x1_S8192x8192_0_1 (broadcastInDim S8192x1 ![0] bcast_S8192_S8192x1_0 chunks))

/-- The scores times ln 2. -/
def scores (Q K : FVec Ideal S16x16384x256 .bf16) : FVec Ideal S16x2x8192x8192 .f32 :=
  mulf (Host.dotGeneral dot_S16x2x8192x256_S16x2x8192x256_S16x2x8192x8192_3_3_2_2_01_01 none
      (shapeCast S16x2x8192x256 (extf .f32 Q bitsLt_bf16_f32) shapeCasts_S16x16384x256_S16x2x8192x256)
      (shapeCast S16x2x8192x256 (extf .f32 K bitsLt_bf16_f32) shapeCasts_S16x16384x256_S16x2x8192x256))
    (broadcastInDim S16x2x8192x8192 ![] bcast_S_S16x2x8192x8192 (Host.log (constant S_ .f32 0x40000000#32)))

/-- The scores with −∞ for the keys not seen. -/
def masked (Q K : FVec Ideal S16x16384x256 .bf16) : FVec Ideal S16x2x8192x8192 .f32 :=
  select (broadcastInDim S16x2x8192x8192 ![2, 3] bcast_S8192x8192_S16x2x8192x8192_2_3 sees) (scores Q K)
    (broadcastInDim S16x2x8192x8192 ![] bcast_S_S16x2x8192x8192 (id (constant S_ .f32 0xFF800000#32)))

/-- The maximum of each query's scores. -/
def maxes (Q K : FVec Ideal S16x16384x256 .bf16) : FVec Ideal S16x2x8192 .f32 :=
  maximumf (broadcastInDim S16x2x8192 ![] bcast_S_S16x2x8192 (constant S_ .f32 0xFF800000#32))
    (Host.reduce FloatOps.maximumf (masked Q K) (constant S_ .f32 0xFF800000#32) reducesTo_S16x2x8192x8192_S16x2x8192_d3 h_S_)

/-- The exponentials. -/
def exps (Q K : FVec Ideal S16x16384x256 .bf16) : FVec Ideal S16x2x8192x8192 .f32 :=
  Host.exp (subf (masked Q K) (broadcastInDim S16x2x8192x8192 ![0, 1, 2, 3] bcast_S16x2x8192x1_S16x2x8192x8192_0_1_2_3
    (broadcastInDim S16x2x8192x1 ![0, 1, 2] bcast_S16x2x8192_S16x2x8192x1_0_1_2 (maxes Q K))))

/-- The softmax. -/
def probs (Q K : FVec Ideal S16x16384x256 .bf16) : FVec Ideal S16x2x8192x8192 .f32 :=
  Host.divf (exps Q K) (broadcastInDim S16x2x8192x8192 ![0, 1, 2, 3] bcast_S16x2x8192x1_S16x2x8192x8192_0_1_2_3
    (broadcastInDim S16x2x8192x1 ![0, 1, 2] bcast_S16x2x8192_S16x2x8192x1_0_1_2
      (Host.reduceAdd (exps Q K) (constant S_ .f32 0x00000000#32) reducesTo_S16x2x8192x8192_S16x2x8192_d3 h_S_)))

/-- The values, transposed back. -/
def values (V : FVec Ideal S16x32x128x512 .bf16) : FVec Ideal S16x2x8192x128 .f32 :=
  shapeCast S16x2x8192x128 (transpose S16x32x512x128 [0, 1, 3, 2] (extf .f32 V bitsLt_bf16_f32) transposes_S16x32x128x512_S16x32x512x128_0_1_3_2)
    shapeCasts_S16x32x512x128_S16x2x8192x128

/-- The reference's result. -/
def out (Q K : FVec Ideal S16x16384x256 .bf16) (V : FVec Ideal S16x32x128x512 .bf16) : FVec Ideal S16384x2048 .bf16 :=
  truncf .bf16 (shapeCast S16384x2048 (transpose S2x8192x16x128 [0, 3, 1, 2]
    (Host.dotGeneral dot_S16x2x8192x128_S16x2x8192x8192_S2x16x128x8192_2_3_3_2_10_10 none (values V) (probs Q K))
    transposes_S2x16x128x8192_S2x8192x16x128_0_3_1_2) shapeCasts_S2x8192x16x128_S16384x2048) bitsLt_bf16_f32

/-- The result that the run of the reference states. -/
theorem res_eq (m : (ℓ : Loc nD τ sig) → Buf (Elt Ideal) ℓ) (c : Dev nD) : Value.res_out0 m c
    = out (m ((c.tc : Thread nD τ).loc main_arg0)) (m ((c.tc : Thread nD τ).loc main_arg1)) (m ((c.tc : Thread nD τ).loc main_arg2)) := rfl

/-! ## Element by element -/

/-- The chunk of a position is its quotient by 64. -/
theorem floor_seq : ∀ q : Fin 8192,
    Scalar.select
      (IntOp.andi
        (IntOp.cmpi CmpIPredicate.ne
          (if BitVec.ofNat 32 q.val = 0 then (0 : BitVec 32) else if (BitVec.ofNat 32 q.val).msb = true then -1 else 1)
          (if 64#32 = 0 then (0 : BitVec 32) else if (64#32).msb = true then -1 else 1))
        (IntOp.cmpi CmpIPredicate.ne (IntOp.remsi ArithUnit.host (BitVec.ofNat 32 q.val) 64#32) 0#32))
      (IntOp.subi (IntOp.divsi ArithUnit.host (BitVec.ofNat 32 q.val) 64#32) 1#32)
      (IntOp.divsi ArithUnit.host (BitVec.ofNat 32 q.val) 64#32) = BitVec.ofNat 32 (q.val / 64) := by
  decide +kernel

theorem chunks_at (q : Fin 8192) : chunks (ix1 q) = BitVec.ofNat 32 (q.val / 64) := by
  pointwise [chunks, id_eq]
  exact floor_seq q

theorem sees_at (q k : Fin 8192) : sees (ix2 q k) = bit (k.val / 64 ≤ q.val / 64) := by
  pointwise [sees]
  rw [chunks_at, chunks_at]
  exact sle_chunks ⟨k.val / 64, by omega⟩ ⟨q.val / 64, by omega⟩

theorem neg_inf : Ideal.ofBits .f32 0xFF800000#32 = ⊥ := by simp [Ideal.ofBits, Ideal.ieee]

theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee]
    rw [← EReal.coe_mul]
    norm_num
  rw [h, Ideal.log_coe, if_neg (by norm_num)]

variable (Q K : FVec Ideal S16x16384x256 .bf16) (V : FVec Ideal S16x32x128x512 .bf16)

/-- The score of key `k` for query `q`, in sequence `b` and head `h`. -/
def score (h : Fin 16) (b : Fin 2) (q k : Fin 8192) : EReal :=
  ∑ d : Fin 256, Q (ix3 h ⟨b.val * 8192 + q.val, by omega⟩ d) * K (ix3 h ⟨b.val * 8192 + k.val, by omega⟩ d)

/-- The score as the mask leaves it. -/
def seen (h : Fin 16) (b : Fin 2) (q k : Fin 8192) : EReal := if k.val / 64 ≤ q.val / 64 then score Q K h b q k else ⊥

theorem scores_at (h : Fin 16) (b : Fin 2) (q k : Fin 8192) :
    @Eq EReal (scores Q K (ix4 h b q k)) (score Q K h b q k * ((Real.log 2 : ℝ) : EReal)) := by
  pointwise [scores]
  rw [log_two]; rfl

theorem masked_at (h : Fin 16) (b : Fin 2) (q k : Fin 8192) :
    @Eq EReal (masked Q K (ix4 h b q k))
      (if k.val / 64 ≤ q.val / 64 then score Q K h b q k * ((Real.log 2 : ℝ) : EReal) else ⊥) := by
  pointwise [masked, id_eq]
  rw [sees_at, select_bit, scores_at, neg_inf]

/-- The maximum over the last axis of an array. -/
theorem max_last {n₀ n₁ n₂ n₃ : ℕ} {u : Shape} (x : FVec Ideal ⟨4, ![n₀, n₁, n₂, n₃]⟩ .f32) (init : FVec Ideal u .f32)
    (hr : Shape.ReducesTo ⟨4, ![n₀, n₁, n₂, n₃]⟩ [3] ⟨3, ![n₀, n₁, n₂]⟩) (hu : 0 < u.numel) (i : Fin n₀) (j : Fin n₁) (k : Fin n₂) :
    @Eq EReal (Host.reduce (α := Ideal .f32) FloatOps.maximumf x init hr hu (ix3 i j k))
      (Finset.univ.fold max (show EReal from init (Shape.Idx.first hu)) fun l : Fin n₃ => (show EReal from x (ix4 i j k l))) := by
  simp only [pointwise]

/-- The greater of two arrays, at an index. -/
theorem max_elem {s : Shape} (x y : FVec Ideal s .f32) (i : s.Idx) : @Eq EReal (maximumf x y i) (max (show EReal from x i) (y i)) := rfl

theorem floor_at {i : S16x2x8192.Idx} : @Eq EReal
    (broadcastInDim S16x2x8192 ![] bcast_S_S16x2x8192 (constant (F := Ideal) S_ .f32 0xFF800000#32) i) ⊥ := neg_inf

theorem maxes_at (h : Fin 16) (b : Fin 2) (q : Fin 8192) :
    @Eq EReal (maxes Q K (ix3 h b q)) (Finset.univ.fold max ⊥ fun k : Fin 8192 => (show EReal from masked Q K (ix4 h b q k))) := by
  refine (max_elem _ _ _).trans ?_
  refine (congrArg₂ max floor_at (max_last (masked Q K) _ _ _ h b q)).trans ?_
  rw [max_eq_right bot_le]
  show Finset.univ.fold max (Ideal.ofBits .f32 0xFF800000#32) _ = _
  rw [neg_inf]

theorem exps_at (h : Fin 16) (b : Fin 2) (q k : Fin 8192) :
    @Eq EReal (exps Q K (ix4 h b q k))
      (Ideal.exp ((show EReal from masked Q K (ix4 h b q k)) - (show EReal from maxes Q K (ix3 h b q)))) := by
  pointwise [exps]

theorem probs_at (h : Fin 16) (b : Fin 2) (q k : Fin 8192) :
    @Eq EReal (probs Q K (ix4 h b q k))
      (Ideal.div (exps Q K (ix4 h b q k)) (∑ j : Fin 8192, (show EReal from exps Q K (ix4 h b q j)))) := by
  pointwise [probs]

theorem out_at (R : Fin 16384) (C : Fin 2048) :
    @Eq EReal (out Q K V (ix2 R C))
      (∑ k : Fin 8192,
        V (ix4 ⟨C.val / 128, by omega⟩ ⟨R.val / 8192 * 16 + k.val / 512, by omega⟩ ⟨C.val % 128, by omega⟩ ⟨k.val % 512, by omega⟩)
        * (show EReal from probs Q K (ix4 ⟨C.val / 128, by omega⟩ ⟨R.val / 8192, by omega⟩ ⟨R.val % 8192, by omega⟩ k))) := by
  pointwise [out, values]

/-- **The reference.** Row `R`, column `C` of its result: head `C / 128`, channel `C % 128`, sequence `R / 8192`, query
    `R % 8192`; the values weighted by the weights of the scores and divided by the sum of the weights. -/
theorem result_at (hq : ∀ i, ∃ r : ℝ, Q i = (r : EReal)) (hk : ∀ i, ∃ r : ℝ, K i = (r : EReal)) (R : Fin 16384) (C : Fin 2048) :
    @Eq EReal (out Q K V (ix2 R C))
      ((∑ k : Fin 8192,
        V (ix4 ⟨C.val / 128, by omega⟩ ⟨R.val / 8192 * 16 + k.val / 512, by omega⟩ ⟨C.val % 128, by omega⟩ ⟨k.val % 512, by omega⟩)
          * (wt (seen Q K ⟨C.val / 128, by omega⟩ ⟨R.val / 8192, by omega⟩ ⟨R.val % 8192, by omega⟩ k) : EReal))
        * (((∑ k : Fin 8192, wt (seen Q K ⟨C.val / 128, by omega⟩ ⟨R.val / 8192, by omega⟩ ⟨R.val % 8192, by omega⟩ k))⁻¹ : ℝ) : EReal)) := by
  rw [out_at]
  generalize (⟨C.val / 128, by omega⟩ : Fin 16) = h
  generalize (⟨R.val / 8192, by omega⟩ : Fin 2) = b
  generalize (⟨R.val % 8192, by omega⟩ : Fin 8192) = q
  have hreal (k : Fin 8192) : ∃ r : ℝ, score Q K h b q k = (r : EReal) := by
    choose x hx using hq
    choose y hy using hk
    refine ⟨∑ d : Fin 256, x (ix3 h ⟨b.val * 8192 + q.val, by omega⟩ d) * y (ix3 h ⟨b.val * 8192 + k.val, by omega⟩ d), ?_⟩
    unfold score
    simp only [hx, hy, ← EReal.coe_mul]
    exact sum_coe _ _
  have hs (k : Fin 8192) : Score (seen Q K h b q k) := by
    unfold seen
    split_ifs
    · exact .inr (hreal k)
    · exact .inl rfl
  have hself : seen Q K h b q q ≠ ⊥ := by
    obtain ⟨r, e⟩ := hreal q
    unfold seen
    rw [if_pos le_rfl, e]; exact EReal.coe_ne_bot r
  have hm (k : Fin 8192) : @Eq EReal (masked Q K (ix4 h b q k))
      (if seen Q K h b q k = ⊥ then ⊥ else seen Q K h b q k * ((Real.log 2 : ℝ) : EReal)) := by
    rw [masked_at]
    unfold seen
    by_cases hc : k.val / 64 ≤ q.val / 64
    · obtain ⟨r, e⟩ := hreal k
      simp only [if_pos hc, e, if_neg (EReal.coe_ne_bot r)]
    · simp only [if_neg hc, if_pos]
  obtain ⟨μ, hμ⟩ : ∃ μ : ℝ, @Eq EReal (maxes Q K (ix3 h b q)) (μ : EReal) := by
    rw [maxes_at]
    refine fold_real _ (fun k => ?_) ⟨q, ?_⟩
    · show Score (masked Q K (ix4 h b q k))
      rw [hm]
      rcases hs k with e | ⟨r, e⟩
      · exact .inl (by rw [if_pos e])
      · exact .inr ⟨r * Real.log 2, by rw [if_neg (by rw [e]; exact EReal.coe_ne_bot r), e, EReal.coe_mul]⟩
    · show (masked Q K (ix4 h b q q) : EReal) ≠ ⊥
      rw [hm, if_neg hself]
      rcases hs q with e | ⟨r, e⟩
      · exact absurd e hself
      · rw [e, ← EReal.coe_mul]; exact EReal.coe_ne_bot _
  rw [← softmax_row _ (fun k : Fin 8192 => V (ix4 h ⟨R.val / 8192 * 16 + k.val / 512, by omega⟩ ⟨C.val % 128, by omega⟩ ⟨k.val % 512, by omega⟩)) hs ⟨q, hself⟩ μ]
  refine Finset.sum_congr rfl fun k _ => ?_
  refine congrArg (_ * ·) ?_
  show (probs Q K (ix4 h b q k) : EReal) = _
  rw [probs_at]
  have he (j : Fin 8192) : @Eq EReal (exps Q K (ix4 h b q j))
      (Ideal.exp ((if seen Q K h b q j = ⊥ then ⊥ else seen Q K h b q j * ((Real.log 2 : ℝ) : EReal)) - (μ : EReal))) := by
    rw [exps_at, hm, hμ]
  refine congrArg₂ Ideal.div (he k) (Finset.sum_congr rfl fun j _ => he j)

end Cert.ReferenceIdeal.Attn

end
-- ==== Proof.Value.lean ====
/-
  The result of the attention kernel on the whole grid is the reference's: grid point `t` is head `t % 16` of sequence
  `t / 16`, and its block of the result holds that head's columns of that sequence's rows.
-/
module

public import proofs.«01_k».proof.Proof.IdealPoint
public import proofs.«01_k».proof.Proof.IdealFrame
public import proofs.«01_k».proof.Proof.Ref
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.SL.Sem
open Idealize.ShloMosaic.Pipeline (Dat)
open Cert.Softmax Cert.Mask

/-- Where each window's block of point `t` sits. -/
theorem idx : ∀ t : Fin cfg0.N, win0_0.index t = ![t.val % 16, t.val / 16, 0] ∧ win0_1.index t = ![t.val % 16, t.val / 16, 0]
    ∧ win0_2.index t = ![t.val % 16, t.val / 16, 0, 0] ∧ win0_3.index t = ![t.val / 16, t.val % 16] ∧ t.val / 16 < 2 :=
  (by decide +kernel : ∀ t : Fin grid0.N, _)

/-- One head of one sequence: the kernel's block against the reference. -/
theorem point (Q K : FVec Ideal S16x16384x256 .bf16) (V : FVec Ideal S16x32x128x512 .bf16)
    (hq : ∀ i, ∃ r : ℝ, Q i = (r : EReal)) (hk : ∀ i, ∃ r : ℝ, K i = (r : EReal))
    (X2 X3 : Vec Ideal S1x8192x256 .bf16) (X4 : Vec Ideal S1x16x128x512 .bf16) (b : Fin 2) (h : Fin 16)
    (h2 : ∀ (r : Fin 8192) (d : Fin 256), X2 (ix3 0 r d) = Q (ix3 h ⟨b.val * 8192 + r.val, by omega⟩ d))
    (h3 : ∀ (r : Fin 8192) (d : Fin 256), X3 (ix3 0 r d) = K (ix3 h ⟨b.val * 8192 + r.val, by omega⟩ d))
    (h4 : ∀ (j : Fin 16) (d : Fin 128) (x : Fin 512), X4 (ix4 0 j d x) = V (ix4 h ⟨b.val * 16 + j.val, by omega⟩ d x))
    (R : Fin 8192) (d : Fin 128) :
    @Eq EReal (outAll X2 X3 X4 (ix2 R d))
      (Cert.ReferenceIdeal.Attn.out Q K V (ix2 ⟨b.val * 8192 + R.val, by omega⟩ ⟨h.val * 128 + d.val, by omega⟩)) := by
  have real3 (X : Vec Ideal S1x8192x256 .bf16) (Y : FVec Ideal S16x16384x256 .bf16) (hy : ∀ i, ∃ r : ℝ, Y i = (r : EReal))
      (hX : ∀ (r : Fin 8192) (d : Fin 256), X (ix3 0 r d) = Y (ix3 h ⟨b.val * 8192 + r.val, by omega⟩ d)) (i) :
      ∃ r : ℝ, X i = (r : EReal) := by
    have e : i = ix3 0 (i 1) (i 2) := by
      funext a
      match a with
      | ⟨0, _⟩ => exact Subsingleton.elim (α := Fin 1) _ _
      | ⟨1, _⟩ => rfl
      | ⟨2, _⟩ => rfl
    rw [e]
    obtain ⟨r, hr⟩ := hy (ix3 h ⟨b.val * 8192 + (i 1).val, by have := (i 1).isLt; have : (i 1).val < 8192 := this; omega⟩ (i 2))
    exact ⟨r, (hX (i 1) (i 2)).trans hr⟩
  rw [outAll_at X2 X3 X4 (real3 X2 Q hq h2) (real3 X3 K hk h3), Cert.ReferenceIdeal.Attn.result_at Q K V hq hk]
  have eh : (⟨(h.val * 128 + d.val) / 128, by omega⟩ : Fin 16) = h := Fin.ext (by show (h.val * 128 + d.val) / 128 = h.val; omega)
  have ed : (⟨(h.val * 128 + d.val) % 128, by omega⟩ : Fin 128) = d := Fin.ext (by show (h.val * 128 + d.val) % 128 = d.val; omega)
  have eb : (⟨(b.val * 8192 + R.val) / 8192, by omega⟩ : Fin 2) = b := Fin.ext (by show (b.val * 8192 + R.val) / 8192 = b.val; omega)
  have er : (⟨(b.val * 8192 + R.val) % 8192, by omega⟩ : Fin 8192) = R := Fin.ext (by show (b.val * 8192 + R.val) % 8192 = R.val; omega)
  have es (k : Fin 8192) : seen X2 X3 R.val k.val
      = Cert.ReferenceIdeal.Attn.seen Q K ⟨(h.val * 128 + d.val) / 128, by omega⟩ ⟨(b.val * 8192 + R.val) / 8192, by omega⟩
          ⟨(b.val * 8192 + R.val) % 8192, by omega⟩ k := by
    rw [eh, eb, er]
    unfold seen Cert.ReferenceIdeal.Attn.seen score Cert.ReferenceIdeal.Attn.score
    refine if_congr Iff.rfl (Finset.sum_congr rfl fun x _ => ?_) rfl
    have e1 : (⟨k.val % 8192, Nat.mod_lt _ (by decide)⟩ : Fin 8192) = k := Fin.ext (Nat.mod_eq_of_lt k.isLt)
    have e2 : (⟨R.val % 8192, Nat.mod_lt _ (by decide)⟩ : Fin 8192) = R := Fin.ext (Nat.mod_eq_of_lt R.isLt)
    rw [e1, e2]
    exact (congrArg₂ (fun u v : EReal => u * v) (h3 k x) (h2 R x)).trans (mul_comm _ _)
  have ev (k : Fin 8192) : valAt X4 d k.val
      = V (ix4 ⟨(h.val * 128 + d.val) / 128, by omega⟩ ⟨(b.val * 8192 + R.val) / 8192 * 16 + k.val / 512, by omega⟩
          ⟨(h.val * 128 + d.val) % 128, by omega⟩ ⟨k.val % 512, by omega⟩) := by
    refine (h4 _ _ _).trans (congrArg V (funext fun a => Fin.ext ?_))
    match a with
    | ⟨0, _⟩ => show h.val = (h.val * 128 + d.val) / 128; omega
    | ⟨1, _⟩ => show b.val * 16 + k.val / 512 % 16 = (b.val * 8192 + R.val) / 8192 * 16 + k.val / 512; omega
    | ⟨2, _⟩ => show d.val = (h.val * 128 + d.val) % 128; omega
    | ⟨3, _⟩ => rfl
  simp only [es, ev]

variable (m : (ℓ : Loc nD τ sig) → Buf (Elt Ideal) ℓ)

/-- **The whole grid.** The kernel's result array is the reference's. -/
theorem final (c : Dev nD)
    (hq : ∀ i, ∃ r : ℝ, (show FVec Ideal S16x16384x256 .bf16 from m ((c : Thread nD τ).loc main_arg0)) i = (r : EReal))
    (hk : ∀ i, ∃ r : ℝ, (show FVec Ideal S16x16384x256 .bf16 from m ((c : Thread nD τ).loc main_arg1)) i = (r : EReal)) :
    (dats m 0 c).arrAt 3 (cfgs 0).N = Cert.ReferenceIdeal.Attn.out (m ((c : Thread nD τ).loc main_arg0))
      (m ((c : Thread nD τ).loc main_arg1)) (m ((c : Thread nD τ).loc main_arg2)) := by
  refine (dats m 0 c).arrAt_eq_of_covers 3 _ (by decide +kernel) fun t _ y => ?_
  blk_simp
  rw [after0_3]
  obtain ⟨i0, i1, i2, i3, hb⟩ := idx t
  have e : y = ix2 (y 0) (y 1) := by
    funext a
    match a with
    | ⟨0, _⟩ => rfl
    | ⟨1, _⟩ => rfl
  have h0 : (y 0).val < 8192 := (y 0).isLt
  have h1 : (y 1).val < 128 := (y 1).isLt
  refine Eq.trans ?_ ((point (m ((c : Thread nD τ).loc main_arg0)) (m ((c : Thread nD τ).loc main_arg1)) (m ((c : Thread nD τ).loc main_arg2)) hq hk
    (iblk m c 0 t) (iblk m c 1 t) (iblk m c 2 t) ⟨t.val / 16, hb⟩ ⟨t.val % 16, by omega⟩ (fun r d => ?_) (fun r d => ?_) (fun j d x => ?_)
    ⟨(y 0).val, h0⟩ ⟨(y 1).val, h1⟩).trans ?_)
  · exact congrArg _ e
  · blk_ext [iblk, V, idx t]
  · blk_ext [iblk, V, idx t]
  · blk_ext [iblk, V, idx t]
  · blk_ext [iblk, V, idx t]

end Cert.KernelIdeal.Attn

end
-- ==== Proof.Algebraic.lean ====
/-
  The kernel and the reference over the extended reals give the same result, from queries and keys that are real numbers.
-/
module

public import proofs.«01_k».proof.Proof.Frames
public import proofs.«01_k».proof.Proof.Finite
public import proofs.«01_k».proof.Proof.Value

@[expose] public section

noncomputable section

namespace Cert.Proof

open Idealize.ShloMosaic Idealize.ShloMosaic.TcCoe Idealize.SL.Sem

/-- The frames, as they are stated under the precondition. -/
theorem frame_ideal_pre : Cert.quiescent_KernelIdeal_pre_finite (hKernelIdeal := Cert.KernelIdeal.Gen.facts) (hPre_finite := Cert.Pre_finite.shapes) :=
  fun m ρ _ => Cert.KernelIdeal.Attn.run_frame (F := Ideal) m ρ

theorem frame_reference_pre : Cert.quiescent_ReferenceIdeal_pre_finite (hReferenceIdeal := Cert.ReferenceIdeal.Gen.facts) (hPre_finite := Cert.Pre_finite.shapes) :=
  fun m ρ _ => frame_reference m ρ trivial

/-- **The value.** Both runs end with the reference's attention of the arguments. -/
theorem attention : Cert.algebraic_KernelIdeal_ReferenceIdeal_pre_finite (hKernelIdeal := Cert.KernelIdeal.Gen.facts)
    (hReferenceIdeal := Cert.ReferenceIdeal.Gen.facts) (hPre_finite := Cert.Pre_finite.shapes) := by
  intro m ρ m' ρ' hpre hargs
  refine ⟨fun c => Cert.ReferenceIdeal.Attn.out (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run _ _ _).mono (fun r h c => ?_) (θ_run_and (Cert.KernelIdeal.Attn.run_quiescent (F := Ideal) m ρ)
      (Cert.KernelIdeal.Attn.run_frame (F := Ideal) m ρ))
    obtain ⟨hq, hk⟩ := Cert.Pre_finite.reals Cert.Pre_finite.shapes _ _ _ (hpre c)
    exact ⟨((h.1.1 c).1 3).trans (Cert.KernelIdeal.Attn.final m c hq hk), h.2.1 c⟩
  · refine (θ_run _ _ _).mono (fun r h c => ⟨?_, (h c).2⟩) (Cert.ReferenceIdeal.Value.run (F := Ideal) m' ρ')
    obtain ⟨e0, e1, e2⟩ := hargs c
    refine (h c).1.trans ((Cert.ReferenceIdeal.Attn.res_eq m' c).trans ?_)
    rw [e0, e1, e2]

end Cert.Proof

end
-- ==== Proof.FfnIdealState.lean ====
/-
  What the feed-forward kernel's body computes, as functions of the blocks it reads: the hidden block, the running sum
  after one block of hidden units, the rows it sends out at the last block.
-/
module

public import proofs.«01_k».proof.Proof.IdealState
public import proofs.«01_k».proof.Proof.Gen.Kernel2Ideal.Frame

@[expose] public section

set_option maxRecDepth 16384

noncomputable section

namespace Cert.Kernel2Ideal.Ffn

open Cert.Kernel2Ideal Cert.Kernel2Ideal.Gen
open Cert.KernelIdeal.Attn (blk readAt_blk)
open Idealize.ShloMosaic

variable {F : FTy → Type} [FloatOps F]

/-- The hidden block: the block of the first product, its negative entries zero, squared. -/
def hid (X2 : Vec F S512x4096 .bf16) (X5 : Vec F S4096x1024 .bf16) : FVec F S512x1024 .bf16 :=
  let r : FVec F S512x1024 .f32 := maximumf (matmul dot_S512x4096_S4096x1024_S512x1024_1_0_0_1_n_n none X2 X5 (constant S512x1024 .f32 0x00000000#32)) (broadcast S512x1024 (Scalar.ofBits .f32 0x00000000#32))
  truncf .bf16 (mulf r r) bitsLt_bf16_f32

/-- Piece `n` of 512 columns of the running sum `A`, the hidden block's contribution added. -/
def colStep (H : FVec F S512x1024 .bf16) (X6 : Vec F S1024x4096 .bf16) (A : Vec F S512x4096 .f32) (n : ℕ) : FVec F S512x512 .f32 :=
  addf (blk (s := S512x4096) (by decide) A ![0, 512 * n] S512x512.size)
    (matmul dot_S512x1024_S1024x512_S512x512_1_0_0_1_n_n none H (blk (s := S1024x4096) (by decide) X6 ![0, 512 * n] S1024x512.size) (constant S512x512 .f32 0x00000000#32))

/-- The running sum after the first `n` of its eight pieces. -/
def accUpTo (H : FVec F S512x1024 .bf16) (X6 : Vec F S1024x4096 .bf16) (A : Vec F S512x4096 .f32) : ℕ → Vec F S512x4096 .f32
  | 0 => A
  | n + 1 => VecWindow.put (accUpTo H X6 A n) ![0, 512 * n] S512x512.size (colStep H X6 A n)

/-- The running sum starts at zero. -/
def accZero : Vec F S512x4096 .f32 := broadcast S512x4096 (Scalar.ofBits .f32 0x00000000#32)

/-- The running sum after one block of hidden units, from what it held before; at the first block from zero. -/
def accNext (i : grid0.Coords) (X2 : Vec F S512x4096 .bf16) (X5 : Vec F S4096x1024 .bf16) (X6 : Vec F S1024x4096 .bf16) (A : Vec F S512x4096 .f32) : Vec F S512x4096 .f32 :=
  accUpTo (hid X2 X5) X6 (if (i 1).val = 0 then accZero else A) 8

/-- A strip of 128 rows sent out: the sum's rows `B`, normalised and scaled, gated, added to the residual's rows `x`. -/
def strip (X3 : Vec F S1x1x4096 .f32) (X4 : Vec F S1x4096 .f32) (B x : FVec F S128x4096 .f32) : FVec F S128x4096 .f32 :=
  addf x (mulf (broadcastTo S128x4096 (shapeCast S1x4096 X3 shapeCasts_S1x1x4096_S1x4096) broadcasts_S1x4096_S128x4096)
    (mulf (mulf B (broadcastTo S128x4096 (rsqrt (addf (divf (shapeCast S128x1 (multiReduction .add [1] S128 (mulf B B) 0x00000000#32 reduces_S128x4096_S128 (.inl rfl) rfl) shapeCasts_S128_S128x1)
      (broadcast S128x1 (Scalar.ofBits .f32 0x45800000#32))) (broadcast S128x1 (Scalar.ofBits .f32 0x358637BD#32)))) broadcasts_S128x1_S128x4096))
      (broadcastTo S128x4096 X4 broadcasts_S1x4096_S128x4096)))

/-- Strip `n` of row block `b`. -/
def stripAt (b : ℕ) (X3 : Vec F S1x1x4096 .f32) (X4 : Vec F S1x4096 .f32) (B : Vec F S512x4096 .f32) (x : Vec F S16384x4096 .f32) (n : ℕ) : FVec F S128x4096 .f32 :=
  strip X3 X4 (blk (s := S512x4096) (by decide) B ![128 * n, 0] S128x4096.size) (blk (s := S16384x4096) (by decide) x ![512 * b + 128 * n, 0] S128x4096.size)

/-- The result array after the first `n` of row block `b`'s four strips. -/
def outUpTo (b : ℕ) (X3 : Vec F S1x1x4096 .f32) (X4 : Vec F S1x4096 .f32) (B : Vec F S512x4096 .f32) (x o : Vec F S16384x4096 .f32) : ℕ → Vec F S16384x4096 .f32
  | 0 => o
  | n + 1 => VecWindow.put (outUpTo b X3 X4 B x o n) ![512 * b + 128 * n, 0] S128x4096.size (stripAt b X3 X4 B x n)

/-- The result array after the body: at the last block of hidden units row block `i 0` has been sent out. -/
def outNext (i : grid0.Coords) (X3 : Vec F S1x1x4096 .f32) (X4 : Vec F S1x4096 .f32) (B : Vec F S512x4096 .f32) (x o : Vec F S16384x4096 .f32) : Vec F S16384x4096 .f32 :=
  if (i 1).val = 15 then outUpTo (i 0).val X3 X4 B x o 4 else o

/-! ## The kernel's words -/

theorem cond2_iff (i : grid0.Coords) : k0_cond2 i = 1#1 ↔ (i 1).val = 15 := by
  have h : ∀ k : Fin 16, (Scalar.cmpi .ne (Scalar.extui (Scalar.cmpi .eq (BitVec.ofNat 32 k.val) 15#32) : BitVec 32) 0#32 = 1#1) ↔ k.val = 15 := by decide +kernel
  exact h (i 1)

theorem cond1_iff (i : grid0.Coords) : Scalar.cmpi .ne (Scalar.extui (Scalar.cmpi .eq (BitVec.ofNat 32 (i 1).val) 0#32) : BitVec 32) 0#32 = 1#1 ↔ (i 1).val = 0 := by
  have h : ∀ k : Fin 16, (Scalar.cmpi .ne (Scalar.extui (Scalar.cmpi .eq (BitVec.ofNat 32 k.val) 0#32) : BitVec 32) 0#32 = 1#1) ↔ k.val = 0 := by decide +kernel
  exact h (i 1)

/-- The rows a transfer moves start at row `512 b + r`. -/
theorem off1_eq (i : grid0.Coords) (r : ℕ) (hr : r < 512) : k0_off1 i (BitVec.ofNat 32 r) = ![512 * (i 0).val + r, 0] := by
  have hi : (i 0).val < 32 := (i 0).isLt
  have e : (Scalar.addi (Scalar.muli (BitVec.ofNat 32 (i 0).val) 512#32) (BitVec.ofNat 32 r)).toNat = 512 * (i 0).val + r := by
    simp only [Scalar.addi, Scalar.muli, IntOp.addi, IntOp.muli, BitVec.toNat_add, BitVec.toNat_mul, BitVec.toNat_ofNat]
    omega
  show ![(Scalar.addi (Scalar.muli (BitVec.ofNat 32 (i 0).val) 512#32) (BitVec.ofNat 32 r)).toNat, 0] = _
  rw [e]

end Cert.Kernel2Ideal.Ffn

end
-- ==== Proof.FfnPoint.lean ====
/-
  The feed-forward kernel's body over the extended reals, read at an index: a block of hidden units adds its products
  to the running sum; a strip sent out is the residual plus the gated, normalised sum.
-/
module

public import proofs.«01_k».proof.Proof.FfnIdealState
public import Idealize.ShloMosaic.Lib.Pointwise

@[expose] public section

set_option maxRecDepth 16384

noncomputable section

namespace Cert.Kernel2Ideal.Ffn

open Cert.Kernel2Ideal Cert.Kernel2Ideal.Gen
open Cert.KernelIdeal.Attn (blk readAt_blk)
open Idealize.ShloMosaic

theorem hid_at (X2 : Vec Ideal S512x4096 .bf16) (X5 : Vec Ideal S4096x1024 .bf16) (r : Fin 512) (h : Fin 1024) :
    @Eq EReal (hid X2 X5 (ix2 r h))
      (max (∑ d : Fin 4096, X2 (ix2 r d) * X5 (ix2 d h)) 0 * max (∑ d : Fin 4096, X2 (ix2 r d) * X5 (ix2 d h)) 0) := by
  pointwise [hid]

theorem col_at (H : FVec Ideal S512x1024 .bf16) (X6 : Vec Ideal S1024x4096 .bf16) (A : Vec Ideal S512x4096 .f32) (n : ℕ) (r c : Fin 512) :
    @Eq EReal (colStep H X6 A n (ix2 r c))
      (A (ix2 r ⟨(512 * n + c.val) % 4096, Nat.mod_lt _ (by decide)⟩)
        + ∑ k : Fin 1024, H (ix2 r k) * X6 (ix2 k ⟨(512 * n + c.val) % 4096, Nat.mod_lt _ (by decide)⟩)) := by
  have hA : blk (s := S512x4096) (by decide) A ![0, 512 * n] S512x512.size (ix2 r c) = A (ix2 r ⟨(512 * n + c.val) % 4096, Nat.mod_lt _ (by decide)⟩) := by
    refine congrArg A (funext fun a => Fin.ext ?_)
    match a with
    | ⟨0, _⟩ => show (0 + r.val) % 512 = r.val; omega
    | ⟨1, _⟩ => rfl
  have hX (k : Fin 1024) : blk (s := S1024x4096) (by decide) X6 ![0, 512 * n] S1024x512.size (ix2 k c) = X6 (ix2 k ⟨(512 * n + c.val) % 4096, Nat.mod_lt _ (by decide)⟩) := by
    refine congrArg X6 (funext fun a => Fin.ext ?_)
    match a with
    | ⟨0, _⟩ => show (0 + k.val) % 1024 = k.val; omega
    | ⟨1, _⟩ => rfl
  pointwise [colStep]
  simp only [hA, hX]

theorem accUpTo_at (H : FVec Ideal S512x1024 .bf16) (X6 : Vec Ideal S1024x4096 .bf16) (A : Vec Ideal S512x4096 .f32) (n : ℕ) (r : Fin 512) (c : Fin 4096) :
    @Eq EReal (accUpTo H X6 A n (ix2 r c))
      (if c.val < 512 * n then A (ix2 r c) + ∑ k : Fin 1024, H (ix2 r k) * X6 (ix2 k c) else A (ix2 r c)) := by
  induction n with
  | zero => rw [if_neg (by omega)]; rfl
  | succ n ih =>
    show VecWindow.put (accUpTo H X6 A n) ![0, 512 * n] S512x512.size (colStep H X6 A n) (ix2 r c) = _
    unfold VecWindow.put
    by_cases h : ∀ a, (![0, 512 * n] : Fin 2 → ℕ) a ≤ ((ix2 r c : S512x4096.Idx) a).val ∧ ((ix2 r c : S512x4096.Idx) a).val < (![0, 512 * n] : Fin 2 → ℕ) a + S512x512.size a
    · have h1 : 512 * n ≤ c.val ∧ c.val < 512 * n + 512 := h 1
      rw [dif_pos h, if_pos (by omega)]
      have e : (⟨(512 * n + (c.val - 512 * n)) % 4096, Nat.mod_lt _ (by decide)⟩ : Fin 4096) = c := Fin.ext (by show (512 * n + (c.val - 512 * n)) % 4096 = c.val; have := c.isLt; omega)
      refine Eq.trans (congrArg _ (a₂ := ix2 r (⟨c.val - 512 * n, by omega⟩ : Fin 512)) (funext fun a => Fin.ext ?_)) ((col_at H X6 A n r ⟨c.val - 512 * n, by omega⟩).trans ?_)
      · match a with
        | ⟨0, _⟩ => show r.val - 0 = r.val; omega
        | ⟨1, _⟩ => rfl
      · simp only [e]
    · rw [dif_neg h]
      have h1 : ¬ (512 * n ≤ c.val ∧ c.val < 512 * n + 512) := fun h1 => h fun a => by
        match a with
        | ⟨0, _⟩ => exact ⟨Nat.zero_le _, by show r.val < 0 + 512; omega⟩
        | ⟨1, _⟩ => exact h1
      refine ih.trans ?_
      by_cases h2 : c.val < 512 * n
      · rw [if_pos h2, if_pos (by omega)]
      · rw [if_neg h2, if_neg (by omega)]

/-- A block of hidden units adds its products to the running sum, which starts at zero. -/
theorem accNext_at (i : grid0.Coords) (X2 : Vec Ideal S512x4096 .bf16) (X5 : Vec Ideal S4096x1024 .bf16) (X6 : Vec Ideal S1024x4096 .bf16) (A : Vec Ideal S512x4096 .f32) (r : Fin 512) (c : Fin 4096) :
    @Eq EReal (accNext i X2 X5 X6 A (ix2 r c))
      ((if (i 1).val = 0 then 0 else (show EReal from A (ix2 r c))) + ∑ k : Fin 1024, (show EReal from hid X2 X5 (ix2 r k)) * X6 (ix2 k c)) := by
  unfold accNext
  refine (accUpTo_at _ _ _ 8 r c).trans ?_
  rw [if_pos (by have := c.isLt; omega)]
  refine congrArg₂ (fun u v : EReal => u + v) ?_ rfl
  split_ifs with h
  · show Ideal.ofBits .f32 0x00000000#32 = 0
    simp
  · rfl

/-- A strip, at an index. -/
theorem strip_at (X3 : Vec Ideal S1x1x4096 .f32) (X4 : Vec Ideal S1x4096 .f32) (B x : FVec Ideal S128x4096 .f32) (r : Fin 128) (c : Fin 4096) :
    @Eq EReal (strip X3 X4 B x (ix2 r c))
      (x (ix2 r c) + X3 (ix3 0 0 c) * (B (ix2 r c)
        * Ideal.rsqrt (Ideal.div (∑ k : Fin 4096, B (ix2 r k) * B (ix2 r k)) (Ideal.ofBits .f32 0x45800000#32) + Ideal.ofBits .f32 0x358637BD#32)
        * X4 (ix2 0 c))) := by
  pointwise [strip]

end Cert.Kernel2Ideal.Ffn

end
-- ==== Proof.FfnIdealRead.lean ====
/-
  What the feed-forward kernel's body reads back: pieces of the running sum, slots of the residual, the strips sent out.
-/
module

public import proofs.«01_k».proof.Proof.FfnIdealState
public import Idealize.ShloMosaic.Lib.Pointwise.Reshape
public import Idealize.ShloMosaic.Lib.Pipeline.Value
public import Idealize.ShloMosaic.Lib.VecWindow
public import Idealize.ShloMosaic.Lib.Exec
public import Idealize.ShloMosaic.Lib.ReshapeSlab
public import Idealize.ShloMosaic.Lib.Tactic
public import Idealize.ShloMosaic.Lib.Pipeline.Kit
public import Idealize.ShloMosaic.Lib.Pipeline.FrameValue

@[expose] public section

set_option maxRecDepth 16384

noncomputable section

namespace Cert.Kernel2Ideal.Ffn

open Cert.Kernel2Ideal Cert.Kernel2Ideal.Gen
open Cert.KernelIdeal.Attn (blk readAt_blk)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The buffers the body is called with besides its windows: the running sum, the residual's two slots, the residual and
    the result. -/
abbrev accM : Memref sig .tc .vmem S512x4096 .f32 := Memref.whole cc0_scratch0
abbrev xsM : Memref sig .tc .vmem S2x128x4096 .f32 := Memref.whole cc0_scratch1
abbrev xM : Memref sig .tc .hbm S16384x4096 .f32 := Memref.whole main_arg0
abbrev oM : Memref sig .tc .hbm S16384x4096 .f32 := Memref.whole main_v1

section
variable (c : Dev nD) (i : grid0.Coords) {arg6 : Memref sig .tc .vmem S1024x4096 .bf16}

/-- A whole buffer is what it reads as. -/
theorem whole_rep (b : Ref sig .tc) (f : (View.whole b).ty.Contents (Elt F)) {X : b.ty.shape.Idx → Elt F b.ty.elt} (h : (View.whole b).read (Elt F) f = X) : f = (View.whole b).rep X := by
  subst h
  have e := (View.read_rep (View.whole b) ((View.whole b).read (Elt F) f)).symm
  exact e

/-- The running sum's buffer is what it reads as. -/
theorem acc_rep (f : Buf (Elt F) (accM.view.loc (c : Thread nD τ))) {X : Vec F S512x4096 .f32} (h : accM.view.read (Elt F) f = X) : f = accM.view.rep X :=
  whole_rep cc0_scratch0 f h

/-- The residual's array is what it reads as. -/
theorem x_rep (x : Vec F S16384x4096 .f32) : (x : Buf (Elt F) (xM.view.loc (c : Thread nD τ))) = xM.view.rep x :=
  whole_rep main_arg0 x rfl

/-- Rows as a transfer reads them. -/
theorem slice_read {sp : Space} {s : Shape} {e : EltTy} (M : Memref sig .tc sp s e) (X : Vec F s e) (hpos : ∀ a, 0 < s.size a) {off off' size : Fin s.rank → ℕ} (inb : ∀ a, off a + size a ≤ s.size a) (hr) (h : off = off')
    {f : M.view.ty.Contents (Elt F)} (hf : f = M.view.rep X) :
    View.read (Elt F) (M.slice (Rect.unit off size inb) hr).view f = blk hpos X off' size := by
  subst hf
  exact readAt_blk M.view X hpos inb h

/-- A slot reads what was last transferred to it. -/
theorem slot_hit {sp : Space} {s s' : Shape} {e : EltTy} (M : Memref sig .tc sp s e) (r : Rect s) (hr hq hc) (f : M.view.ty.Contents (Elt F)) (w : Vec F s' e) :
    shapeCast s' (M.view.readAt (Elt F) r.toLoadRect (View.write (Elt F) ((M.slice r hr).squeeze s' hq).view f w Finset.univ)) hc = w :=
  (Memref.read_squeeze_slice M r hr hq hc _).symm.trans (View.read_write_univ _ _)

/-- A transfer to another slot is not seen. -/
theorem slot_miss {sp : Space} {s s' : Shape} {e : EltTy} (M : Memref sig .tc sp s e) (r r' : Rect s) (hr hq hc) (f : M.view.ty.Contents (Elt F)) (w : Vec F s' e)
    (h : Disjoint (M.view.slice r).set (M.view.slice r').set) :
    shapeCast s' (M.view.readAt (Elt F) r.toLoadRect (View.write (Elt F) ((M.slice r' hr).squeeze s' hq).view f w Finset.univ)) hc
      = shapeCast s' (M.view.readAt (Elt F) r.toLoadRect f) hc := by
  refine congrArg (fun v => shapeCast s' v hc) ?_
  refine View.read_congr (v := M.view.slice r) fun j hj => ?_
  refine View.write_of_not_mem _ _ _ fun hm => ?_
  have hm' : j ∈ (M.view.slice r').set := (View.set_reshape (v := M.view.slice r') _) ▸ hm
  exact Finset.disjoint_left.mp h hj hm'

/-- The residual's two slots share no element. -/
theorem slots_disjoint {off off' : Fin 3 → ℕ} (inb : ∀ a, off a + S1x128x4096.size a ≤ S2x128x4096.size a) (inb' : ∀ a, off' a + S1x128x4096.size a ≤ S2x128x4096.size a) (h : off 0 + 1 ≤ off' 0 ∨ off' 0 + 1 ≤ off 0) :
    Disjoint (xsM.view.slice (Rect.unit (s := S2x128x4096) off S1x128x4096.size inb)).set (xsM.view.slice (Rect.unit (s := S2x128x4096) off' S1x128x4096.size inb')).set :=
  View.disjoint_slice_of_sep xsM.view _ _ 0 rfl rfl h

/-- One piece of the running sum as the kernel computes it. -/
theorem piece_eq (n : ℕ) {H H' : FVec F S512x1024 .bf16} {A : Vec F S512x4096 .f32} {X6 : Vec F S1024x4096 .bf16} {Av : Vec F S512x512 .f32} {Xv : Vec F S1024x512 .bf16}
    (hA : Av = blk (s := S512x4096) (by decide) A ![0, 512 * n] S512x512.size) (hH : H' = H) (hX : Xv = blk (s := S1024x4096) (by decide) X6 ![0, 512 * n] S1024x512.size) (hc) :
    shapeCast S512x512 (addf Av (matmul dot_S512x1024_S1024x512_S512x512_1_0_0_1_n_n none H' Xv (constant S512x512 .f32 0x00000000#32))) hc = colStep H X6 A n := by
  subst hA hH hX
  rw [shapeCast_id]
  rfl

/-- Eight pieces of columns written one after another. -/
theorem read_pieces {κ : Kind} {sp : Space} (v : View sig κ sp S512x4096 .f32) (base : v.ty.Contents (Elt F)) (w0 w1 w2 w3 w4 w5 w6 w7 : Vec F S512x512 .f32) (b0 b1 b2 b3 b4 b5 b6 b7) :
    v.read (Elt F) (v.writes (Elt F) base [⟨Rect.unit (s := S512x4096) ![0, 3584] S512x512.size b7, w7⟩, ⟨Rect.unit (s := S512x4096) ![0, 3072] S512x512.size b6, w6⟩, ⟨Rect.unit (s := S512x4096) ![0, 2560] S512x512.size b5, w5⟩, ⟨Rect.unit (s := S512x4096) ![0, 2048] S512x512.size b4, w4⟩,
      ⟨Rect.unit (s := S512x4096) ![0, 1536] S512x512.size b3, w3⟩, ⟨Rect.unit (s := S512x4096) ![0, 1024] S512x512.size b2, w2⟩, ⟨Rect.unit (s := S512x4096) ![0, 512] S512x512.size b1, w1⟩, ⟨Rect.unit (s := S512x4096) ![0, 0] S512x512.size b0, w0⟩])
    = VecWindow.put (VecWindow.put (VecWindow.put (VecWindow.put (VecWindow.put (VecWindow.put (VecWindow.put (VecWindow.put (v.read (Elt F) base) ![0, 512 * 0] S512x512.size w0) ![0, 512 * 1] S512x512.size w1) ![0, 512 * 2] S512x512.size w2) ![0, 512 * 3] S512x512.size w3)
        ![0, 512 * 4] S512x512.size w4) ![0, 512 * 5] S512x512.size w5) ![0, 512 * 6] S512x512.size w6) ![0, 512 * 7] S512x512.size w7 := by
  rw [View.read_writes_cons_put v base b7 w7 _ (off' := ![0, 512 * 7]) rfl, View.read_writes_cons_put v base b6 w6 _ (off' := ![0, 512 * 6]) rfl, View.read_writes_cons_put v base b5 w5 _ (off' := ![0, 512 * 5]) rfl,
    View.read_writes_cons_put v base b4 w4 _ (off' := ![0, 512 * 4]) rfl, View.read_writes_cons_put v base b3 w3 _ (off' := ![0, 512 * 3]) rfl, View.read_writes_cons_put v base b2 w2 _ (off' := ![0, 512 * 2]) rfl,
    View.read_writes_cons_put v base b1 w1 _ (off' := ![0, 512 * 1]) rfl, View.read_writes_cons_put v base b0 w0 _ (off' := ![0, 512 * 0]) rfl]
  rfl

/-- The running sum after its eight pieces. -/
theorem pieces_eq {H : FVec F S512x1024 .bf16} {X6 : Vec F S1024x4096 .bf16} {A R : Vec F S512x4096 .f32} (hb : R = A)
    {w0 w1 w2 w3 w4 w5 w6 w7 : Vec F S512x512 .f32} (e0 : w0 = colStep H X6 A 0) (e1 : w1 = colStep H X6 A 1) (e2 : w2 = colStep H X6 A 2) (e3 : w3 = colStep H X6 A 3)
    (e4 : w4 = colStep H X6 A 4) (e5 : w5 = colStep H X6 A 5) (e6 : w6 = colStep H X6 A 6) (e7 : w7 = colStep H X6 A 7) :
    VecWindow.put (VecWindow.put (VecWindow.put (VecWindow.put (VecWindow.put (VecWindow.put (VecWindow.put (VecWindow.put R ![0, 512 * 0] S512x512.size w0) ![0, 512 * 1] S512x512.size w1) ![0, 512 * 2] S512x512.size w2) ![0, 512 * 3] S512x512.size w3)
        ![0, 512 * 4] S512x512.size w4) ![0, 512 * 5] S512x512.size w5) ![0, 512 * 6] S512x512.size w6) ![0, 512 * 7] S512x512.size w7 = accUpTo H X6 A 8 := by
  rw [e0, e1, e2, e3, e4, e5, e6, e7, hb]
  simp only [accUpTo]

/-- A strip as the kernel computes it. -/
theorem strip_eq (n : ℕ) {X3' X3 : Vec F S1x1x4096 .f32} {X4' X4 : Vec F S1x4096 .f32} {B' x' : Vec F S128x4096 .f32} {B : Vec F S512x4096 .f32} {x : Vec F S16384x4096 .f32} (h3 : X3' = X3) (h4 : X4' = X4)
    (hB : B' = blk (s := S512x4096) (by decide) B ![128 * n, 0] S128x4096.size) (hx : x' = blk (s := S16384x4096) (by decide) x ![512 * (i 0).val + 128 * n, 0] S128x4096.size) (hc) :
    shapeCast S128x4096 (strip X3' X4' B' x') hc = stripAt (i 0).val X3 X4 B x n := by
  subst h3 h4 hB hx
  rw [shapeCast_id]
  rfl

/-- Four strips of rows written one after another. -/
theorem read_strips {κ : Kind} {sp : Space} (v : View sig κ sp S16384x4096 .f32) (o : v.ty.Contents (Elt F)) (d0 d1 d2 d3 : Vec F S128x4096 .f32) (b0 b1 b2 b3) :
    v.read (Elt F) (v.writes (Elt F) o [⟨Rect.unit (s := S16384x4096) (k0_off1 i 384#32) S128x4096.size b3, d3⟩, ⟨Rect.unit (s := S16384x4096) (k0_off1 i 256#32) S128x4096.size b2, d2⟩, ⟨Rect.unit (s := S16384x4096) (k0_off1 i 128#32) S128x4096.size b1, d1⟩, ⟨Rect.unit (s := S16384x4096) (k0_off1 i 0#32) S128x4096.size b0, d0⟩])
    = VecWindow.put (VecWindow.put (VecWindow.put (VecWindow.put (v.read (Elt F) o) ![512 * (i 0).val + 128 * 0, 0] S128x4096.size d0) ![512 * (i 0).val + 128 * 1, 0] S128x4096.size d1) ![512 * (i 0).val + 128 * 2, 0] S128x4096.size d2) ![512 * (i 0).val + 128 * 3, 0] S128x4096.size d3 := by
  rw [View.read_writes_cons_put v o b3 d3 _ (off1_eq i 384 (by decide)), View.read_writes_cons_put v o b2 d2 _ (off1_eq i 256 (by decide)), View.read_writes_cons_put v o b1 d1 _ (off1_eq i 128 (by decide)), View.read_writes_cons_put v o b0 d0 _ (off1_eq i 0 (by decide))]
  rfl

/-- The result after the four strips have been sent out. -/
theorem strips_eq {X3 : Vec F S1x1x4096 .f32} {X4 : Vec F S1x4096 .f32} {B : Vec F S512x4096 .f32} {x o : Vec F S16384x4096 .f32} {b : ℕ} {d0 d1 d2 d3 : Vec F S128x4096 .f32}
    (e0 : d0 = stripAt b X3 X4 B x 0) (e1 : d1 = stripAt b X3 X4 B x 1) (e2 : d2 = stripAt b X3 X4 B x 2) (e3 : d3 = stripAt b X3 X4 B x 3) :
    VecWindow.put (VecWindow.put (VecWindow.put (VecWindow.put o ![512 * b + 128 * 0, 0] S128x4096.size d0) ![512 * b + 128 * 1, 0] S128x4096.size d1) ![512 * b + 128 * 2, 0] S128x4096.size d2) ![512 * b + 128 * 3, 0] S128x4096.size d3 = outUpTo b X3 X4 B x o 4 := by
  rw [e0, e1, e2, e3]
  simp only [outUpTo]

/-- The same, each strip written through its own slice. -/
theorem read_slices {sp : Space} (M : Memref sig .tc sp S16384x4096 .f32) (o : M.view.ty.Contents (Elt F)) (d0 d1 d2 d3 : Vec F S128x4096 .f32) (b0 b1 b2 b3 h0 h1 h2 h3) :
    M.view.read (Elt F) (View.write (Elt F) (M.slice (Rect.unit (s := S16384x4096) (k0_off1 i 384#32) S128x4096.size b3) h3).view (View.write (Elt F) (M.slice (Rect.unit (s := S16384x4096) (k0_off1 i 256#32) S128x4096.size b2) h2).view
      (View.write (Elt F) (M.slice (Rect.unit (s := S16384x4096) (k0_off1 i 128#32) S128x4096.size b1) h1).view (View.write (Elt F) (M.slice (Rect.unit (s := S16384x4096) (k0_off1 i 0#32) S128x4096.size b0) h0).view
        o d0 Finset.univ) d1 Finset.univ) d2 Finset.univ) d3 Finset.univ)
    = VecWindow.put (VecWindow.put (VecWindow.put (VecWindow.put (M.view.read (Elt F) o) ![512 * (i 0).val + 128 * 0, 0] S128x4096.size d0) ![512 * (i 0).val + 128 * 1, 0] S128x4096.size d1) ![512 * (i 0).val + 128 * 2, 0] S128x4096.size d2) ![512 * (i 0).val + 128 * 3, 0] S128x4096.size d3 :=
  read_strips i M.view o d0 d1 d2 d3 b0 b1 b2 b3

/-- The result's array is what it reads as. -/
theorem out_rep (f : Buf (Elt F) (oM.view.loc (c : Thread nD τ))) {X : Vec F S16384x4096 .f32} (h : oM.view.read (Elt F) f = X) : f = X :=
  (whole_rep main_v1 f h).trans (whole_rep main_v1 X rfl).symm

end
end Cert.Kernel2Ideal.Ffn
end
-- ==== Proof.FfnIdealBody.lean ====
/-
  One grid point of the feed-forward kernel: the running sum after it, and at the last block of hidden units the four
  strips of rows sent out, each transfer waited for.
-/
module

public import proofs.«01_k».proof.Proof.FfnIdealRead
public import Idealize.ShloMosaic.Lib.Exec
public import Idealize.ShloMosaic.Lib.ReshapeSlab
public import Idealize.ShloMosaic.Lib.Tactic
public import Idealize.ShloMosaic.Lib.Pipeline.Kit
public import Idealize.ShloMosaic.Lib.Pipeline.FrameValue

@[expose] public section

set_option maxRecDepth 16384

noncomputable section

namespace Cert.Kernel2Ideal.Ffn

open Cert.Kernel2Ideal Cert.Kernel2Ideal.Gen
open Cert.KernelIdeal.Attn (blk readAt_blk)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The result's buffer holds the four strips after the transfers out. -/
theorem out_own (c : Dev nD) {f g : Buf (Elt F) (oM.view.loc (c : Thread nD τ))} (h : f = g) :
    (oM.view.loc (c : Thread nD τ) ↦{fullShare} f : sProp 𝕄) ⊢ oM.view.loc (c : Thread nD τ) ↦{fullShare} g := by
  subst h
  exact .rfl

/-- The running sum's buffer holds something. -/
theorem acc_own (c : Dev nD) (f : Buf (Elt F) (accM.view.loc (c : Thread nD τ))) :
    (accM.view.loc (c : Thread nD τ) ↦{fullShare} f : sProp 𝕄) ⊢ ∃ A : Vec F S512x4096 .f32, accM.view.loc (c : Thread nD τ) ↦{fullShare} accM.view.rep A := by
  iintro H
  iexists accM.view.read (Elt F) f
  rw [← acc_rep c f rfl]
  iexact H

section
variable (𝒱 : Variants) (c : Dev nD) (i : grid0.Coords) (arg2 : Memref sig .tc .vmem S512x4096 .bf16) (harg2 : arg2.IsWhole) (arg3 : Memref sig .tc .vmem S1x1x4096 .f32) (harg3 : arg3.IsWhole) (arg4 : Memref sig .tc .vmem S1x4096 .f32) (harg4 : arg4.IsWhole) (arg5 : Memref sig .tc .vmem S4096x1024 .bf16) (harg5 : arg5.IsWhole) (arg6 : Memref sig .tc .vmem S1024x4096 .bf16) (harg6 : arg6.IsWhole)

/-- The body at grid point `i` on five window buffers. -/
abbrev body := cc0_ffn (F := F) i arg2 harg2 arg3 harg3 arg4 harg4 arg5 harg5 arg6 harg6 xM (Memref.isWhole_whole _) oM (Memref.isWhole_whole _) accM (Memref.isWhole_whole _) xsM (Memref.isWhole_whole _) cc0_scratch2 cc0_scratch3

/-- What the body holds: its windows' blocks, the running sum, the residual, the result, the slots, the six counters. -/
def held (X2 : Vec F S512x4096 .bf16) (X3 : Vec F S1x1x4096 .f32) (X4 : Vec F S1x4096 .f32) (X5 : Vec F S4096x1024 .bf16) (X6 : Vec F S1024x4096 .bf16)
    (A : Buf (Elt F) (accM.view.loc (c : Thread nD τ))) (x : Buf (Elt F) (xM.view.loc (c : Thread nD τ))) (o : Buf (Elt F) (oM.view.loc (c : Thread nD τ))) (xs : Buf (Elt F) (xsM.view.loc (c : Thread nD τ))) (W : Waits sig Unit) : sProp 𝕄 :=
  iprop((arg2.view.loc (c : Thread nD τ) ↦[arg2.view.set]{fullShare} arg2.view.rep X2) ∗ (arg3.view.loc (c : Thread nD τ) ↦[arg3.view.set]{fullShare} arg3.view.rep X3) ∗ (arg4.view.loc (c : Thread nD τ) ↦[arg4.view.set]{fullShare} arg4.view.rep X4) ∗ (arg5.view.loc (c : Thread nD τ) ↦[arg5.view.set]{fullShare} arg5.view.rep X5) ∗ (arg6.view.loc (c : Thread nD τ) ↦[arg6.view.set]{fullShare} arg6.view.rep X6) ∗ (accM.view.loc (c : Thread nD τ) ↦{fullShare} A)
      ∗ (xM.view.loc (c : Thread nD τ) ↦{fullShare} x) ∗ (oM.view.loc (c : Thread nD τ) ↦{fullShare} o) ∗ (xsM.view.loc (c : Thread nD τ) ↦{fullShare} xs)
      ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ owes (c : Thread nD τ) 0 W)

/-- The rows two transfers move, at strips `p ≠ q` of one row block, share no element of their array. -/
theorem rows_disjoint (M : Memref sig .tc .hbm S16384x4096 .f32) (p q : BitVec 32)
    (ha : ∀ a, (k0_off1 i p) a + S128x4096.size a ≤ S16384x4096.size a) (hb : ∀ a, (k0_off1 i q) a + S128x4096.size a ≤ S16384x4096.size a)
    (h : p.toNat < 512 ∧ q.toNat < 512 ∧ (p.toNat + 128 ≤ q.toNat ∨ q.toNat + 128 ≤ p.toNat)) :
    Disjoint (M.slice (Rect.unit (s := S16384x4096) (k0_off1 i p) S128x4096.size ha) (fun _ => rfl)).view.set (M.slice (Rect.unit (s := S16384x4096) (k0_off1 i q) S128x4096.size hb) (fun _ => rfl)).view.set := by
  obtain ⟨hp, hq, h⟩ := h
  have ep : k0_off1 i p = ![512 * (i 0).val + p.toNat, 0] := by simpa using off1_eq i p.toNat hp
  have eq : k0_off1 i q = ![512 * (i 0).val + q.toNat, 0] := by simpa using off1_eq i q.toNat hq
  refine View.disjoint_slice_of_sep M.view _ _ 0 rfl rfl ?_
  show k0_off1 i p 0 + 128 ≤ k0_off1 i q 0 ∨ k0_off1 i q 0 + 128 ≤ k0_off1 i p 0
  rw [ep, eq]
  simp only [Matrix.cons_val_zero]
  omega

set_option maxHeartbeats 1000000 in
/-- The body at any grid point. -/
theorem body_triple (bd : Option 𝒱.V) (X2 : Vec F S512x4096 .bf16) (X3 : Vec F S1x1x4096 .f32) (X4 : Vec F S1x4096 .f32) (X5 : Vec F S4096x1024 .bf16) (X6 : Vec F S1024x4096 .bf16)
    (A : Vec F S512x4096 .f32) (x o : Vec F S16384x4096 .f32) (xs : Buf (Elt F) (xsM.view.loc (c : Thread nD τ))) (W : Waits sig Unit) :
    held c arg2 arg3 arg4 arg5 arg6 X2 X3 X4 X5 X6 (accM.view.rep A) x o xs W
    ⊢ wp frame (wpE (defs₀ (F := F)) 𝒱 (c : Thread nD τ) bd) Set.univ (body i arg2 harg2 arg3 harg3 arg4 harg4 arg5 harg5 arg6 harg6)
        (fun _ => iprop(∃ (A' : Vec F S512x4096 .f32) (xs' : Buf (Elt F) (xsM.view.loc (c : Thread nD τ))) (W' : Waits sig Unit),
          ⌜(i 1).val ≠ 15 → A' = accNext i X2 X5 X6 A⌝ ∗ held c arg2 arg3 arg4 arg5 arg6 X2 X3 X4 X5 X6 (accM.view.rep A') x (outNext i X3 X4 (accNext i X2 X5 X6 A) x o) xs' W')) := by
  have hx := rows_disjoint i xM
  have ho := rows_disjoint i oM
  unfold held body cc0_ffn
  iintro ⟨H2, H3, H4, H5, H6, H9, H7, H8, H10, s0, s1, s2, s3, s4, s5, HO⟩
  set_option sl_exec.stopBefore "k0_cond2" in
  sl_exec
  have eb : (if hc : body_triple.sl.v9 i = 1#1 then accM.view.writes (Elt F) (accM.view.rep A) [⟨Rect.unit (s := S512x4096) ![0, 0] S512x4096.size inb_S512x4096_S512x4096_0_0, body_triple.sl.v72⟩] else accM.view.rep A) = accM.view.rep (if (i 1).val = 0 then accZero else A) := by
    by_cases hz : body_triple.sl.v9 i = 1#1
    · rw [dif_pos hz, if_pos ((cond1_iff i).mp hz)]
      refine acc_rep c _ ?_
      rw [View.read_writes_full]
      exact shapeCast_id _ _
    · rw [dif_neg hz, if_neg fun e => hz ((cond1_iff i).mpr e)]
  have eH : hid (arg2.view.readAt (Elt F) (Rect.unit (s := S512x4096) ![0, 0] S512x4096.size inb_S512x4096_S512x4096_0_0).toLoadRect (arg2.view.rep X2)) (arg5.view.readAt (Elt F) (Rect.unit (s := S4096x1024) ![0, 0] S4096x1024.size inb_S4096x1024_S4096x1024_0_0).toLoadRect (arg5.view.rep X5)) = hid X2 X5 := by
    rw [View.readAt_rep_full, View.readAt_rep_full]
  have ep : ∀ (n : ℕ) {off : Fin 2 → ℕ} (hoff : off = ![0, 512 * n]) (b1 b2) (hc), shapeCast S512x512 (addf (accM.view.readAt (Elt F) (Rect.unit (s := S512x4096) off S512x512.size b1).toLoadRect (if hc : body_triple.sl.v9 i = 1#1 then accM.view.writes (Elt F) (accM.view.rep A) [⟨Rect.unit (s := S512x4096) ![0, 0] S512x4096.size inb_S512x4096_S512x4096_0_0, body_triple.sl.v72⟩] else accM.view.rep A))
      (matmul dot_S512x1024_S1024x512_S512x512_1_0_0_1_n_n none (hid (arg2.view.readAt (Elt F) (Rect.unit (s := S512x4096) ![0, 0] S512x4096.size inb_S512x4096_S512x4096_0_0).toLoadRect (arg2.view.rep X2)) (arg5.view.readAt (Elt F) (Rect.unit (s := S4096x1024) ![0, 0] S4096x1024.size inb_S4096x1024_S4096x1024_0_0).toLoadRect (arg5.view.rep X5)))
        (arg6.view.readAt (Elt F) (Rect.unit (s := S1024x4096) off S1024x512.size b2).toLoadRect (arg6.view.rep X6)) (constant S512x512 .f32 0x00000000#32))) hc = colStep (hid X2 X5) X6 (if (i 1).val = 0 then accZero else A) n := fun n off hoff b1 b2 hc =>
    piece_eq n ((congrArg _ eb).trans (readAt_blk accM.view _ (by decide) b1 hoff)) eH (readAt_blk arg6.view X6 (by decide) b2 hoff) hc
  have eA : ∀ f : Buf (Elt F) (accM.view.loc (c : Thread nD τ)), f = accM.view.writes (Elt F) (if hc : body_triple.sl.v9 i = 1#1 then accM.view.writes (Elt F) (accM.view.rep A) [⟨Rect.unit (s := S512x4096) ![0, 0] S512x4096.size inb_S512x4096_S512x4096_0_0, body_triple.sl.v72⟩] else accM.view.rep A)
      [⟨Rect.unit (s := S512x4096) ![0, 3584] S512x512.size inb_S512x4096_S512x512_0_3584, body_triple.sl.v65 i arg2 arg5 arg6 X2 X5 X6 A⟩, ⟨Rect.unit (s := S512x4096) ![0, 3072] S512x512.size inb_S512x4096_S512x512_0_3072, body_triple.sl.v58 i arg2 arg5 arg6 X2 X5 X6 A⟩,
       ⟨Rect.unit (s := S512x4096) ![0, 2560] S512x512.size inb_S512x4096_S512x512_0_2560, body_triple.sl.v51 i arg2 arg5 arg6 X2 X5 X6 A⟩, ⟨Rect.unit (s := S512x4096) ![0, 2048] S512x512.size inb_S512x4096_S512x512_0_2048, body_triple.sl.v44 i arg2 arg5 arg6 X2 X5 X6 A⟩,
       ⟨Rect.unit (s := S512x4096) ![0, 1536] S512x512.size inb_S512x4096_S512x512_0_1536, body_triple.sl.v37 i arg2 arg5 arg6 X2 X5 X6 A⟩, ⟨Rect.unit (s := S512x4096) ![0, 1024] S512x512.size inb_S512x4096_S512x512_0_1024, body_triple.sl.v30 i arg2 arg5 arg6 X2 X5 X6 A⟩,
       ⟨Rect.unit (s := S512x4096) ![0, 512] S512x512.size inb_S512x4096_S512x512_0_512, body_triple.sl.v23 i arg2 arg5 arg6 X2 X5 X6 A⟩, ⟨Rect.unit (s := S512x4096) ![0, 0] S512x512.size inb_S512x4096_S512x512_0_0, body_triple.sl.v16 i arg2 arg5 arg6 X2 X5 X6 A⟩] → f = accM.view.rep (accNext i X2 X5 X6 A) := by
    rintro f rfl
    refine acc_rep c _ ((read_pieces accM.view _ _ _ _ _ _ _ _ _ _ _ _ _ _ _ _ _).trans (pieces_eq ((congrArg (accM.view.read (Elt F)) eb).trans (View.read_rep _ _)) ?_ ?_ ?_ ?_ ?_ ?_ ?_ ?_))
    · exact ep 0 rfl _ _ _
    · exact ep 1 rfl _ _ _
    · exact ep 2 rfl _ _ _
    · exact ep 3 rfl _ _ _
    · exact ep 4 rfl _ _ _
    · exact ep 5 rfl _ _ _
    · exact ep 6 rfl _ _ _
    · exact ep 7 rfl _ _ _
  rw [eA _ rfl]
  generalize accNext i X2 X5 X6 A = B
  by_cases h2 : k0_cond2 i = 1#1
  · have h15 := (cond2_iff i).mp h2
    rw [dif_pos h2]
    set_option sl_exec.dmaWindow true in
    sl_exec
    have e0 : body_triple.sl.v111 c i arg3 arg4 X3 X4 x xs B h2 = stripAt (i 0).val X3 X4 B x 0 := by
      refine strip_eq i 0 (View.readAt_rep_full _ _ _) (View.readAt_rep_full _ _ _) (readAt_blk accM.view B (by decide) _ rfl) ?_ _
      exact (slot_miss xsM _ _ _ _ _ _ _ (slots_disjoint _ _ (by decide))).trans ((slot_hit xsM _ _ _ _ _ _).trans (slice_read xM x (by decide) _ _ (off1_eq i 0 (by decide)) (x_rep x)))
    have e1 : body_triple.sl.v152 c i arg3 arg4 X3 X4 x xs B h2 = stripAt (i 0).val X3 X4 B x 1 := by
      refine strip_eq i 1 (View.readAt_rep_full _ _ _) (View.readAt_rep_full _ _ _) (readAt_blk accM.view B (by decide) _ rfl) ?_ _
      exact (slot_miss xsM _ _ _ _ _ _ _ (slots_disjoint _ _ (by decide))).trans ((slot_hit xsM _ _ _ _ _ _).trans (slice_read xM x (by decide) _ _ (off1_eq i 128 (by decide)) (x_rep x)))
    have e2 : body_triple.sl.v193 c i arg3 arg4 X3 X4 x xs B h2 = stripAt (i 0).val X3 X4 B x 2 := by
      refine strip_eq i 2 (View.readAt_rep_full _ _ _) (View.readAt_rep_full _ _ _) (readAt_blk accM.view B (by decide) _ rfl) ?_ _
      exact (slot_miss xsM _ _ _ _ _ _ _ (slots_disjoint _ _ (by decide))).trans ((slot_hit xsM _ _ _ _ _ _).trans (slice_read xM x (by decide) _ _ (off1_eq i 256 (by decide)) (x_rep x)))
    have e3 : body_triple.sl.v228 c i arg3 arg4 X3 X4 x xs B h2 = stripAt (i 0).val X3 X4 B x 3 := by
      refine strip_eq i 3 (View.readAt_rep_full _ _ _) (View.readAt_rep_full _ _ _) (readAt_blk accM.view B (by decide) _ rfl) ?_ _
      exact (slot_hit xsM _ _ _ _ _ _).trans (slice_read xM x (by decide) _ _ (off1_eq i 384 (by decide)) (x_rep x))
    sl_step
    ihave H8 := (out_own c (g := outUpTo (i 0).val X3 X4 B x o 4) ?ho) $$ H8
    case ho =>
      refine out_rep c _ ((read_slices i oM o _ _ _ _ _ _ _ _ _ _ _ _).trans (strips_eq ?_ ?_ ?_ ?_))
      · exact (View.read_write_univ _ _).trans e0
      · exact (View.read_write_univ _ _).trans e1
      · exact (View.read_write_univ _ _).trans e2
      · exact (View.read_write_univ _ _).trans e3
    ihave H9 := (acc_own c _) $$ H9
    icases H9 with ⟨%A', H9⟩
    iexists A', _, _
    isplitr
    · ipureintro
      exact fun h => absurd h15 h
    · unfold outNext
      rw [if_pos h15]
      isplitl [H2]; · iexact H2
      isplitl [H3]; · iexact H3
      isplitl [H4]; · iexact H4
      isplitl [H5]; · iexact H5
      isplitl [H6]; · iexact H6
      isplitl [H9]; · iexact H9
      isplitl [H7]; · iexact H7
      isplitl [H8]; · iexact H8
      isplitl [H10]; · iexact H10
      isplitl [s0]; · iexact s0
      isplitl [s1]; · iexact s1
      isplitl [s2]; · iexact s2
      isplitl [s3]; · iexact s3
      isplitl [s4]; · iexact s4
      isplitl [s5]; · iexact s5
      iexact HO
  · have h15 := (cond2_iff i).not.mp h2
    rw [dif_neg h2]
    sl_exec
    sl_step
    iexists B, _, _
    isplitr
    · ipureintro
      exact fun _ => rfl
    · unfold outNext
      rw [if_neg h15]
      isplitl [H2]; · iexact H2
      isplitl [H3]; · iexact H3
      isplitl [H4]; · iexact H4
      isplitl [H5]; · iexact H5
      isplitl [H6]; · iexact H6
      isplitl [H9]; · iexact H9
      isplitl [H7]; · iexact H7
      isplitl [H8]; · iexact H8
      isplitl [H10]; · iexact H10
      isplitl [s0]; · iexact s0
      isplitl [s1]; · iexact s1
      isplitl [s2]; · iexact s2
      isplitl [s3]; · iexact s3
      isplitl [s4]; · iexact s4
      isplitl [s5]; · iexact s5
      iexact HO
end
end Cert.Kernel2Ideal.Ffn
end
-- ==== Proof.FfnIdealFrame.lean ====
/-
  The feed-forward kernel run on the whole grid: at the end the result holds, row block by row block, the strips of the
  row block's complete sum; the run leaves the arguments as they were and every counter at zero.
-/
module

public import proofs.«01_k».proof.Proof.FfnIdealBody
public import Idealize.ShloMosaic.Lib.Pipeline.TableIdle
public import Idealize.ShloMosaic.Lib.Pipeline.FrameValue
public import Idealize.ShloMosaic.Lib.Pipeline.Routed
public import Idealize.ShloMosaic.Lib.Claim

@[expose] public section

set_option maxRecDepth 16384

noncomputable section

namespace Cert.Kernel2Ideal.Ffn

open Cert.Kernel2Ideal Cert.Kernel2Ideal.Gen
open Cert.KernelIdeal.Attn (blk readAt_blk)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the run computes -/

/-- Grid point `t` is row block `t / 16`, block `t % 16` of hidden units. -/
theorem coords_eq (t : Fin cfg0.N) : (grid0.coords t 0).val = t.val / 16 ∧ (grid0.coords t 1).val = t.val % 16 := by
  have h : ∀ t : Fin 512, (grid0.coords t 0).val = t.val / 16 ∧ (grid0.coords t 1).val = t.val % 16 := by decide +kernel
  exact h t

/-- The running sum before point `n`, where it matters. -/
def accAt (c : Dev nD) : ℕ → Vec F S512x4096 .f32
  | 0 => accZero
  | n + 1 => if h : n < cfg0.N then accNext (grid0.coords ⟨n, h⟩) (iblk m c 0 ⟨n, h⟩) (iblk m c 3 ⟨n, h⟩) (iblk m c 4 ⟨n, h⟩) (accAt c n) else accZero

theorem accAt_succ (c : Dev nD) (t : Fin cfg0.N) (A : Vec F S512x4096 .f32) (h : t.val % 16 ≠ 0 → A = accAt m c t.val) :
    accNext (grid0.coords t) (iblk m c 0 t) (iblk m c 3 t) (iblk m c 4 t) A = accAt m c (t.val + 1) := by
  rw [accAt, dif_pos t.isLt]
  by_cases h0 : t.val % 16 = 0
  · unfold accNext
    rw [if_pos ((coords_eq t).2.trans h0), if_pos ((coords_eq t).2.trans h0)]
  · rw [h h0]

/-- The last point of the row block of row `r`. -/
def lastPt (r : Fin 16384) : Fin cfg0.N := ⟨16 * (r.val / 512) + 15, by have := r.isLt; show _ < 512; omega⟩

/-- The result array at the end. -/
def res (c : Dev nD) : Vec F S16384x4096 .f32 := fun y =>
  stripAt ((y 0).val / 512) (iblk m c 1 (lastPt (y 0))) (iblk m c 2 (lastPt (y 0))) (accAt m c (16 * ((y 0).val / 512) + 16)) (V m c main_arg0)
    ((y 0).val % 512 / 128) (Fin.cons (α := fun a => Fin (S128x4096.size a)) (⟨(y 0).val % 128, Nat.mod_lt _ (by decide)⟩ : Fin 128) (Fin.cons (⟨(y 1).val, (y 1).isLt⟩ : Fin 4096) finZeroElim))

/-- The rows of the row blocks before `b` are in place. -/
def OutOk (c : Dev nD) (b : ℕ) (o : Vec F S16384x4096 .f32) : Prop := ∀ y : S16384x4096.Idx, (y 0).val < 512 * b → o y = res m c y

theorem outUpTo_val (b : ℕ) (X3 : Vec F S1x1x4096 .f32) (X4 : Vec F S1x4096 .f32) (B : Vec F S512x4096 .f32) (x o : Vec F S16384x4096 .f32) (n : ℕ) (y : S16384x4096.Idx) :
    outUpTo b X3 X4 B x o n y = if 512 * b ≤ (y 0).val ∧ (y 0).val < 512 * b + 128 * n then
      stripAt b X3 X4 B x (((y 0).val - 512 * b) / 128) (Fin.cons (α := fun a => Fin (S128x4096.size a)) (⟨((y 0).val - 512 * b) % 128, Nat.mod_lt _ (by decide)⟩ : Fin 128) (Fin.cons (⟨(y 1).val, (y 1).isLt⟩ : Fin 4096) finZeroElim)) else o y := by
  induction n with
  | zero => rw [if_neg (by omega)]; rfl
  | succ n ih =>
    show VecWindow.put (outUpTo b X3 X4 B x o n) ![512 * b + 128 * n, 0] S128x4096.size (stripAt b X3 X4 B x n) y = _
    unfold VecWindow.put
    have h1 : (y 1).val < 4096 := (y 1).isLt
    by_cases h : ∀ a, (![512 * b + 128 * n, 0] : Fin 2 → ℕ) a ≤ (y a).val ∧ (y a).val < (![512 * b + 128 * n, 0] : Fin 2 → ℕ) a + S128x4096.size a
    · have h0 : 512 * b + 128 * n ≤ (y 0).val ∧ (y 0).val < 512 * b + 128 * n + 128 := h 0
      have e : ((y 0).val - 512 * b) / 128 = n := by omega
      rw [dif_pos h, if_pos (by omega), e]
      refine congrArg _ (funext fun a => Fin.ext ?_)
      match a with
      | ⟨0, _⟩ => show (y 0).val - (512 * b + 128 * n) = ((y 0).val - 512 * b) % 128; omega
      | ⟨1, _⟩ => show (y 1).val - 0 = (y 1).val; omega
    · rw [dif_neg h, ih]
      have h0 : ¬ (512 * b + 128 * n ≤ (y 0).val ∧ (y 0).val < 512 * b + 128 * n + 128) := fun h0 => h fun a => by
        match a with
        | ⟨0, _⟩ => exact h0
        | ⟨1, _⟩ => exact ⟨Nat.zero_le _, by show (y 1).val < 0 + 4096; omega⟩
      by_cases h2 : 512 * b ≤ (y 0).val ∧ (y 0).val < 512 * b + 128 * n
      · rw [if_pos h2, if_pos (by omega)]
      · rw [if_neg h2, if_neg (by omega)]

/-- One more grid point keeps the finished row blocks in place. -/
theorem outOk_succ (c : Dev nD) (t : Fin cfg0.N) (o : Vec F S16384x4096 .f32) (h : OutOk m c (t.val / 16) o) :
    OutOk m c ((t.val + 1) / 16) (outNext (grid0.coords t) (iblk m c 1 t) (iblk m c 2 t) (accAt m c (t.val + 1)) (V m c main_arg0) o) := by
  intro y hy
  unfold outNext
  by_cases h15 : t.val % 16 = 15
  · rw [if_pos ((coords_eq t).2.trans h15), outUpTo_val, (coords_eq t).1]
    by_cases hb : 512 * (t.val / 16) ≤ (y 0).val
    · have ey : (y 0).val / 512 = t.val / 16 := by omega
      have et : lastPt (y 0) = t := Fin.ext (by show 16 * ((y 0).val / 512) + 15 = t.val; omega)
      rw [if_pos (by omega)]
      unfold res
      rw [et, ey, show 16 * (t.val / 16) + 16 = t.val + 1 by omega, show ((y 0).val - 512 * (t.val / 16)) / 128 = (y 0).val % 512 / 128 by omega]
      refine congrArg _ (funext fun a => Fin.ext ?_)
      match a with
      | ⟨0, _⟩ => show ((y 0).val - 512 * (t.val / 16)) % 128 = (y 0).val % 128; omega
      | ⟨1, _⟩ => rfl
    · rw [if_neg (by omega)]
      exact h y (by omega)
  · rw [if_neg fun e => h15 ((coords_eq t).2.symm.trans e)]
    exact h y (by omega)

/-! ## What the run holds between grid points -/

/-- The six counters of the body's own transfers. -/
abbrev osem0 : Fin 6 → SemLoc sig := fun j => (![SemLoc.dma 8, SemLoc.dma 9, SemLoc.dma 10, SemLoc.dma 11, SemLoc.dma 12, SemLoc.dma 13] : Fin 6 → SemLoc sig) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0 ∗ semVal ((c : Thread nD τ), SemLoc.dma 10) 0
          ∗ semVal ((c : Thread nD τ), SemLoc.dma 11) 0 ∗ semVal ((c : Thread nD τ), SemLoc.dma 12) 0 ∗ semVal ((c : Thread nD τ), SemLoc.dma 13) 0) := by
  rw [Pipeline.ownSems0_eq_of_list c osem0 [0, 1, 2, 3, 4, 5] (by decide) (by decide)]; rfl

/-- The residual is read by the body's own transfers, -/
def H0 : Finset (Ref sig .tc) := {main_arg0}
/-- the result is written by them. -/
def R0 : Finset (Ref sig .tc) := {main_v1}
theorem H0_sub : H0 ⊆ Pipeline.restRefs sig spec0 := by decide
theorem R0_sub : R0 ⊆ Pipeline.restRefs sig spec0 \ H0 := by decide

/-- The unstaged buffers at the end: the result at `res`, the others as the run found them. -/
def G (c : Dev nD) : (b : Ref sig .tc) → Buf (Elt F) ((c.tc : Thread nD τ).loc b) :=
  Function.update (β := fun b => Buf (Elt F) ((c.tc : Thread nD τ).loc b)) (V m c) main_v1 (res m c)

/-- What the body holds before point `n`. -/
def phi (c : Dev nD) (n : ℕ) : sProp 𝕄 :=
  iprop(((∃ A : Vec F S512x4096 .f32, ⌜n % 16 ≠ 0 → A = accAt m c n⌝ ∗ (accM.view.loc (c : Thread nD τ) ↦{fullShare} accM.view.rep A)) ∗ (∃ f : Buf (Elt F) (xsM.view.loc (c : Thread nD τ)), xsM.view.loc (c : Thread nD τ) ↦{fullShare} f))
    ∗ (∃ r, prngReg c r)
    ∗ (semVal ((c : Thread nD τ), SemLoc.dma 8) 0 ∗ semVal ((c : Thread nD τ), SemLoc.dma 9) 0 ∗ semVal ((c : Thread nD τ), SemLoc.dma 10) 0
          ∗ semVal ((c : Thread nD τ), SemLoc.dma 11) 0 ∗ semVal ((c : Thread nD τ), SemLoc.dma 12) 0 ∗ semVal ((c : Thread nD τ), SemLoc.dma 13) 0)
    ∗ (xM.view.loc (c : Thread nD τ) ↦{fullShare} (V m c main_arg0))
    ∗ (∃ o : Vec F S16384x4096 .f32, ⌜OutOk m c (n / 16) o⌝ ∗ (oM.view.loc (c : Thread nD τ) ↦{fullShare} o)))

theorem ends_eq (g : (c : Dev nD) → (b : Ref sig .tc) → Buf (Elt F) ((c.tc : Thread nD τ).loc b)) (c : Dev nD) :
    (Pipeline.ΦDRG osem0 spec0 H0 R0 (V m) g c : sProp 𝕄)
      = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
        ∗ (∃ r, prngReg c r)
        ∗ (semVal ((c : Thread nD τ), SemLoc.dma 8) 0 ∗ semVal ((c : Thread nD τ), SemLoc.dma 9) 0 ∗ semVal ((c : Thread nD τ), SemLoc.dma 10) 0
          ∗ semVal ((c : Thread nD τ), SemLoc.dma 11) 0 ∗ semVal ((c : Thread nD τ), SemLoc.dma 12) 0 ∗ semVal ((c : Thread nD τ), SemLoc.dma 13) 0)
        ∗ (((c.tc : Thread nD τ).loc main_arg0) ↦{fullShare} V m c main_arg0)
        ∗ (((c.tc : Thread nD τ).loc main_v1) ↦{fullShare} g c main_v1)) := by
  rw [Pipeline.ΦDRG_eq, ownSems00_eq, scopedRest0_eq]
  unfold Pipeline.routed H0 R0
  rw [BI.bigSep_singleton, BI.bigSep_singleton]

theorem phi_in (c : Dev nD) : (Pipeline.ΦDRG osem0 spec0 H0 R0 (V m) (V m) c : sProp 𝕄) ⊢ phi m c 0 := by
  rw [ends_eq]
  unfold phi
  iintro ⟨⟨⟨%f, HA⟩, Hx⟩, Hr, Hs, HX, HO⟩
  isplitl [HA Hx]
  · isplitl [HA]
    · ihave HA := (acc_own c f) $$ HA
      icases HA with ⟨%A, HA⟩
      iexists A
      isplitr
      · ipureintro
        exact fun h => absurd rfl h
      · iexact HA
    · iexact Hx
  isplitl [Hr]; · iexact Hr
  isplitl [Hs]; · iexact Hs
  isplitl [HX]; · iexact HX
  iexists _
  isplitr
  swap
  · iexact HO
  · ipureintro
    intro y hy
    exact absurd hy (Nat.not_lt_zero _)

theorem phi_out (c : Dev nD) : phi m c 512 ⊢ (Pipeline.ΦDRG osem0 spec0 H0 R0 (V m) (G m) c : sProp 𝕄) := by
  rw [ends_eq]
  unfold phi
  iintro ⟨⟨⟨%A, -, HA⟩, Hx⟩, Hr, Hs, HX, ⟨%o, %ho, HO⟩⟩
  isplitl [HA Hx]
  · isplitl [HA]
    · iexists _
      iexact HA
    · iexact Hx
  isplitl [Hr]; · iexact Hr
  isplitl [Hs]; · iexact Hs
  isplitl [HX]; · iexact HX
  have e : o = res m c := funext fun y => ho y (y 0).isLt
  rw [show G m c main_v1 = o from (Function.update_self _ _ _).trans e.symm]
  iexact HO

/-- The pipeline's windows hold their blocks throughout. -/
def dats (p : Fin 1) (c : Dev nD) : Dat τ (Elt F) Unit ℕ (Pipeline.UD sig nD τ) ℕ (cfgs p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ n := phi m c n.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-! An input window holds its block when the body runs. -/

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans (by unfold Dat.fetched Dat.blockOf iblk; rw [A_eq]; try rfl)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = phi m c t.val from rfl, show (dats m 0 c).Φ t.succ = phi m c (t.val + 1) from rfl,
    after0_0, after0_1, after0_2, after0_3, after0_4]
  unfold Dat.owesAt Pipeline.owesWithin
  rw [show (dats m 0 c).owed t.castSucc = 0 from rfl, show (dats m 0 c).owed t.succ = 0 from rfl]
  unfold phi
  iintro ⟨⟨⟨⟨%A, %hA, H9⟩, ⟨%xs, H10⟩⟩, Hr, ⟨s0, s1, s2, s3, s4, s5⟩, H7, ⟨%o, %ho, H8⟩⟩, ⟨%W, -, HW⟩, ⟨%d0, H2⟩, ⟨%d1, H3⟩, ⟨%d2, H4⟩, ⟨%d3, H5⟩, ⟨%d4, H6⟩⟩
  ihave H2 := (rep_of_owns (c : Thread nD τ) (st0_0 t) fullShare (iblk m c 0 t)) $$ H2
  ihave H3 := (rep_of_owns (c : Thread nD τ) (st0_1 t) fullShare (iblk m c 1 t)) $$ H3
  ihave H4 := (rep_of_owns (c : Thread nD τ) (st0_2 t) fullShare (iblk m c 2 t)) $$ H4
  ihave H5 := (rep_of_owns (c : Thread nD τ) (st0_3 t) fullShare (iblk m c 3 t)) $$ H5
  ihave H6 := (rep_of_owns (c : Thread nD τ) (st0_4 t) fullShare (iblk m c 4 t)) $$ H6
  iapply (wp_wand_r frame (wpE (defs₀ (F := F)) Variants.none (c : Thread nD τ) none) Set.univ)
  isplitl [H2 H3 H4 H5 H6 H7 H8 H9 H10 s0 s1 s2 s3 s4 s5 HW]
  · iapply (body_triple (F := F) Variants.none c (grid0.coords t) _ _ _ _ _ _ _ _ _ _ none (iblk m c 0 t) (iblk m c 1 t) (iblk m c 2 t) (iblk m c 3 t) (iblk m c 4 t) A (V m c main_arg0) o xs W)
    unfold held
    isplitl [H2]; · iexact H2
    isplitl [H3]; · iexact H3
    isplitl [H4]; · iexact H4
    isplitl [H5]; · iexact H5
    isplitl [H6]; · iexact H6
    isplitl [H9]; · iexact H9
    isplitl [H7]; · iexact H7
    isplitl [H8]; · iexact H8
    isplitl [H10]; · iexact H10
    isplitl [s0]; · iexact s0
    isplitl [s1]; · iexact s1
    isplitl [s2]; · iexact s2
    isplitl [s3]; · iexact s3
    isplitl [s4]; · iexact s4
    isplitl [s5]; · iexact s5
    iexact HW
  iintro %v ⟨%A', %xs', %W', %hA', H⟩
  rw [accAt_succ m c t A hA] at *
  unfold held
  icases H with ⟨H2, H3, H4, H5, H6, H9, H7, H8, H10, s0, s1, s2, s3, s4, s5, HW⟩
  isplitl [H7 H8 H9 H10 s0 s1 s2 s3 s4 s5 Hr]
  · isplitl [H9 H10]
    · isplitl [H9]
      · iexists A'
        isplitr
        · ipureintro
          intro hn
          exact hA' fun e => hn (by have := (coords_eq t).2; omega)
        · iexact H9
      · iexists xs'
        iexact H10
    isplitl [Hr]; · iexact Hr
    isplitl [s0 s1 s2 s3 s4 s5]
    · isplitl [s0]; · iexact s0
      isplitl [s1]; · iexact s1
      isplitl [s2]; · iexact s2
      isplitl [s3]; · iexact s3
      isplitl [s4]; · iexact s4
      iexact s5
    isplitl [H7]; · iexact H7
    iexists _
    isplitr
    swap
    · iexact H8
    · ipureintro
      exact outOk_succ m c t o ho
  isplitl [HW]
  · iexists W'
    isplitr
    · ipureintro
      exact fun _ _ => Or.inl trivial
    · iexact HW
  isplitl [H2]; · iapply (owns_of_rep (c : Thread nD τ) (st0_0 t) fullShare (iblk m c 0 t)) $$ H2
  isplitl [H3]; · iapply (owns_of_rep (c : Thread nD τ) (st0_1 t) fullShare (iblk m c 1 t)) $$ H3
  isplitl [H4]; · iapply (owns_of_rep (c : Thread nD τ) (st0_2 t) fullShare (iblk m c 2 t)) $$ H4
  isplitl [H5]; · iapply (owns_of_rep (c : Thread nD τ) (st0_3 t) fullShare (iblk m c 3 t)) $$ H5
  iapply (owns_of_rep (c : Thread nD τ) (st0_4 t) fullShare (iblk m c 4 t)) $$ H6

/-- The body table's row at point `t`. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
/-- The program up to the kernel's call. -/
theorem upTo_call (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
set_option maxHeartbeats 800000 in
/-- Every run ends with the result at `res`, the other arrays as found, every counter at zero. -/
theorem run_quiescent : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := upTo_call m Variants.none) (hA := A_eq m) (G := G m)
    (hin := phi_in m) (hout := phi_out m)

/-- The run: it ends, the result at `res`, the arguments as they were and every counter at zero. -/
theorem run_all : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v1) = res m c)
      ∧ r.2.sem = fun _ => 0) :=
  (θ_run defs _ _).mono (fun r hr => ⟨fun c => ⟨⟨
      ((hr.1.toR c).2 main_arg0 (Finset.mem_sdiff.mpr ⟨Pipeline.mem_restRefs_of main_arg0 (by decide) (by decide), by decide⟩)).trans (V_main_arg0 m c),
      ((hr.1.toR c).1 0).trans (((dats m 0 c).arrAt_in 0 rfl _).trans ((A_eq m c 0).trans (V_main_arg1 m c))),
      ((hr.1.toR c).2 main_arg2 (Finset.mem_sdiff.mpr ⟨Pipeline.mem_restRefs_of main_arg2 (by decide) (by decide), by decide⟩)).trans (V_main_arg2 m c),
      ((hr.1.toR c).1 2).trans (((dats m 0 c).arrAt_in 2 rfl _).trans ((A_eq m c 2).trans (V_main_arg3 m c))),
      ((hr.1.toR c).1 3).trans (((dats m 0 c).arrAt_in 3 rfl _).trans ((A_eq m c 3).trans (V_main_arg4 m c))),
      ((hr.1.toR c).1 4).trans (((dats m 0 c).arrAt_in 4 rfl _).trans ((A_eq m c 4).trans (V_main_arg5 m c)))⟩,
      (hr.1.written c (by decide)).trans (Function.update_self _ _ _)⟩, hr.2⟩) (run_quiescent m ρ)

end Cert.Kernel2Ideal.Ffn

end
-- ==== Proof.FfnRef.lean ====
/-
  The feed-forward reference over the extended reals, read at one element of its result: the residual, plus the gate of
  the row's sequence times the mixed row, normalised and scaled.
-/
module

public import proofs.«01_k».proof.Proof.Gen.Reference2Ideal.Run
public import Idealize.ShloMosaic.Lib.Pointwise

@[expose] public section

set_option maxRecDepth 16384

noncomputable section

namespace Cert.Reference2Ideal.Ffn

open Cert.Reference2Ideal Cert.Reference2Ideal.Gen
open Idealize.ShloMosaic Idealize.ShloMosaic.TcCoe

/-- The hidden units, their negative values zero. -/
def act (U : FVec Ideal S16384x4096 .bf16) (W1 : FVec Ideal S4096x16384 .bf16) : FVec Ideal S16384x16384 .f32 :=
  maximumf (Host.dotGeneral dot_S16384x4096_S4096x16384_S16384x16384_1_0_0_1_n_n none (extf .f32 U bitsLt_bf16_f32) (extf .f32 W1 bitsLt_bf16_f32))
    (broadcastInDim S16384x16384 ![] bcast_S_S16384x16384 (constant S_ .f32 0x00000000#32))

/-- The mixed rows. -/
def mix (U : FVec Ideal S16384x4096 .bf16) (W1 : FVec Ideal S4096x16384 .bf16) (W2 : FVec Ideal S16384x4096 .bf16) : FVec Ideal S16384x4096 .f32 :=
  Host.dotGeneral dot_S16384x16384_S16384x4096_S16384x4096_1_0_0_1_n_n none (mulf (act U W1) (act U W1)) (extf .f32 W2 bitsLt_bf16_f32)

/-- One over the root of a row's mean square. -/
def inv (B : FVec Ideal S16384x4096 .f32) : FVec Ideal S16384x1 .f32 :=
  Host.rsqrt (addf (Host.divf (broadcastInDim S16384x1 ![0] bcast_S16384_S16384x1_0 (Host.reduceAdd (mulf B B) (constant S_ .f32 0x00000000#32) reducesTo_S16384x4096_S16384_d1 h_S_))
    (broadcastInDim S16384x1 ![] bcast_S_S16384x1 (constant S_ .f32 0x45800000#32))) (broadcastInDim S16384x1 ![] bcast_S_S16384x1 (constant S_ .f32 0x358637BD#32)))

/-- The reference's result from the mixed rows `B`. -/
def post (X : FVec Ideal S16384x4096 .f32) (G : FVec Ideal S2x4096 .f32) (P : FVec Ideal S1x4096 .f32) (B : FVec Ideal S16384x4096 .f32) : FVec Ideal S16384x4096 .f32 :=
  shapeCast S16384x4096 (addf (shapeCast S2x8192x4096 X shapeCasts_S16384x4096_S2x8192x4096)
    (mulf (broadcastInDim S2x8192x4096 ![0, 1, 2] bcast_S2x1x4096_S2x8192x4096_0_1_2 (broadcastInDim S2x1x4096 ![0, 2] bcast_S2x4096_S2x1x4096_0_2 G))
      (shapeCast S2x8192x4096 (mulf (mulf B (broadcastInDim S16384x4096 ![0, 1] bcast_S16384x1_S16384x4096_0_1 (inv B)))
        (broadcastInDim S16384x4096 ![0, 1] bcast_S1x4096_S16384x4096_0_1 P)) shapeCasts_S16384x4096_S2x8192x4096))) shapeCasts_S2x8192x4096_S16384x4096

/-- The reference's run ends with this result and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = post (m ((c.tc : Thread nD τ).loc main_arg0)) (m ((c.tc : Thread nD τ).loc main_arg2))
        (m ((c.tc : Thread nD τ).loc main_arg3)) (mix (m ((c.tc : Thread nD τ).loc main_arg1)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run (F := Ideal) m ρ

/-! ## Element by element -/

variable (U : FVec Ideal S16384x4096 .bf16) (W1 : FVec Ideal S4096x16384 .bf16) (W2 : FVec Ideal S16384x4096 .bf16)

/-- Hidden unit `h` of row `r`: the product, zero if negative, squared. -/
def unit (r h : Fin 16384) : EReal :=
  max (∑ d : Fin 4096, U (ix2 r d) * W1 (ix2 d h)) 0 * max (∑ d : Fin 4096, U (ix2 r d) * W1 (ix2 d h)) 0

theorem act_at (r h : Fin 16384) : @Eq EReal (act U W1 (ix2 r h)) (max (∑ d : Fin 4096, U (ix2 r d) * W1 (ix2 d h)) 0) := by
  pointwise [act]

theorem mix_at (r : Fin 16384) (c : Fin 4096) : @Eq EReal (mix U W1 W2 (ix2 r c)) (∑ h : Fin 16384, unit U W1 r h * W2 (ix2 h c)) := by
  pointwise [mix]
  simp only [act_at]
  rfl

theorem inv_at (B : FVec Ideal S16384x4096 .f32) (r : Fin 16384) : @Eq EReal (inv B (ix2 r 0))
    (Ideal.rsqrt (Ideal.div (∑ c : Fin 4096, B (ix2 r c) * B (ix2 r c)) (Ideal.ofBits .f32 0x45800000#32) + Ideal.ofBits .f32 0x358637BD#32)) := by
  pointwise [inv]

theorem post_at (X : FVec Ideal S16384x4096 .f32) (G : FVec Ideal S2x4096 .f32) (P : FVec Ideal S1x4096 .f32) (B : FVec Ideal S16384x4096 .f32) (r : Fin 16384) (c : Fin 4096) :
    @Eq EReal (post X G P B (ix2 r c))
      (X (ix2 r c) + G (ix2 ⟨r.val / 8192, by omega⟩ c) * (B (ix2 r c)
        * Ideal.rsqrt (Ideal.div (∑ c : Fin 4096, B (ix2 r c) * B (ix2 r c)) (Ideal.ofBits .f32 0x45800000#32) + Ideal.ofBits .f32 0x358637BD#32) * P (ix2 0 c))) := by
  rw [← inv_at]
  pointwise [post]

end Cert.Reference2Ideal.Ffn

end
-- ==== Proof.FfnValue.lean ====
/-
  The feed-forward kernel's result on the whole grid is the reference's: point `16 b + k` adds block `k` of the hidden
  units to the sum of row block `b`, so that after point `16 b + 15` the sum runs over all hidden units.
-/
module

public import proofs.«01_k».proof.Proof.FfnPoint
public import proofs.«01_k».proof.Proof.FfnIdealFrame
public import proofs.«01_k».proof.Proof.FfnRef
public import Idealize.ShloMosaic.Lib.Pipeline.ValueKit
public import Idealize.ShloMosaic.Lib.Claim

@[expose] public section

set_option maxRecDepth 16384

noncomputable section

namespace Cert.Kernel2Ideal.Ffn

open Cert.Kernel2Ideal Cert.Kernel2Ideal.Gen
open Cert.KernelIdeal.Attn (blk readAt_blk)
open Idealize.ShloMosaic Idealize.ShloMosaic.TcCoe Idealize.SL.Sem
open Cert.Reference2Ideal.Ffn (unit mix mix_at inv inv_at post post_at)

/-- Where each window's block of point `t` sits. -/
theorem idx : ∀ t : Fin cfg0.N, win0_0.index t = ![t.val / 16, 0] ∧ win0_1.index t = ![t.val / 256, 0, 0]
    ∧ win0_2.index t = ![0, 0] ∧ win0_3.index t = ![0, t.val % 16] ∧ win0_4.index t = ![t.val % 16, 0] ∧ t.val / 16 < 32 :=
  (by decide +kernel : ∀ t : Fin grid0.N, _)

variable (m : (ℓ : Loc nD τ sig) → Buf (Elt Ideal) ℓ) (c : Dev nD)

/-- The argument arrays. -/
abbrev argX : FVec Ideal S16384x4096 .f32 := m ((c : Thread nD τ).loc main_arg0)
abbrev argU : FVec Ideal S16384x4096 .bf16 := m ((c : Thread nD τ).loc main_arg1)
abbrev argG : FVec Ideal S2x4096 .f32 := m ((c : Thread nD τ).loc main_arg2)
abbrev argP : FVec Ideal S1x4096 .f32 := m ((c : Thread nD τ).loc main_arg3)
abbrev argW1 : FVec Ideal S4096x16384 .bf16 := m ((c : Thread nD τ).loc main_arg4)
abbrev argW2 : FVec Ideal S16384x4096 .bf16 := m ((c : Thread nD τ).loc main_arg5)

/-! ## The blocks at an index -/

theorem u_at (t : Fin cfg0.N) (r : Fin 512) (d : Fin 4096) :
    iblk m c 0 t (ix2 r d) = argU m c (ix2 ⟨512 * (t.val / 16) + r.val, by have := (idx t).2.2.2.2.2; omega⟩ d) := by
  blk_ext [iblk, V_main_arg1, idx t]

theorem gate_at (t : Fin cfg0.N) (d : Fin 4096) :
    iblk m c 1 t (ix3 0 0 d) = argG m c (ix2 ⟨t.val / 256, by have := (idx t).2.2.2.2.2; omega⟩ d) := by
  have e : V m c main_v0 = broadcastInDim S2x1x4096 ![0, 2] bcast_S2x4096_S2x1x4096_0_2 (argG m c) := by
    entry_read
    rfl
  have e2 (g : Fin 2) : V m c main_v0 (ix3 g 0 d) = argG m c (ix2 g d) := by
    rw [e]
    pointwise
  refine Eq.trans ?_ (e2 _)
  blk_ext [iblk, idx t]

theorem post_w_at (t : Fin cfg0.N) (d : Fin 4096) : iblk m c 2 t (ix2 0 d) = argP m c (ix2 0 d) := by
  blk_ext [iblk, V_main_arg3, idx t]

theorem w1_at (t : Fin cfg0.N) (d : Fin 4096) (h : Fin 1024) :
    iblk m c 3 t (ix2 d h) = argW1 m c (ix2 d ⟨1024 * (t.val % 16) + h.val, by omega⟩) := by
  blk_ext [iblk, V_main_arg4, idx t]

theorem w2_at (t : Fin cfg0.N) (h : Fin 1024) (d : Fin 4096) :
    iblk m c 4 t (ix2 h d) = argW2 m c (ix2 ⟨1024 * (t.val % 16) + h.val, by omega⟩ d) := by
  blk_ext [iblk, V_main_arg5, idx t]

/-! ## The running sum -/

/-- What hidden unit `h` adds to column `d` of row `r`; numbers past the end wrap round. -/
def term (r : Fin 16384) (d : Fin 4096) (h : ℕ) : EReal :=
  unit (argU m c) (argW1 m c) r ⟨h % 16384, Nat.mod_lt _ (by decide)⟩ * argW2 m c (ix2 ⟨h % 16384, Nat.mod_lt _ (by decide)⟩ d)

theorem step_at (t : Fin cfg0.N) (r : Fin 512) (d : Fin 4096) (k : Fin 1024) :
    (show EReal from hid (iblk m c 0 t) (iblk m c 3 t) (ix2 r k)) * (show EReal from iblk m c 4 t (ix2 k d))
      = term m c ⟨512 * (t.val / 16) + r.val, by have := (idx t).2.2.2.2.2; omega⟩ d (1024 * (t.val % 16) + k.val) := by
  have e : (⟨(1024 * (t.val % 16) + k.val) % 16384, Nat.mod_lt _ (by decide)⟩ : Fin 16384) = ⟨1024 * (t.val % 16) + k.val, by omega⟩ :=
    Fin.ext (by show (1024 * (t.val % 16) + k.val) % 16384 = 1024 * (t.val % 16) + k.val; have := k.isLt; omega)
  unfold term
  rw [e]
  refine congrArg₂ (fun u v : EReal => u * v) ((hid_at _ _ r k).trans ?_) (w2_at m c t k d)
  have hs : (∑ x : Fin 4096, (show EReal from iblk m c 0 t (ix2 r x)) * (show EReal from iblk m c 3 t (ix2 x k)))
      = ∑ x : Fin 4096, argU m c (ix2 ⟨512 * (t.val / 16) + r.val, by have := (idx t).2.2.2.2.2; omega⟩ x) * argW1 m c (ix2 x ⟨1024 * (t.val % 16) + k.val, by omega⟩) :=
    Finset.sum_congr rfl fun x _ => congrArg₂ (fun u v : EReal => u * v) (u_at m c t r x) (w1_at m c t x k)
  exact congrArg (fun s : EReal => max s 0 * max s 0) hs

/-- After point `16 b + k` the sum runs over the first `k + 1` blocks of hidden units. -/
theorem accAt_at (b : Fin 32) (r : Fin 512) (d : Fin 4096) (k : ℕ) (hk : k < 16) :
    @Eq EReal (accAt m c (16 * b.val + k + 1) (ix2 r d))
      (∑ h ∈ Finset.range (1024 * (k + 1)), term m c ⟨512 * b.val + r.val, by omega⟩ d h) := by
  have hN : 16 * b.val + k < cfg0.N := by show _ < 512; omega
  have hdiv : (16 * b.val + k) / 16 = b.val := by omega
  have hmod : (16 * b.val + k) % 16 = k := by omega
  have hstep : @Eq EReal (accAt m c (16 * b.val + k + 1) (ix2 r d))
      ((if k = 0 then 0 else (show EReal from accAt m c (16 * b.val + k) (ix2 r d)))
        + ∑ x : Fin 1024, term m c ⟨512 * b.val + r.val, by omega⟩ d (1024 * k + x.val)) := by
    rw [accAt, dif_pos hN]
    refine (accNext_at _ _ _ _ _ r d).trans ?_
    have hc : (grid0.coords ⟨16 * b.val + k, hN⟩ 1).val = k := (coords_eq ⟨16 * b.val + k, hN⟩).2.trans hmod
    rw [hc]
    refine congrArg₂ (fun u v : EReal => u + v) rfl (Finset.sum_congr rfl fun x _ => (step_at m c ⟨16 * b.val + k, hN⟩ r d x).trans ?_)
    simp only [hdiv, hmod]
  rw [hstep, Nat.mul_succ, Finset.sum_range_add, ← Finset.sum_range fun x => term m c ⟨512 * b.val + r.val, by omega⟩ d (1024 * k + x)]
  refine congrArg₂ (fun u v : EReal => u + v) ?_ rfl
  cases k with
  | zero => simp
  | succ k => rw [if_neg (Nat.succ_ne_zero k)]; exact accAt_at b r d k (by omega)

/-- After the last block the sum is the reference's mixed row. -/
theorem acc_mix (b : Fin 32) (r : Fin 512) (d : Fin 4096) :
    @Eq EReal (accAt m c (16 * b.val + 16) (ix2 r d))
      (mix (argU m c) (argW1 m c) (argW2 m c) (ix2 ⟨512 * b.val + r.val, by omega⟩ d)) := by
  refine (accAt_at m c b r d 15 (by decide)).trans (Eq.trans ?_ (mix_at _ _ _ _ d).symm)
  show ∑ h ∈ Finset.range 16384, _ = _
  rw [Finset.sum_range]
  refine Finset.sum_congr rfl fun h _ => ?_
  have e : (⟨h.val % 16384, Nat.mod_lt _ (by decide)⟩ : Fin 16384) = h := Fin.ext (Nat.mod_eq_of_lt h.isLt)
  unfold term
  rw [e]

/-! ## The result -/

/-- A strip's element is the reference's, if the sum's row, the residual, the gate and the scale are. -/
theorem strip_post (X3 : Vec Ideal S1x1x4096 .f32) (X4 : Vec Ideal S1x4096 .f32) (B x : FVec Ideal S128x4096 .f32) (X : FVec Ideal S16384x4096 .f32)
    (G : FVec Ideal S2x4096 .f32) (P : FVec Ideal S1x4096 .f32) (M : FVec Ideal S16384x4096 .f32) (r : Fin 128) (R : Fin 16384) (C : Fin 4096)
    (hB : ∀ d : Fin 4096, @Eq EReal (B (ix2 r d)) (M (ix2 R d))) (hx : @Eq EReal (x (ix2 r C)) (X (ix2 R C)))
    (hg : @Eq EReal (X3 (ix3 0 0 C)) (G (ix2 ⟨R.val / 8192, by omega⟩ C))) (hp : @Eq EReal (X4 (ix2 0 C)) (P (ix2 0 C))) :
    @Eq EReal (strip X3 X4 B x (ix2 r C)) (post X G P M (ix2 R C)) := by
  refine (strip_at X3 X4 B x r C).trans (Eq.trans ?_ (post_at X G P M R C).symm)
  rw [hx, hg, hp]
  simp only [hB]

/-- One element of the result. -/
theorem res_at (R : Fin 16384) (C : Fin 4096) : @Eq EReal (res m c (ix2 R C))
    (post (argX m c) (argG m c) (argP m c) (mix (argU m c) (argW1 m c) (argW2 m c)) (ix2 R C)) := by
  have hb : R.val / 512 < 32 := by omega
  have hB (d : Fin 4096) : @Eq EReal (blk (s := S512x4096) (by decide) (accAt m c (16 * (R.val / 512) + 16)) ![128 * (R.val % 512 / 128), 0] S128x4096.size
      (ix2 (⟨R.val % 128, Nat.mod_lt _ (by decide)⟩ : Fin 128) d)) (mix (argU m c) (argW1 m c) (argW2 m c) (ix2 R d)) := by
    refine Eq.trans (congrArg _ (a₂ := ix2 (⟨R.val % 512, Nat.mod_lt _ (by decide)⟩ : Fin 512) d) (funext fun a => Fin.ext ?_))
      ((acc_mix m c ⟨R.val / 512, hb⟩ ⟨R.val % 512, Nat.mod_lt _ (by decide)⟩ d).trans ?_)
    · match a with
      | ⟨0, _⟩ => show (128 * (R.val % 512 / 128) + R.val % 128) % 512 = R.val % 512; omega
      | ⟨1, _⟩ => show (0 + d.val) % 4096 = d.val; omega
    · have e : (⟨512 * (R.val / 512) + R.val % 512, by omega⟩ : Fin 16384) = R := Fin.ext (Nat.div_add_mod _ _)
      exact congrArg (fun R : Fin 16384 => (show EReal from mix (argU m c) (argW1 m c) (argW2 m c) (ix2 R d))) e
  have hx : @Eq EReal (blk (s := S16384x4096) (by decide) (V m c main_arg0) ![512 * (R.val / 512) + 128 * (R.val % 512 / 128), 0] S128x4096.size
      (ix2 (⟨R.val % 128, Nat.mod_lt _ (by decide)⟩ : Fin 128) C)) (argX m c (ix2 R C)) := by
    rw [V_main_arg0]
    refine congrArg (argX m c) (funext fun a => Fin.ext ?_)
    match a with
    | ⟨0, _⟩ => show (512 * (R.val / 512) + 128 * (R.val % 512 / 128) + R.val % 128) % 16384 = R.val; omega
    | ⟨1, _⟩ => show (0 + C.val) % 4096 = C.val; omega
  have hg : @Eq EReal (iblk m c 1 (lastPt R) (ix3 0 0 C)) (argG m c (ix2 ⟨R.val / 8192, by omega⟩ C)) := by
    refine (gate_at m c (lastPt R) C).trans (congrArg (fun g : Fin 2 => argG m c (ix2 g C)) (Fin.ext ?_))
    show (16 * (R.val / 512) + 15) / 256 = R.val / 8192
    omega
  have hp : @Eq EReal (iblk m c 2 (lastPt R) (ix2 0 C)) (argP m c (ix2 0 C)) := post_w_at m c (lastPt R) C
  refine Eq.trans (congrArg _ (a₂ := ix2 (⟨R.val % 128, Nat.mod_lt _ (by decide)⟩ : Fin 128) C) (funext fun a => Fin.ext ?_))
    (strip_post _ _ _ _ _ _ _ _ ⟨R.val % 128, Nat.mod_lt _ (by decide)⟩ R C hB hx hg hp)
  match a with
  | ⟨0, _⟩ => rfl
  | ⟨1, _⟩ => rfl

/-- **The whole grid.** The kernel's result array is the reference's. -/
theorem final : res m c = post (argX m c) (argG m c) (argP m c) (mix (argU m c) (argW1 m c) (argW2 m c)) := by
  funext y
  have hy : y = ix2 (n0 := 16384) (n1 := 4096) (y 0) (y 1) := by
    funext a
    match a with
    | ⟨0, _⟩ => rfl
    | ⟨1, _⟩ => rfl
  exact (congrArg (res m c) hy).trans ((res_at m c (y 0) (y 1)).trans (congrArg _ hy.symm))

end Cert.Kernel2Ideal.Ffn

end
-- ==== Proof.FfnAlgebraic.lean ====
/-
  The feed-forward call: the frames of its three programs, and that kernel and reference give the same result over the
  extended reals, from any arguments.
-/
module

public import proofs.«01_k».proof.Defs
public import proofs.«01_k».proof.Proof.FfnBitsFrame
public import proofs.«01_k».proof.Proof.FfnValue

@[expose] public section

noncomputable section

namespace Cert.Proof

open Idealize.ShloMosaic Idealize.ShloMosaic.TcCoe Idealize.SL.Sem

/-- The kernel at the words of the machine. -/
theorem frame_ffn_kernel : Cert.quiescent_Kernel2 (hKernel2 := Cert.Kernel2.Gen.facts) :=
  fun m ρ _ => (θ_run _ _ _).mono (fun _ h => ⟨fun c => (h.1 c).1, h.2⟩) (Cert.Kernel2.Ffn.run_all (F := Bits) m ρ)

/-- The kernel over the extended reals. -/
theorem frame_ffn_ideal : Cert.quiescent_Kernel2Ideal (hKernel2Ideal := Cert.Kernel2Ideal.Gen.facts) :=
  fun m ρ _ => (θ_run _ _ _).mono (fun _ h => ⟨fun c => (h.1 c).1, h.2⟩) (Cert.Kernel2Ideal.Ffn.run_all (F := Ideal) m ρ)

/-- The reference over the extended reals: operations of the host only, without any counter. -/
theorem frame_ffn_reference : Cert.quiescent_Reference2Ideal (hReference2Ideal := Cert.Reference2Ideal.Gen.facts) :=
  fun m ρ _ => (θ_run Cert.Reference2Ideal.defs _ _).mono (fun r h => ⟨fun c => (h c).2,
      sem_eq_zero_of_no_sems (by decide) r.2⟩) (Cert.Reference2Ideal.Ffn.run m ρ)

/-- No operation of the kernel is rewritten. -/
theorem ffn_unchanged : Cert.preserves_Kernel2_Kernel2Ideal := trivial

/-- **The value.** Both runs end with the reference's feed-forward result of the arguments. -/
theorem ffn : Cert.algebraic_Kernel2Ideal_Reference2Ideal (hKernel2Ideal := Cert.Kernel2Ideal.Gen.facts)
    (hReference2Ideal := Cert.Reference2Ideal.Gen.facts) := by
  intro m ρ m' ρ' _ hargs
  refine ⟨fun c => Cert.Kernel2Ideal.Ffn.res m c, ?_, ?_⟩
  · exact (θ_run _ _ _).mono (fun r h c => ⟨(h.1 c).2, (h.1 c).1⟩) (Cert.Kernel2Ideal.Ffn.run_all (F := Ideal) m ρ)
  · refine (θ_run _ _ _).mono (fun r h c => ⟨?_, (h c).2⟩) (Cert.Reference2Ideal.Ffn.run m' ρ')
    obtain ⟨e0, e1, e2, e3, e4, e5⟩ := hargs c
    refine (h c).1.trans (Eq.trans ?_ (Cert.Kernel2Ideal.Ffn.final m c).symm)
    rw [e0, e1, e2, e3, e4, e5]

end Cert.Proof

end
-- ==== Proof.InIdealState.lean ====
/-
  What the input projection's body computes, as functions of the blocks it reads: the modulated block in scratch, the
  block of the product it stores.
-/
module

public import proofs.«01_k».proof.Proof.IdealState
public import proofs.«01_k».proof.Proof.Gen.Kernel3Ideal.Frame

@[expose] public section

set_option maxRecDepth 16384

noncomputable section

namespace Cert.Kernel3Ideal.InProj

open Cert.Kernel3Ideal Cert.Kernel3Ideal.Gen
open Cert.KernelIdeal.Attn (blk readAt_blk)
open Idealize.ShloMosaic

variable {F : FTy → Type} [FloatOps F]

/-- A strip of 128 rows `x` normalised, scaled by `g`, then by one plus `sc`, and shifted by `sh`. -/
def strip (X3 : Vec F S1x4096 .f32) (X4 X5 : Vec F S1x1x4096 .f32) (x : FVec F S128x4096 .f32) : FVec F S128x4096 .bf16 :=
  truncf .bf16 (addf (mulf (mulf (mulf x (broadcastTo S128x4096 (rsqrt (addf (divf (shapeCast S128x1 (multiReduction .add [1] S128 (mulf x x) 0x00000000#32 reduces_S128x4096_S128 (.inl rfl) rfl) shapeCasts_S128_S128x1)
      (broadcast S128x1 (Scalar.ofBits .f32 0x45800000#32))) (broadcast S128x1 (Scalar.ofBits .f32 0x358637BD#32)))) broadcasts_S128x1_S128x4096))
      (broadcastTo S128x4096 X3 broadcasts_S1x4096_S128x4096))
      (broadcastTo S128x4096 (addf (broadcast S1x4096 (Scalar.ofBits .f32 0x3F800000#32)) (shapeCast S1x4096 X4 shapeCasts_S1x1x4096_S1x4096)) broadcasts_S1x4096_S128x4096))
      (broadcastTo S128x4096 (shapeCast S1x4096 X5 shapeCasts_S1x1x4096_S1x4096) broadcasts_S1x4096_S128x4096)) bitsLt_bf16_f32

/-- Strip `n` of a block of 512 rows. -/
def stripAt (X2 : Vec F S512x4096 .f32) (X3 : Vec F S1x4096 .f32) (X4 X5 : Vec F S1x1x4096 .f32) (n : ℕ) : FVec F S128x4096 .bf16 :=
  strip X3 X4 X5 (blk (s := S512x4096) (by decide) X2 ![128 * n, 0] S128x4096.size)

/-- The scratch block after the first `n` of its four strips. -/
def uUpTo (X2 : Vec F S512x4096 .f32) (X3 : Vec F S1x4096 .f32) (X4 X5 : Vec F S1x1x4096 .f32) (U : Vec F S512x4096 .bf16) : ℕ → Vec F S512x4096 .bf16
  | 0 => U
  | n + 1 => VecWindow.put (uUpTo X2 X3 X4 X5 U n) ![128 * n, 0] S128x4096.size (stripAt X2 X3 X4 X5 n)

/-- The modulated block: row `r` is row `r % 128` of strip `r / 128`. -/
def uAll (X2 : Vec F S512x4096 .f32) (X3 : Vec F S1x4096 .f32) (X4 X5 : Vec F S1x1x4096 .f32) : Vec F S512x4096 .bf16 := fun y =>
  stripAt X2 X3 X4 X5 ((y 0).val / 128) (Fin.cons (α := fun a => Fin (S128x4096.size a)) (⟨(y 0).val % 128, Nat.mod_lt _ (by decide)⟩ : Fin 128) (Fin.cons (⟨(y 1).val, (y 1).isLt⟩ : Fin 4096) finZeroElim))

theorem uUpTo_val (X2 : Vec F S512x4096 .f32) (X3 : Vec F S1x4096 .f32) (X4 X5 : Vec F S1x1x4096 .f32) (U : Vec F S512x4096 .bf16) (n : ℕ) (y : S512x4096.Idx) :
    uUpTo X2 X3 X4 X5 U n y = if (y 0).val < 128 * n then uAll X2 X3 X4 X5 y else U y := by
  induction n with
  | zero => rw [if_neg (by omega)]; rfl
  | succ n ih =>
    show VecWindow.put (uUpTo X2 X3 X4 X5 U n) ![128 * n, 0] S128x4096.size (stripAt X2 X3 X4 X5 n) y = _
    unfold VecWindow.put
    have h1 : (y 1).val < 4096 := (y 1).isLt
    by_cases h : ∀ a, (![128 * n, 0] : Fin 2 → ℕ) a ≤ (y a).val ∧ (y a).val < (![128 * n, 0] : Fin 2 → ℕ) a + S128x4096.size a
    · have h0 : 128 * n ≤ (y 0).val ∧ (y 0).val < 128 * n + 128 := h 0
      have e : (y 0).val / 128 = n := by omega
      rw [dif_pos h, if_pos (by omega)]
      unfold uAll
      rw [e]
      refine congrArg _ (funext fun a => Fin.ext ?_)
      match a with
      | ⟨0, _⟩ => show (y 0).val - 128 * n = (y 0).val % 128; omega
      | ⟨1, _⟩ => show (y 1).val - 0 = (y 1).val; omega
    · rw [dif_neg h, ih]
      have h0 : ¬ (128 * n ≤ (y 0).val ∧ (y 0).val < 128 * n + 128) := fun h0 => h fun a => by
        match a with
        | ⟨0, _⟩ => exact h0
        | ⟨1, _⟩ => exact ⟨Nat.zero_le _, by show (y 1).val < 0 + 4096; omega⟩
      by_cases h2 : (y 0).val < 128 * n
      · rw [if_pos h2, if_pos (by omega)]
      · rw [if_neg h2, if_neg (by omega)]

/-- After its four strips the scratch block is the modulated block. -/
theorem uUpTo_four (X2 : Vec F S512x4096 .f32) (X3 : Vec F S1x4096 .f32) (X4 X5 : Vec F S1x1x4096 .f32) (U : Vec F S512x4096 .bf16) :
    uUpTo X2 X3 X4 X5 U 4 = uAll X2 X3 X4 X5 := funext fun y => by
  have h0 : (y 0).val < 512 := (y 0).isLt
  rw [uUpTo_val, if_pos (by omega)]

/-- The block of the product. -/
def prod (U : Vec F S512x4096 .bf16) (X6 : Vec F S4096x512 .bf16) : FVec F S512x512 .f32 :=
  matmul dot_S512x4096_S4096x512_S512x512_1_0_0_1_n_n none U X6 (constant S512x512 .f32 0x00000000#32)

/-- It as the first result takes it, -/
def zmBlk (U : Vec F S512x4096 .bf16) (X6 : Vec F S4096x512 .bf16) : Vec F S512x512 .bf16 := truncf .bf16 (prod U X6) bitsLt_bf16_f32

/-- and its first 256 columns, as the second result takes them. -/
def zsBlk (U : Vec F S512x4096 .bf16) (X6 : Vec F S4096x512 .bf16) : Vec F S512x256 .f32 := extractStridedSlice S512x256 ![0, 0] (prod U X6) slices_S512x512_o0_0_S512x256

/-! ## The kernel's words -/

theorem cond1_iff (i : grid0.Coords) : k0_cond1 i = 1#1 ↔ (i 1).val = 0 := by
  have h : ∀ k : Fin 16, (Scalar.cmpi .ne (Scalar.extui (Scalar.cmpi .eq (BitVec.ofNat 32 k.val) 0#32) : BitVec 32) 0#32 = 1#1) ↔ k.val = 0 := by decide +kernel
  exact h (i 1)

theorem cond2_iff (i : grid0.Coords) : k0_cond2 i = 1#1 ↔ (i 1).val < 15 := by
  have h : ∀ k : Fin 16, (Scalar.cmpi .ne (Scalar.extui (Scalar.cmpi .slt (BitVec.ofNat 32 k.val) 15#32) : BitVec 32) 0#32 = 1#1) ↔ k.val < 15 := by decide +kernel
  exact h (i 1)

theorem cond3_iff (i : grid0.Coords) : k0_cond3 i = 1#1 ↔ (i 1).val = 15 := by
  have h : ∀ k : Fin 16, (Scalar.cmpi .ne (Scalar.extui (Scalar.cmpi .eq (BitVec.ofNat 32 k.val) 15#32) : BitVec 32) 0#32 = 1#1) ↔ k.val = 15 := by decide +kernel
  exact h (i 1)

theorem t1_trips : k0_t1_loop.trips = 4 := by decide +kernel

theorem off1 : ∀ t1 : Fin k0_t1_loop.trips, k0_off1 t1 = ![128 * t1.val, 0] := by decide +kernel

end Cert.Kernel3Ideal.InProj

end
-- ==== Proof.InPoint.lean ====
/-
  The input projection's body over the extended reals, read at an index: a modulated row's element, and an element of
  the block of the product.
-/
module

public import proofs.«01_k».proof.Proof.InIdealState
public import Idealize.ShloMosaic.Lib.Pointwise

@[expose] public section

set_option maxRecDepth 16384

noncomputable section

namespace Cert.Kernel3Ideal.InProj

open Cert.Kernel3Ideal Cert.Kernel3Ideal.Gen
open Cert.KernelIdeal.Attn (blk readAt_blk)
open Idealize.ShloMosaic

/-- A strip, at an index. -/
theorem strip_at (X3 : Vec Ideal S1x4096 .f32) (X4 X5 : Vec Ideal S1x1x4096 .f32) (x : FVec Ideal S128x4096 .f32) (r : Fin 128) (d : Fin 4096) :
    @Eq EReal (strip X3 X4 X5 x (ix2 r d))
      (x (ix2 r d) * Ideal.rsqrt (Ideal.div (∑ k : Fin 4096, x (ix2 r k) * x (ix2 r k)) (Ideal.ofBits .f32 0x45800000#32) + Ideal.ofBits .f32 0x358637BD#32)
        * X3 (ix2 0 d) * (Ideal.ofBits .f32 0x3F800000#32 + X4 (ix3 0 0 d)) + X5 (ix3 0 0 d)) := by
  pointwise [strip]

/-- The modulated block, at an index. -/
theorem uAll_at (X2 : Vec Ideal S512x4096 .f32) (X3 : Vec Ideal S1x4096 .f32) (X4 X5 : Vec Ideal S1x1x4096 .f32) (r : Fin 512) (d : Fin 4096) :
    @Eq EReal (uAll X2 X3 X4 X5 (ix2 r d))
      (X2 (ix2 r d) * Ideal.rsqrt (Ideal.div (∑ k : Fin 4096, X2 (ix2 r k) * X2 (ix2 r k)) (Ideal.ofBits .f32 0x45800000#32) + Ideal.ofBits .f32 0x358637BD#32)
        * X3 (ix2 0 d) * (Ideal.ofBits .f32 0x3F800000#32 + X4 (ix3 0 0 d)) + X5 (ix3 0 0 d)) := by
  have hx (k : Fin 4096) : blk (s := S512x4096) (by decide) X2 ![128 * (r.val / 128), 0] S128x4096.size
      (ix2 (⟨r.val % 128, Nat.mod_lt _ (by decide)⟩ : Fin 128) k) = X2 (ix2 r k) := by
    refine congrArg X2 (funext fun a => Fin.ext ?_)
    match a with
    | ⟨0, _⟩ => show (128 * (r.val / 128) + r.val % 128) % 512 = r.val; omega
    | ⟨1, _⟩ => show (0 + k.val) % 4096 = k.val; omega
  refine Eq.trans (congrArg _ (a₂ := ix2 (⟨r.val % 128, Nat.mod_lt _ (by decide)⟩ : Fin 128) d) (funext fun a => Fin.ext ?_))
    ((strip_at X3 X4 X5 (blk (s := S512x4096) (by decide) X2 ![128 * (r.val / 128), 0] S128x4096.size) ⟨r.val % 128, Nat.mod_lt _ (by decide)⟩ d).trans ?_)
  · match a with
    | ⟨0, _⟩ => rfl
    | ⟨1, _⟩ => rfl
  · simp only [hx]

theorem zm_at (U : Vec Ideal S512x4096 .bf16) (X6 : Vec Ideal S4096x512 .bf16) (r c : Fin 512) :
    @Eq EReal (zmBlk U X6 (ix2 r c)) (∑ d : Fin 4096, U (ix2 r d) * X6 (ix2 d c)) := by
  pointwise [zmBlk, prod]

theorem zs_at (U : Vec Ideal S512x4096 .bf16) (X6 : Vec Ideal S4096x512 .bf16) (r : Fin 512) (c : Fin 256) :
    @Eq EReal (zsBlk U X6 (ix2 r c)) (∑ d : Fin 4096, U (ix2 r d) * X6 (ix2 d ⟨c.val, by omega⟩)) := by
  pointwise [zsBlk, prod]

end Cert.Kernel3Ideal.InProj

end
-- ==== Proof.InIdealBody.lean ====
/-
  One grid point of the input projection: at the first column block the scratch block is filled strip by strip, then
  the block of the product goes to the first result, at the last column block to the second.
-/
module

public import proofs.«01_k».proof.Proof.InIdealState
public import Idealize.ShloMosaic.Lib.Exec
public import Idealize.ShloMosaic.Lib.Pointwise.Reshape
public import Idealize.ShloMosaic.Lib.VecWindow
public import Idealize.ShloMosaic.Lib.Tactic
public import Idealize.ShloMosaic.Lib.Pipeline.Kit

@[expose] public section

set_option maxRecDepth 16384

noncomputable section

namespace Cert.Kernel3Ideal.InProj

open Cert.Kernel3Ideal Cert.Kernel3Ideal.Gen
open Cert.KernelIdeal.Attn (blk readAt_blk)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (𝒱 : Variants) (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S4096x512 .bf16) (harg6 : arg6.IsWhole) (arg7 : Memref sig .tc .vmem S512x512 .bf16) (harg7 : arg7.IsWhole) (arg8 : Memref sig .tc .vmem S512x256 .f32) (harg8 : arg8.IsWhole) (arg9 : Memref sig .tc .vmem S512x4096 .bf16) (harg9 : arg9.IsWhole)
  (X2 : Vec F S512x4096 .f32) (X3 : Vec F S1x4096 .f32) (X4 X5 : Vec F S1x1x4096 .f32) (X6 : Vec F S4096x512 .bf16)

/-- What a pass over a strip works on: the rows, the three vectors, the scratch block. -/
def heldU (U : Vec F S512x4096 .bf16) : sProp 𝕄 :=
  iprop((arg2.view.loc (c : Thread nD τ) ↦[arg2.view.set]{fullShare} arg2.view.rep X2) ∗ (arg3.view.loc (c : Thread nD τ) ↦[arg3.view.set]{fullShare} arg3.view.rep X3) ∗ (arg4.view.loc (c : Thread nD τ) ↦[arg4.view.set]{fullShare} arg4.view.rep X4) ∗ (arg5.view.loc (c : Thread nD τ) ↦[arg5.view.set]{fullShare} arg5.view.rep X5) ∗ (arg9.view.loc (c : Thread nD τ) ↦[arg9.view.set]{fullShare} arg9.view.rep U))

/-- The pass over one strip. -/
def pass (h1 : k0_cond1 i = 1#1) (t1 : Fin k0_t1_loop.trips) (_ : PUnit) : Prog (TpuEff nD τ sig (Elt F) Λ₀ .tc) PUnit := do
  let v16 : Vec F S128x4096 .f32 ← Prog.lift (.load arg2 (Rect.unit (s := S512x4096) (k0_off1 t1) S128x4096.size (k0_off1_inb i t1 h1)).toLoadRect (View.loadsAt_vmem h_S128x4096))
  let v17 : Vec F S1x4096 .f32 ← Prog.lift (.load arg3 (Rect.unit (s := S1x4096) ![0, 0] S1x4096.size inb_S1x4096_S1x4096_0_0).toLoadRect (View.loadsAt_vmem h_S1x4096))
  let v30 : Vec F S1x1x4096 .f32 ← Prog.lift (.load arg4 (Rect.unit (s := S1x1x4096) ![0, 0, 0] S1x1x4096.size inb_S1x1x4096_S1x1x4096_0_0_0).toLoadRect (View.loadsAt_vmem h_S1x1x4096))
  let v36 : Vec F S1x1x4096 .f32 ← Prog.lift (.load arg5 (Rect.unit (s := S1x1x4096) ![0, 0, 0] S1x1x4096.size inb_S1x1x4096_S1x1x4096_0_0_0).toLoadRect (View.loadsAt_vmem h_S1x1x4096))
  let v42 : Vec F S128x4096 .bf16 ← Prog.lift (.load arg9 (Rect.unit (s := S512x4096) (k0_off1 t1) S128x4096.size (k0_off1_inb i t1 h1)).toLoadRect (View.loadsAt_vmem h_S128x4096))
  Prog.lift (.store arg9 (Rect.unit (s := S512x4096) (k0_off1 t1) S128x4096.size (k0_off1_inb i t1 h1)) (shapeCast S128x4096 (strip v17 v30 v36 v16) shapeCasts_S128x4096_S128x4096) Finset.univ (View.stores_vmem h_S128x4096 (harg9.storeExact_slice rfl _ (k0_off1_packedbf16 i t1 h1)) (fun _ => rfl)) (.inl rfl))
  pure ⟨⟩

/-- It puts strip `t1` in place. -/
theorem pass_triple (E : Set ℕ) (bd : Option 𝒱.V) (h1 : k0_cond1 i = 1#1) (t1 : Fin k0_t1_loop.trips) (a : PUnit) (U : Vec F S512x4096 .bf16) :
    heldU c arg2 arg3 arg4 arg5 arg9 X2 X3 X4 X5 U
    ⊢ wp frame (wpE (defs₀ (F := F)) 𝒱 (c : Thread nD τ) bd) E (pass (F := F) i arg2 arg3 arg4 arg5 arg9 harg9 h1 t1 a)
        (fun _ => heldU c arg2 arg3 arg4 arg5 arg9 X2 X3 X4 X5 (VecWindow.put U ![128 * t1.val, 0] S128x4096.size (stripAt X2 X3 X4 X5 t1.val))) := by
  unfold heldU pass
  have e2 : arg2.view.readAt (Elt F) (Rect.unit (s := S512x4096) (k0_off1 t1) S128x4096.size (k0_off1_inb i t1 h1)).toLoadRect (arg2.view.rep X2) = blk (s := S512x4096) (by decide) X2 ![128 * t1.val, 0] S128x4096.size :=
    readAt_blk arg2.view X2 (by decide) _ (off1 t1)
  have e3 : arg3.view.readAt (Elt F) (Rect.unit (s := S1x4096) ![0, 0] S1x4096.size inb_S1x4096_S1x4096_0_0).toLoadRect (arg3.view.rep X3) = X3 :=
    View.readAt_rep_full (Val := Elt F) (s := S1x4096) (e := .f32) arg3.view X3 (off := ![0, 0]) inb_S1x4096_S1x4096_0_0
  have e4 : arg4.view.readAt (Elt F) (Rect.unit (s := S1x1x4096) ![0, 0, 0] S1x1x4096.size inb_S1x1x4096_S1x1x4096_0_0_0).toLoadRect (arg4.view.rep X4) = X4 :=
    View.readAt_rep_full (Val := Elt F) (s := S1x1x4096) (e := .f32) arg4.view X4 (off := ![0, 0, 0]) inb_S1x1x4096_S1x1x4096_0_0_0
  have e5 : arg5.view.readAt (Elt F) (Rect.unit (s := S1x1x4096) ![0, 0, 0] S1x1x4096.size inb_S1x1x4096_S1x1x4096_0_0_0).toLoadRect (arg5.view.rep X5) = X5 :=
    View.readAt_rep_full (Val := Elt F) (s := S1x1x4096) (e := .f32) arg5.view X5 (off := ![0, 0, 0]) inb_S1x1x4096_S1x1x4096_0_0_0
  iintro ⟨H2, H3, H4, H5, H9⟩
  sl_exec
  sl_step
  ihave H9 := (pointsTo_rep_of_read (c : Thread nD τ) arg9 _ fullShare (VecWindow.put U ![128 * t1.val, 0] S128x4096.size (stripAt X2 X3 X4 X5 t1.val)) ?h9) $$ H9
  case h9 =>
    rw [View.read_writes_rep_unit arg9.view U _ _ (off1 t1)]
    congr 1
    rw [shapeCast_id]
    rfl
  sl_close

/-- The loop's invariant: before pass `k` the first `k` strips are in place. -/
@[instance_reducible] def passInv (E : Set ℕ) (bd : Option 𝒱.V) (h1 : k0_cond1 i = 1#1) (U : Vec F S512x4096 .bf16) :
    LoopInv (M := 𝕄) frame (wpE (defs₀ (F := F)) 𝒱 (c : Thread nD τ) bd) E
      k0_t1_loop.lb k0_t1_loop.ub k0_t1_loop.st (k0_t1_ok i h1) PUnit.unit (pass (F := F) i arg2 arg3 arg4 arg5 arg9 harg9 h1) where
  inv k _ := heldU c arg2 arg3 arg4 arg5 arg9 X2 X3 X4 X5 (uUpTo X2 X3 X4 X5 U k)
  step k a := pass_triple 𝒱 c i arg2 arg3 arg4 arg5 arg9 harg9 X2 X3 X4 X5 E bd h1 k a (uUpTo X2 X3 X4 X5 U k.val)

/-- After the loop the scratch block is the modulated block. -/
theorem pass_exit (E : Set ℕ) (bd : Option 𝒱.V) (h1 : k0_cond1 i = 1#1) (U : Vec F S512x4096 .bf16) (a : PUnit) :
    (passInv 𝒱 c i arg2 arg3 arg4 arg5 arg9 harg9 X2 X3 X4 X5 E bd h1 U).inv (Scf.trips k0_t1_loop.lb k0_t1_loop.ub k0_t1_loop.st) a ⊢ heldU c arg2 arg3 arg4 arg5 arg9 X2 X3 X4 X5 (uAll X2 X3 X4 X5) := by
  rw [show Scf.trips k0_t1_loop.lb k0_t1_loop.ub k0_t1_loop.st = 4 from t1_trips]
  show heldU c arg2 arg3 arg4 arg5 arg9 X2 X3 X4 X5 (uUpTo X2 X3 X4 X5 U 4) ⊢ _
  rw [uUpTo_four]

/-- What the body holds: its windows' blocks and the scratch block. -/
def held (Y7 : Vec F S512x512 .bf16) (Y8 : Vec F S512x256 .f32) (U : Vec F S512x4096 .bf16) : sProp 𝕄 :=
  iprop(heldU c arg2 arg3 arg4 arg5 arg9 X2 X3 X4 X5 U ∗ (arg6.view.loc (c : Thread nD τ) ↦[arg6.view.set]{fullShare} arg6.view.rep X6) ∗ (arg7.view.loc (c : Thread nD τ) ↦[arg7.view.set]{fullShare} arg7.view.rep Y7) ∗ (arg8.view.loc (c : Thread nD τ) ↦[arg8.view.set]{fullShare} arg8.view.rep Y8))

/-- The scratch block when the product is taken. -/
def uNext (U : Vec F S512x4096 .bf16) : Vec F S512x4096 .bf16 := if (i 1).val = 0 then uAll X2 X3 X4 X5 else U

/-- The body at any grid point. -/
theorem body_triple (bd : Option 𝒱.V) (Y7 : Vec F S512x512 .bf16) (Y8 : Vec F S512x256 .f32) (U : Vec F S512x4096 .bf16) :
    held c arg2 arg3 arg4 arg5 arg6 arg7 arg8 arg9 X2 X3 X4 X5 X6 Y7 Y8 U
    ⊢ wp frame (wpE (defs₀ (F := F)) 𝒱 (c : Thread nD τ) bd) Set.univ (cc0_in_proj (F := F) i arg2 harg2 arg3 harg3 arg4 harg4 arg5 harg5 arg6 harg6 arg7 harg7 arg8 harg8 arg9 harg9)
        (fun _ => held c arg2 arg3 arg4 arg5 arg6 arg7 arg8 arg9 X2 X3 X4 X5 X6 (if (i 1).val < 15 then zmBlk (uNext i X2 X3 X4 X5 U) X6 else Y7) (if (i 1).val = 15 then zsBlk (uNext i X2 X3 X4 X5 U) X6 else Y8) (uNext i X2 X3 X4 X5 U)) := by
  have e6 : arg6.view.readAt (Elt F) (Rect.unit (s := S4096x512) ![0, 0] S4096x512.size inb_S4096x512_S4096x512_0_0).toLoadRect (arg6.view.rep X6) = X6 :=
    View.readAt_rep_full (Val := Elt F) (s := S4096x512) (e := .bf16) arg6.view X6 (off := ![0, 0]) inb_S4096x512_S4096x512_0_0
  have e9 : ∀ U : Vec F S512x4096 .bf16, arg9.view.readAt (Elt F) (Rect.unit (s := S512x4096) ![0, 0] S512x4096.size inb_S512x4096_S512x4096_0_0).toLoadRect (arg9.view.rep U) = U := fun U =>
    View.readAt_rep_full (Val := Elt F) (s := S512x4096) (e := .bf16) arg9.view U (off := ![0, 0]) inb_S512x4096_S512x4096_0_0
  unfold held
  by_cases h1 : k0_cond1 i = 1#1
  · have h1' := (cond1_iff i).mp h1
    have h2 : k0_cond2 i = 1#1 := (cond2_iff i).mpr (by omega)
    have h3 : ¬ k0_cond3 i = 1#1 := fun h => by have := (cond3_iff i).mp h; omega
    rw [if_pos (by omega), if_neg (by omega)]
    unfold uNext cc0_in_proj
    rw [if_pos h1']
    iintro ⟨HU, H6, H7, H8⟩
    sl_exec
    iapply (exec_loop _ _ _ _ _ _ _ _ _ (passInv 𝒱 c i arg2 arg3 arg4 arg5 arg9 harg9 X2 X3 X4 X5 Set.univ bd h1 U)) $$ [HU]
    · iapply (show heldU c arg2 arg3 arg4 arg5 arg9 X2 X3 X4 X5 U ⊢ (passInv 𝒱 c i arg2 arg3 arg4 arg5 arg9 harg9 X2 X3 X4 X5 Set.univ bd h1 U).inv 0 PUnit.unit from .rfl) $$ HU
    iintro %acc HI
    ihave HI := (pass_exit 𝒱 c i arg2 arg3 arg4 arg5 arg9 harg9 X2 X3 X4 X5 Set.univ bd h1 U acc) $$ HI
    generalize uAll X2 X3 X4 X5 = U'
    unfold heldU
    icases HI with ⟨H2, H3, H4, H5, H9⟩
    have e9' := e9 U'
    sl_exec
    sl_step
    ihave H7 := (pointsTo_rep_of_read (c : Thread nD τ) arg7 _ fullShare (zmBlk U' X6) ?h7) $$ H7
    case h7 =>
      rw [View.read_writes_full]
      rfl
    sl_close
  · have h1' := (cond1_iff i).not.mp h1
    unfold uNext
    rw [if_neg h1']
    unfold heldU
    have e9' := e9 U
    by_cases h2 : k0_cond2 i = 1#1
    · have h2' := (cond2_iff i).mp h2
      have h3 : ¬ k0_cond3 i = 1#1 := fun h => by have := (cond3_iff i).mp h; omega
      rw [if_pos h2', if_neg (by omega)]
      unfold cc0_in_proj
      iintro ⟨⟨H2, H3, H4, H5, H9⟩, H6, H7, H8⟩
      sl_exec
      sl_step
      ihave H7 := (pointsTo_rep_of_read (c : Thread nD τ) arg7 _ fullShare (zmBlk U X6) ?h7) $$ H7
      case h7 =>
        rw [View.read_writes_full]
        rfl
      sl_close
    · have h2' := (cond2_iff i).not.mp h2
      have h15 : (i 1).val < 16 := (i 1).isLt
      have h3 : k0_cond3 i = 1#1 := (cond3_iff i).mpr (by omega)
      rw [if_neg h2', if_pos (by omega)]
      unfold cc0_in_proj
      iintro ⟨⟨H2, H3, H4, H5, H9⟩, H6, H7, H8⟩
      sl_exec
      sl_step
      ihave H8 := (pointsTo_rep_of_read (c : Thread nD τ) arg8 _ fullShare (zsBlk U X6) ?h8) $$ H8
      case h8 =>
        rw [View.read_writes_full]
        rfl
      sl_close

end

end Cert.Kernel3Ideal.InProj

end
-- ==== Proof.InIdealFrame.lean ====
/-
  The input projection run on the whole grid: at each grid point the first result's block is the product block of the
  modulated rows, at the last column block the second result's block is; the run leaves the arguments as they were and
  every counter at zero.
-/
module

public import proofs.«01_k».proof.Proof.InIdealBody
public import proofs.«01_k».proof.Proof.Gen.Kernel3Ideal.Frame
public import Idealize.ShloMosaic.Lib.Pipeline.TableIdle
public import Idealize.ShloMosaic.Lib.Claim

@[expose] public section

set_option maxRecDepth 16384

noncomputable section

namespace Cert.Kernel3Ideal.InProj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch block's buffer. -/
abbrev uM : Memref sig .tc .vmem S512x4096 .bf16 := Memref.whole cc0_scratch0

/-- The scratch block as the body holds it. -/
theorem scratch_whole (c : Dev nD) (f : Buf (Elt F) ((c : Thread nD τ).loc cc0_scratch0)) :
    (((c : Thread nD τ).loc cc0_scratch0 ↦{fullShare} f) : sProp 𝕄) = (uM.view.loc (c : Thread nD τ) ↦[uM.view.set]{fullShare} f) := by
  show _ = ((c : Thread nD τ).loc cc0_scratch0 ↦[(View.whole cc0_scratch0).set]{fullShare} f)
  rw [View.set_whole]

/-- Grid point `t` is row block `t / 16`, column block `t % 16`. -/
theorem coords_eq (t : Fin cfg0.N) : (grid0.coords t 0).val = t.val / 16 ∧ (grid0.coords t 1).val = t.val % 16 := by
  have h : ∀ t : Fin 512, (grid0.coords t 0).val = t.val / 16 ∧ (grid0.coords t 1).val = t.val % 16 := by decide +kernel
  exact h t

/-- The first point of `t`'s row block. -/
def rowPt (t : Fin cfg0.N) : Fin cfg0.N := ⟨16 * (t.val / 16), by have : t.val < 512 := t.isLt; show _ < 512; omega⟩

/-- The last point at or before `t` that stores into the first result's block. -/
def colPt (t : Fin cfg0.N) : Fin cfg0.N := ⟨if t.val % 16 = 15 then t.val - 1 else t.val, by have := t.isLt; split <;> omega⟩

/-- The first result's block is written back at every point but the last that stores into the row block's last. -/
theorem flush0_5 : ∀ t : Fin cfg0.N, (cfg0.win 5).flush t = true ↔ t.val % 16 ≠ 14 :=
  (by decide +kernel : ∀ t : Fin grid0.N, win0_5.flush t = true ↔ t.val % 16 ≠ 14)

theorem idle5 (t : Fin cfg0.N) (h : t.val % 16 ≠ 15) : cfg0.idle 5 (cfg0.grid.coords t) = false := by
  show (!(k0_cond2 (grid0.coords t) == 1#1)) = false
  rw [(cond2_iff _).mpr (by have := (coords_eq t).2; omega)]
  rfl

theorem idle6 (t : Fin cfg0.N) (h : t.val % 16 = 15) : cfg0.idle 6 (cfg0.grid.coords t) = false := by
  show (!(k0_cond3 (grid0.coords t) == 1#1)) = false
  rw [(cond3_iff _).mpr (by have := (coords_eq t).2; omega)]
  rfl

theorem idle6' (t : Fin cfg0.N) (h : t.val % 16 ≠ 15) : cfg0.idle 6 (cfg0.grid.coords t) = true := by
  have hc : k0_cond3 (grid0.coords t) ≠ 1#1 := fun e => h ((coords_eq t).2.symm.trans ((cond3_iff _).mp e))
  show (!(k0_cond3 (grid0.coords t) == 1#1)) = true
  rw [Bool.not_eq_true', beq_eq_false_iff_ne]
  exact hc

variable (m : (ℓ : Loc nD τ sig) → Buf (Elt F) ℓ) (ρ : Dev nD → PrngReg)

/-- The modulated rows of `t`'s row block. -/
def uOf (c : Dev nD) (t : Fin cfg0.N) : Vec F S512x4096 .bf16 :=
  uAll (iblk m c 0 (rowPt t)) (iblk m c 1 (rowPt t)) (iblk m c 2 (rowPt t)) (iblk m c 3 (rowPt t))

/-- The scratch block holds them when the product is taken. -/
theorem uNext_eq (c : Dev nD) (t : Fin cfg0.N) (U : Vec F S512x4096 .bf16) (h : t.val % 16 ≠ 0 → U = uOf m c t) :
    uNext (grid0.coords t) (iblk m c 0 t) (iblk m c 1 t) (iblk m c 2 t) (iblk m c 3 t) U = uOf m c t := by
  unfold uNext
  by_cases h0 : t.val % 16 = 0
  · have e : rowPt t = t := Fin.ext (by show 16 * (t.val / 16) = t.val; omega)
    rw [if_pos ((coords_eq t).2.trans h0)]
    unfold uOf
    rw [e]
  · rw [if_neg fun e => h0 ((coords_eq t).2.symm.trans e)]
    exact h h0

/-- What the body holds before point `n`. -/
def phi (c : Dev nD) (n : ℕ) : sProp 𝕄 :=
  iprop((∃ U : Vec F S512x4096 .bf16, ⌜∀ h : n < cfg0.N, n % 16 ≠ 0 → U = uOf m c ⟨n, h⟩⌝ ∗ (uM.view.loc (c : Thread nD τ) ↦[uM.view.set]{fullShare} uM.view.rep U)) ∗ (∃ r, prngReg c r))

/-- What the pipeline's windows hold: the inputs their blocks, the results the product's. -/
def dats (p : Fin 1) (c : Dev nD) : Dat τ (Elt F) Unit ℕ (UR sig nD τ) ℕ (cfgs p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => zmBlk (F := F) (uOf m c t) (iblk m c 4 (colPt t))
    | ⟨6, _⟩ => zsBlk (F := F) (uOf m c t) (iblk m c 4 t)
  Φ n := phi m c n.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = zmBlk (F := F) (uOf m c t) (iblk m c 4 (colPt t)) := by dsimp only [dats]
theorem after0_6 (c : Dev nD) (t : Fin cfg0.N) : (dats m 0 c).after 6 t = zsBlk (F := F) (uOf m c t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At the last column block the first result's buffer still holds the block before it. -/
theorem before0_5 (c : Dev nD) (t : Fin cfg0.N) (h : t.val % 16 = 15) (d) : (dats m 0 c).before 5 t d = (dats m 0 c).after 5 t := by
  have hp : t.val - 1 < cfg0.N := by have := t.isLt; omega
  have hf : (cfg0.win 5).flush ⟨t.val - 1, hp⟩ = false := by
    rw [Bool.eq_false_iff]
    intro hh
    have := (flush0_5 ⟨t.val - 1, hp⟩).mp hh
    exact this (by show (t.val - 1) % 16 = 14; omega)
  have hi : cfg0.idle 5 (cfg0.grid.coords ⟨t.val - 1, hp⟩) = false := idle5 _ (by show (t.val - 1) % 16 ≠ 15; omega)
  have h1 : (dats m 0 c).left 5 ⟨t.val - 1, hp⟩ d = (dats m 0 c).after 5 ⟨t.val - 1, hp⟩ := by
    unfold Dat.left
    rw [hi]
    show (dats m 0 c).kept 5 ⟨t.val - 1, hp⟩ d = _
    rfl
  refine ((dats m 0 c).before_of_pos 5 t (by omega) rfl d).trans ?_
  refine (if_neg (by rw [hf]; exact Bool.false_ne_true)).trans (h1.trans ?_)
  rw [after0_5, after0_5]
  have e1 : rowPt ⟨t.val - 1, hp⟩ = rowPt t := Fin.ext (by show 16 * ((t.val - 1) / 16) = 16 * (t.val / 16); omega)
  have e2 : colPt ⟨t.val - 1, hp⟩ = colPt t := Fin.ext (by
    show (if (t.val - 1) % 16 = 15 then t.val - 1 - 1 else t.val - 1) = if t.val % 16 = 15 then t.val - 1 else t.val
    rw [if_neg (by omega), if_pos h])
  unfold uOf
  rw [e1, e2]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t
    ∗ (dats m 0 c).leavesExact 6 t)

/-- The first result's buffer is left at its block. -/
theorem leaves5 (c : Dev nD) (t : Fin cfg0.N) : (dats m 0 c).leavesExact 5 t = (owns (c : Thread nD τ) (st0_5 t) fullShare ((dats m 0 c).after 5 t) : sProp 𝕄) := by
  unfold Dat.leavesExact
  by_cases h : t.val % 16 = 15
  · have hf : (cfg0.win 5).flush t = true := (flush0_5 t).mpr (by omega)
    rw [hf]
    cases cfg0.idle 5 (cfg0.grid.coords t) <;> rfl
  · rw [idle5 t h]

/-- The second result's buffer is left as found, -/
theorem leaves6 (c : Dev nD) (t : Fin cfg0.N) (h : t.val % 16 ≠ 15) : (dats m 0 c).leavesExact 6 t = (iprop(∃ d, owns (c : Thread nD τ) (st0_6 t) fullShare ((dats m 0 c).before 6 t d)) : sProp 𝕄) :=
  (dats m 0 c).leavesExact_idle 6 t (idle6' t h) (by rw [Bool.eq_false_iff]; exact fun e => h ((flush0_6 t).mp e))

/-- but at the last column block at its block. -/
theorem leaves6' (c : Dev nD) (t : Fin cfg0.N) (h : t.val % 16 = 15) : (dats m 0 c).leavesExact 6 t = (owns (c : Thread nD τ) (st0_6 t) fullShare ((dats m 0 c).after 6 t) : sProp 𝕄) := by
  unfold Dat.leavesExact
  rw [idle6 t h]

/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = phi m c t.val from rfl,
    show (dats m 0 c).Φ t.succ = phi m c (t.val + 1) from rfl,
    show (dats m 0 c).owesAt () t.succ = (dats m 0 c).owesAt () t.castSucc from rfl,
    after0_0, after0_1, after0_2, after0_3, after0_4, leaves5]
  unfold phi
  iintro ⟨⟨⟨%U, %hU, H9⟩, Hr⟩, Ho, ⟨%d0, H2⟩, ⟨%d1, H3⟩, ⟨%d2, H4⟩, ⟨%d3, H5⟩, ⟨%d4, H6⟩, ⟨%d5, H7⟩, ⟨%d6, H8⟩⟩
  ihave H2 := (rep_of_owns (c : Thread nD τ) (st0_0 t) fullShare (iblk m c 0 t)) $$ H2
  ihave H3 := (rep_of_owns (c : Thread nD τ) (st0_1 t) fullShare (iblk m c 1 t)) $$ H3
  ihave H4 := (rep_of_owns (c : Thread nD τ) (st0_2 t) fullShare (iblk m c 2 t)) $$ H4
  ihave H5 := (rep_of_owns (c : Thread nD τ) (st0_3 t) fullShare (iblk m c 3 t)) $$ H5
  ihave H6 := (rep_of_owns (c : Thread nD τ) (st0_4 t) fullShare (iblk m c 4 t)) $$ H6
  ihave H7 := (rep_of_owns (c : Thread nD τ) (st0_5 t) fullShare _) $$ H7
  ihave H8 := (rep_of_owns (c : Thread nD τ) (st0_6 t) fullShare _) $$ H8
  iapply (wp_wand_r frame (wpE (defs₀ (F := F)) Variants.none (c : Thread nD τ) none) Set.univ)
  isplitl [H2 H3 H4 H5 H6 H7 H8 H9]
  · iapply (body_triple (F := F) Variants.none c (grid0.coords t) _ _ _ _ _ _ _ _ _ _ _ _ _ _ uM (Memref.isWhole_whole _) (iblk m c 0 t) (iblk m c 1 t) (iblk m c 2 t) (iblk m c 3 t) (iblk m c 4 t) none ((dats m 0 c).before 5 t d5) ((dats m 0 c).before 6 t d6) U)
    unfold held heldU
    isplitl [H2 H3 H4 H5 H9]
    · isplitl [H2]; · iexact H2
      isplitl [H3]; · iexact H3
      isplitl [H4]; · iexact H4
      isplitl [H5]; · iexact H5
      iexact H9
    isplitl [H6]; · iexact H6
    isplitl [H7]; · iexact H7
    iexact H8
  iintro %v H
  rw [uNext_eq m c t U (hU t.isLt)]
  unfold held heldU
  icases H with ⟨⟨H2, H3, H4, H5, H9⟩, H6, H7, H8⟩
  isplitl [H9 Hr]
  · isplitl [H9]
    · iexists uOf m c t
      isplitr
      · ipureintro
        intro hn h16
        have e : rowPt ⟨t.val + 1, hn⟩ = rowPt t := Fin.ext (by show 16 * ((t.val + 1) / 16) = 16 * (t.val / 16); omega)
        unfold uOf
        rw [e]
      · iexact H9
    · iexact Hr
  isplitl [Ho]; · iexact Ho
  isplitl [H2]; · iapply (owns_of_rep (c : Thread nD τ) (st0_0 t) fullShare (iblk m c 0 t)) $$ H2
  isplitl [H3]; · iapply (owns_of_rep (c : Thread nD τ) (st0_1 t) fullShare (iblk m c 1 t)) $$ H3
  isplitl [H4]; · iapply (owns_of_rep (c : Thread nD τ) (st0_2 t) fullShare (iblk m c 2 t)) $$ H4
  isplitl [H5]; · iapply (owns_of_rep (c : Thread nD τ) (st0_3 t) fullShare (iblk m c 3 t)) $$ H5
  isplitl [H6]; · iapply (owns_of_rep (c : Thread nD τ) (st0_4 t) fullShare (iblk m c 4 t)) $$ H6
  have hc := (coords_eq t).2
  by_cases h15 : t.val % 16 = 15
  · rw [leaves6' m c t h15, after0_6, if_neg (by omega), if_pos (by omega), before0_5 m c t h15]
    isplitl [H7]; · iapply (owns_of_rep (c : Thread nD τ) (st0_5 t) fullShare _) $$ H7
    iapply (owns_of_rep (c : Thread nD τ) (st0_6 t) fullShare _) $$ H8
  · have e : colPt t = t := Fin.ext (if_neg h15)
    rw [leaves6 m c t h15, after0_5, e, if_pos (by omega), if_neg (by omega)]
    isplitl [H7]; · iapply (owns_of_rep (c : Thread nD τ) (st0_5 t) fullShare _) $$ H7
    iexists d6
    iapply (owns_of_rep (c : Thread nD τ) (st0_6 t) fullShare _) $$ H8

/-- The body table's row at point `t`. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point the scratch block holds anything, -/
theorem phi_in (c : Dev nD) : (Pipeline.ΦA spec0 c : sProp 𝕄) ⊢ phi m c 0 := by
  unfold Pipeline.ΦA phi
  rw [scopedRest0_eq]
  simp only [scratch_whole]
  iintro ⟨⟨%f, H9⟩, Hr⟩
  isplitl [H9]
  · iexists uM.view.read (Elt F) f
    isplitr
    · ipureintro
      exact fun _ h => absurd rfl h
    · iapply (pointsTo_rep_of_read (c : Thread nD τ) uM f fullShare _ rfl) $$ H9
  · iexact Hr

/-- and after the last it is given up. -/
theorem phi_out (c : Dev nD) (n : ℕ) : phi m c n ⊢ (Pipeline.ΦA spec0 c : sProp 𝕄) := by
  unfold Pipeline.ΦA phi
  rw [scopedRest0_eq]
  simp only [scratch_whole]
  iintro ⟨⟨%U, -, H9⟩, Hr⟩
  isplitl [H9]
  · iexists _
    iexact H9
  · iexact Hr

set_option backward.isDefEq.respectTransparency.types false in
set_option maxHeartbeats 800000 in
/-- Every run ends with each window's array at what the blocks give, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := fun c => phi_out m c _)

/-- The run: it ends, the arguments as they were and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.Kernel3Ideal.InProj

end
-- ==== Proof.InRef.lean ====
/-
  The input projection's reference over the extended reals, read at one element of each of its results: the modulated
  row times a column of the weight.
-/
module

public import proofs.«01_k».proof.Proof.Gen.Reference3Ideal.Run
public import Idealize.ShloMosaic.Lib.Pointwise

@[expose] public section

set_option maxRecDepth 16384

noncomputable section

namespace Cert.Reference3Ideal.InProj

open Cert.Reference3Ideal Cert.Reference3Ideal.Gen
open Idealize.ShloMosaic Idealize.ShloMosaic.TcCoe

/-- One over the root of a row's mean square. -/
def inv (B : FVec Ideal S2x8192x4096 .f32) : FVec Ideal S2x8192x1 .f32 :=
  Host.rsqrt (addf (Host.divf (broadcastInDim S2x8192x1 ![0, 1] bcast_S2x8192_S2x8192x1_0_1 (Host.reduceAdd (mulf B B) (constant S_ .f32 0x00000000#32) reducesTo_S2x8192x4096_S2x8192_d2 h_S_))
    (broadcastInDim S2x8192x1 ![] bcast_S_S2x8192x1 (constant S_ .f32 0x45800000#32))) (broadcastInDim S2x8192x1 ![] bcast_S_S2x8192x1 (constant S_ .f32 0x358637BD#32)))

/-- The rows normalised, scaled and shifted, sequence by sequence, -/
def mods (B : FVec Ideal S2x8192x4096 .f32) (G : FVec Ideal S1x4096 .f32) (SC SH : FVec Ideal S2x4096 .f32) : FVec Ideal S2x8192x4096 .f32 :=
  addf (mulf (mulf (mulf B (broadcastInDim S2x8192x4096 ![0, 1, 2] bcast_S2x8192x1_S2x8192x4096_0_1_2 (inv B)))
      (broadcastInDim S2x8192x4096 ![0, 1, 2] bcast_S1x1x4096_S2x8192x4096_0_1_2 (broadcastInDim S1x1x4096 ![1, 2] bcast_S1x4096_S1x1x4096_1_2 G)))
      (broadcastInDim S2x8192x4096 ![0, 1, 2] bcast_S2x1x4096_S2x8192x4096_0_1_2 (addf (broadcastInDim S2x1x4096 ![] bcast_S_S2x1x4096 (constant S_ .f32 0x3F800000#32)) (broadcastInDim S2x1x4096 ![0, 2] bcast_S2x4096_S2x1x4096_0_2 SC))))
    (broadcastInDim S2x8192x4096 ![0, 1, 2] bcast_S2x1x4096_S2x8192x4096_0_1_2 (broadcastInDim S2x1x4096 ![0, 2] bcast_S2x4096_S2x1x4096_0_2 SH))

/-- and row by row. -/
def rows (X : FVec Ideal S16384x4096 .f32) (G : FVec Ideal S1x4096 .f32) (SC SH : FVec Ideal S2x4096 .f32) : FVec Ideal S16384x4096 .f32 :=
  shapeCast S16384x4096 (mods (shapeCast S2x8192x4096 X shapeCasts_S16384x4096_S2x8192x4096) G SC SH) shapeCasts_S2x8192x4096_S16384x4096

/-- The projected rows. -/
def proj (M : FVec Ideal S16384x4096 .f32) (W : FVec Ideal S4096x8192 .bf16) : FVec Ideal S16384x8192 .f32 :=
  Host.dotGeneral dot_S16384x4096_S4096x8192_S16384x8192_1_0_0_1_n_n none M (extf .f32 W bitsLt_bf16_f32)

/-- The first result, -/
def main1 (M : FVec Ideal S16384x4096 .f32) (W : FVec Ideal S4096x8192 .bf16) : FVec Ideal S16384x7680 .bf16 :=
  truncf .bf16 (extractStridedSlice S16384x7680 ![0, 0] (proj M W) slices_S16384x8192_S16384x7680_0_0) bitsLt_bf16_f32

/-- and the second. -/
def small (M : FVec Ideal S16384x4096 .f32) (W : FVec Ideal S4096x8192 .bf16) : FVec Ideal S16384x256 .f32 :=
  extractStridedSlice S16384x256 ![0, 7680] (proj M W) slices_S16384x8192_S16384x256_0_7680

/-- The reference's run ends with these results and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26) = main1 (rows (m ((c.tc : Thread nD τ).loc main_arg0)) (m ((c.tc : Thread nD τ).loc main_arg1))
        (m ((c.tc : Thread nD τ).loc main_arg2)) (m ((c.tc : Thread nD τ).loc main_arg3))) (m ((c.tc : Thread nD τ).loc main_arg4))
      ∧ r.2.mem ((c.tc : Thread nD τ).loc main_v27) = small (rows (m ((c.tc : Thread nD τ).loc main_arg0)) (m ((c.tc : Thread nD τ).loc main_arg1))
        (m ((c.tc : Thread nD τ).loc main_arg2)) (m ((c.tc : Thread nD τ).loc main_arg3))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run (F := Ideal) m ρ

/-! ## Element by element -/

theorem inv_at (B : FVec Ideal S2x8192x4096 .f32) (b : Fin 2) (r : Fin 8192) : @Eq EReal (inv B (ix3 b r 0))
    (Ideal.rsqrt (Ideal.div (∑ c : Fin 4096, B (ix3 b r c) * B (ix3 b r c)) (Ideal.ofBits .f32 0x45800000#32) + Ideal.ofBits .f32 0x358637BD#32)) := by
  pointwise [inv]

theorem mods_at (B : FVec Ideal S2x8192x4096 .f32) (G : FVec Ideal S1x4096 .f32) (SC SH : FVec Ideal S2x4096 .f32) (b : Fin 2) (r : Fin 8192) (d : Fin 4096) :
    @Eq EReal (mods B G SC SH (ix3 b r d))
      (B (ix3 b r d) * Ideal.rsqrt (Ideal.div (∑ c : Fin 4096, B (ix3 b r c) * B (ix3 b r c)) (Ideal.ofBits .f32 0x45800000#32) + Ideal.ofBits .f32 0x358637BD#32)
        * G (ix2 0 d) * (Ideal.ofBits .f32 0x3F800000#32 + SC (ix2 b d)) + SH (ix2 b d)) := by
  rw [← inv_at]
  pointwise [mods]

variable (X : FVec Ideal S16384x4096 .f32) (G : FVec Ideal S1x4096 .f32) (SC SH : FVec Ideal S2x4096 .f32)

/-- Element `d` of modulated row `R`. -/
def rowAt (R : Fin 16384) (d : Fin 4096) : EReal :=
  X (ix2 R d) * Ideal.rsqrt (Ideal.div (∑ k : Fin 4096, X (ix2 R k) * X (ix2 R k)) (Ideal.ofBits .f32 0x45800000#32) + Ideal.ofBits .f32 0x358637BD#32)
    * G (ix2 0 d) * (Ideal.ofBits .f32 0x3F800000#32 + SC (ix2 ⟨R.val / 8192, by omega⟩ d)) + SH (ix2 ⟨R.val / 8192, by omega⟩ d)

theorem seq_at (R : Fin 16384) (d : Fin 4096) :
    (shapeCast S2x8192x4096 X shapeCasts_S16384x4096_S2x8192x4096) (ix3 (⟨R.val / 8192, by omega⟩ : Fin 2) (⟨R.val % 8192, Nat.mod_lt _ (by decide)⟩ : Fin 8192) d) = X (ix2 R d) := by
  pointwise

theorem rows_at (R : Fin 16384) (d : Fin 4096) : @Eq EReal (rows X G SC SH (ix2 R d)) (rowAt X G SC SH R d) := by
  have e : @Eq EReal (rows X G SC SH (ix2 R d)) (mods (shapeCast S2x8192x4096 X shapeCasts_S16384x4096_S2x8192x4096) G SC SH
      (ix3 (⟨R.val / 8192, by omega⟩ : Fin 2) (⟨R.val % 8192, Nat.mod_lt _ (by decide)⟩ : Fin 8192) d)) := by
    unfold rows
    generalize mods (shapeCast S2x8192x4096 X shapeCasts_S16384x4096_S2x8192x4096) G SC SH = Y
    pointwise
  rw [e, mods_at]
  simp only [seq_at]
  rfl

theorem proj_at (M : FVec Ideal S16384x4096 .f32) (W : FVec Ideal S4096x8192 .bf16) (R : Fin 16384) (C : Fin 8192) :
    @Eq EReal (proj M W (ix2 R C)) (∑ d : Fin 4096, M (ix2 R d) * W (ix2 d C)) := by
  pointwise [proj]

theorem main1_at (M : FVec Ideal S16384x4096 .f32) (W : FVec Ideal S4096x8192 .bf16) (R : Fin 16384) (C : Fin 7680) :
    @Eq EReal (main1 M W (ix2 R C)) (∑ d : Fin 4096, M (ix2 R d) * W (ix2 d ⟨C.val, by omega⟩)) := by
  rw [← proj_at]
  pointwise [main1]

theorem small_at (M : FVec Ideal S16384x4096 .f32) (W : FVec Ideal S4096x8192 .bf16) (R : Fin 16384) (C : Fin 256) :
    @Eq EReal (small M W (ix2 R C)) (∑ d : Fin 4096, M (ix2 R d) * W (ix2 d ⟨7680 + C.val, by omega⟩)) := by
  rw [← proj_at]
  pointwise [small]

end Cert.Reference3Ideal.InProj

end
-- ==== Proof.InValue.lean ====
/-
  The input projection's results on the whole grid are the reference's: point `16 b + j` leaves in its block the
  modulated rows of row block `b` times the columns of block `j` of the weight.
-/
module

public import proofs.«01_k».proof.Proof.InPoint
public import proofs.«01_k».proof.Proof.InIdealFrame
public import proofs.«01_k».proof.Proof.InRef
public import Idealize.ShloMosaic.Lib.Pipeline.ValueKit

@[expose] public section

set_option maxRecDepth 16384

noncomputable section

namespace Cert.Kernel3Ideal.InProj

open Cert.Kernel3Ideal Cert.Kernel3Ideal.Gen
open Idealize.ShloMosaic Idealize.ShloMosaic.TcCoe Idealize.SL.Sem
open Cert.Reference3Ideal.InProj (rows rowAt rows_at main1 main1_at small small_at)

/-- Where each window's block of point `t` sits. -/
theorem idx : ∀ t : Fin cfg0.N, win0_0.index t = ![t.val / 16, 0] ∧ win0_1.index t = ![0, 0]
    ∧ win0_2.index t = ![t.val / 256, 0, 0] ∧ win0_3.index t = ![t.val / 256, 0, 0] ∧ win0_4.index t = ![0, t.val % 16]
    ∧ win0_5.index t = ![t.val / 16, min (t.val % 16) 14] ∧ win0_6.index t = ![t.val / 16, 0] ∧ t.val / 16 < 32 :=
  (by decide +kernel : ∀ t : Fin grid0.N, _)

variable (m : (ℓ : Loc nD τ sig) → Buf (Elt Ideal) ℓ) (c : Dev nD)

/-- The argument arrays. -/
abbrev argX : FVec Ideal S16384x4096 .f32 := m ((c : Thread nD τ).loc main_arg0)
abbrev argG : FVec Ideal S1x4096 .f32 := m ((c : Thread nD τ).loc main_arg1)
abbrev argSc : FVec Ideal S2x4096 .f32 := m ((c : Thread nD τ).loc main_arg2)
abbrev argSh : FVec Ideal S2x4096 .f32 := m ((c : Thread nD τ).loc main_arg3)
abbrev argW : FVec Ideal S4096x8192 .bf16 := m ((c : Thread nD τ).loc main_arg4)

/-! ## The blocks at an index -/

theorem x_at (t : Fin cfg0.N) (r : Fin 512) (d : Fin 4096) :
    iblk m c 0 t (ix2 r d) = argX m c (ix2 ⟨512 * (t.val / 16) + r.val, by have := (idx t).2.2.2.2.2.2.2; omega⟩ d) := by
  blk_ext [iblk, V_main_arg0, idx t]

theorem g_at (t : Fin cfg0.N) (d : Fin 4096) : iblk m c 1 t (ix2 0 d) = argG m c (ix2 0 d) := by
  blk_ext [iblk, V_main_arg1, idx t]

theorem sc_at (t : Fin cfg0.N) (d : Fin 4096) :
    iblk m c 2 t (ix3 0 0 d) = argSc m c (ix2 ⟨t.val / 256, by have := (idx t).2.2.2.2.2.2.2; omega⟩ d) := by
  have e : V m c main_v0 = broadcastInDim S2x1x4096 ![0, 2] bcast_S2x4096_S2x1x4096_0_2 (argSc m c) := by
    entry_read
    rfl
  have e2 (g : Fin 2) : V m c main_v0 (ix3 g 0 d) = argSc m c (ix2 g d) := by
    rw [e]
    pointwise
  refine Eq.trans ?_ (e2 _)
  blk_ext [iblk, idx t]

theorem sh_at (t : Fin cfg0.N) (d : Fin 4096) :
    iblk m c 3 t (ix3 0 0 d) = argSh m c (ix2 ⟨t.val / 256, by have := (idx t).2.2.2.2.2.2.2; omega⟩ d) := by
  have e : V m c main_v1 = broadcastInDim S2x1x4096 ![0, 2] bcast_S2x4096_S2x1x4096_0_2 (argSh m c) := by
    entry_read
    rfl
  have e2 (g : Fin 2) : V m c main_v1 (ix3 g 0 d) = argSh m c (ix2 g d) := by
    rw [e]
    pointwise
  refine Eq.trans ?_ (e2 _)
  blk_ext [iblk, idx t]

theorem w_at (t : Fin cfg0.N) (d : Fin 4096) (h : Fin 512) :
    iblk m c 4 t (ix2 d h) = argW m c (ix2 d ⟨512 * (t.val % 16) + h.val, by omega⟩) := by
  blk_ext [iblk, V_main_arg4, idx t]

/-! ## The modulated rows -/

theorem uOf_at (t : Fin cfg0.N) (r : Fin 512) (d : Fin 4096) :
    @Eq EReal (uOf m c t (ix2 r d)) (rows (argX m c) (argG m c) (argSc m c) (argSh m c)
      (ix2 ⟨512 * (t.val / 16) + r.val, by have := (idx t).2.2.2.2.2.2.2; omega⟩ d)) := by
  have hb := (idx t).2.2.2.2.2.2.2
  have hR : 512 * (t.val / 16) + r.val < 16384 := by omega
  have ex (k : Fin 4096) : @Eq EReal (iblk m c 0 (rowPt t) (ix2 r k)) (argX m c (ix2 (⟨512 * (t.val / 16) + r.val, hR⟩ : Fin 16384) k)) := by
    refine (x_at m c (rowPt t) r k).trans (congrArg (fun R : Fin 16384 => argX m c (ix2 R k)) (Fin.ext ?_))
    show 512 * (16 * (t.val / 16) / 16) + r.val = 512 * (t.val / 16) + r.val
    omega
  have eb : (⟨(rowPt t).val / 256, by show 16 * (t.val / 16) / 256 < 2; omega⟩ : Fin 2)
      = ⟨(⟨512 * (t.val / 16) + r.val, hR⟩ : Fin 16384).val / 8192, by show (512 * (t.val / 16) + r.val) / 8192 < 2; omega⟩ := Fin.ext (by
    show 16 * (t.val / 16) / 256 = (512 * (t.val / 16) + r.val) / 8192
    omega)
  have esc := (sc_at m c (rowPt t) d).trans (congrArg (fun b : Fin 2 => argSc m c (ix2 b d)) eb)
  have esh := (sh_at m c (rowPt t) d).trans (congrArg (fun b : Fin 2 => argSh m c (ix2 b d)) eb)
  refine (uAll_at _ _ _ _ r d).trans (Eq.trans ?_ (rows_at (argX m c) (argG m c) (argSc m c) (argSh m c) ⟨512 * (t.val / 16) + r.val, hR⟩ d).symm)
  rw [esc, esh, g_at]
  simp only [ex]
  rfl

/-! ## The results -/

/-- **The whole grid, first result.** -/
theorem final_main : (dats m 0 c).arrAt 5 (cfgs 0).N = main1 (rows (argX m c) (argG m c) (argSc m c) (argSh m c)) (argW m c) := by
  refine (dats m 0 c).arrAt_eq_of_covers 5 _ (by decide +kernel) fun t _ y => ?_
  have h0 : (y 0).val < 512 := (y 0).isLt
  have h1 : (y 1).val < 512 := (y 1).isLt
  have hb := (idx t).2.2.2.2.2.2.2
  have hcol : (colPt t).val % 16 = min (t.val % 16) 14 := by
    show (if t.val % 16 = 15 then t.val - 1 else t.val) % 16 = _
    split <;> omega
  have hC : 512 * min (t.val % 16) 14 + (y 1).val < 7680 := by omega
  have key : @Eq EReal (zmBlk (F := Ideal) (uOf m c t) (iblk m c 4 (colPt t)) (ix2 (⟨(y 0).val, h0⟩ : Fin 512) (⟨(y 1).val, h1⟩ : Fin 512)))
      (main1 (rows (argX m c) (argG m c) (argSc m c) (argSh m c)) (argW m c)
        (ix2 (⟨512 * (t.val / 16) + (y 0).val, by omega⟩ : Fin 16384) (⟨512 * min (t.val % 16) 14 + (y 1).val, hC⟩ : Fin 7680))) := by
    refine (zm_at _ _ _ _).trans (Eq.trans (Finset.sum_congr rfl fun d _ => ?_) (main1_at _ _ _ _).symm)
    refine congrArg₂ (fun u v : EReal => u * v) (uOf_at m c t ⟨(y 0).val, h0⟩ d)
      ((w_at m c (colPt t) d ⟨(y 1).val, h1⟩).trans (congrArg (fun C : Fin 8192 => argW m c (ix2 d C)) (Fin.ext ?_)))
    show 512 * ((colPt t).val % 16) + (y 1).val = 512 * min (t.val % 16) 14 + (y 1).val
    rw [hcol]
  blk_simp
  rw [after0_5]
  refine Eq.trans ?_ (key.trans ?_)
  · refine congrArg _ (funext fun a => ?_)
    match a with
    | ⟨0, _⟩ => rfl
    | ⟨1, _⟩ => rfl
  · blk_ext [idx t]

/-- **The whole grid, second result.** -/
theorem final_small : (dats m 0 c).arrAt 6 (cfgs 0).N = small (rows (argX m c) (argG m c) (argSc m c) (argSh m c)) (argW m c) := by
  refine (dats m 0 c).arrAt_eq_of_covers 6 _ (by decide +kernel) fun t hf y => ?_
  have h15 : t.val % 16 = 15 := (flush0_6 t).mp hf
  have h0 : (y 0).val < 512 := (y 0).isLt
  have h1 : (y 1).val < 256 := (y 1).isLt
  have hb := (idx t).2.2.2.2.2.2.2
  have key : @Eq EReal (zsBlk (F := Ideal) (uOf m c t) (iblk m c 4 t) (ix2 (⟨(y 0).val, h0⟩ : Fin 512) (⟨(y 1).val, h1⟩ : Fin 256)))
      (small (rows (argX m c) (argG m c) (argSc m c) (argSh m c)) (argW m c)
        (ix2 (⟨512 * (t.val / 16) + (y 0).val, by omega⟩ : Fin 16384) (⟨(y 1).val, h1⟩ : Fin 256))) := by
    refine (zs_at _ _ _ _).trans (Eq.trans (Finset.sum_congr rfl fun d _ => ?_) (small_at _ _ _ _).symm)
    refine congrArg₂ (fun u v : EReal => u * v) (uOf_at m c t ⟨(y 0).val, h0⟩ d)
      ((w_at m c t d ⟨(y 1).val, by omega⟩).trans (congrArg (fun C : Fin 8192 => argW m c (ix2 d C)) (Fin.ext ?_)))
    show 512 * (t.val % 16) + (y 1).val = 7680 + (y 1).val
    omega
  blk_simp
  rw [after0_6]
  refine Eq.trans ?_ (key.trans ?_)
  · refine congrArg _ (funext fun a => ?_)
    match a with
    | ⟨0, _⟩ => rfl
    | ⟨1, _⟩ => rfl
  · blk_ext [idx t]

end Cert.Kernel3Ideal.InProj

end
-- ==== Proof.InAlgebraic.lean ====
/-
  The input projection: the frames of its three programs, and that kernel and reference give the same two results over
  the extended reals, from any arguments.
-/
module

public import proofs.«01_k».proof.Defs
public import proofs.«01_k».proof.Proof.InBitsFrame
public import proofs.«01_k».proof.Proof.InValue

@[expose] public section

noncomputable section

namespace Cert.Proof

open Idealize.ShloMosaic Idealize.ShloMosaic.TcCoe Idealize.SL.Sem

/-- The kernel at the words of the machine. -/
theorem frame_proj_kernel : Cert.quiescent_Kernel3 (hKernel3 := Cert.Kernel3.Gen.facts) :=
  fun m ρ _ => Cert.Kernel3.InProj.run_frame (F := Bits) m ρ

/-- The kernel over the extended reals. -/
theorem frame_proj_ideal : Cert.quiescent_Kernel3Ideal (hKernel3Ideal := Cert.Kernel3Ideal.Gen.facts) :=
  fun m ρ _ => Cert.Kernel3Ideal.InProj.run_frame (F := Ideal) m ρ

/-- The reference over the extended reals: operations of the host only, without any counter. -/
theorem frame_proj_reference : Cert.quiescent_Reference3Ideal (hReference3Ideal := Cert.Reference3Ideal.Gen.facts) :=
  fun m ρ _ => (θ_run Cert.Reference3Ideal.defs _ _).mono (fun r h => ⟨fun c => (h c).2.2,
      sem_eq_zero_of_no_sems (by decide) r.2⟩) (Cert.Reference3Ideal.InProj.run m ρ)

/-- No operation of the kernel is rewritten. -/
theorem proj_unchanged : Cert.preserves_Kernel3_Kernel3Ideal := trivial

/-- **The value.** Both runs end with the reference's projected rows of the arguments. -/
theorem projection : Cert.algebraic_Kernel3Ideal_Reference3Ideal (hKernel3Ideal := Cert.Kernel3Ideal.Gen.facts)
    (hReference3Ideal := Cert.Reference3Ideal.Gen.facts) := by
  intro m ρ m' ρ' _ hargs
  refine ⟨fun c => (Cert.Kernel3Ideal.InProj.dats m 0 c).arrAt 5 (Cert.Kernel3Ideal.cfgs 0).N,
    fun c => (Cert.Kernel3Ideal.InProj.dats m 0 c).arrAt 6 (Cert.Kernel3Ideal.cfgs 0).N, ?_, ?_⟩
  · exact (θ_run _ _ _).mono (fun r h c => ⟨(h.1.1 c).1 5, (h.1.1 c).1 6, h.2.1 c⟩)
      (θ_run_and (Cert.Kernel3Ideal.InProj.run_quiescent (F := Ideal) m ρ) (Cert.Kernel3Ideal.InProj.run_frame (F := Ideal) m ρ))
  · refine (θ_run _ _ _).mono (fun r h c => ⟨?_, ?_, (h c).2.2⟩) (Cert.Reference3Ideal.InProj.run m' ρ')
    · obtain ⟨e0, e1, e2, e3, e4⟩ := hargs c
      refine (h c).1.trans (Eq.trans ?_ (Cert.Kernel3Ideal.InProj.final_main m c).symm)
      rw [e0, e1, e2, e3, e4]
    · obtain ⟨e0, e1, e2, e3, e4⟩ := hargs c
      refine (h c).2.1.trans (Eq.trans ?_ (Cert.Kernel3Ideal.InProj.final_small m c).symm)
      rw [e0, e1, e2, e3, e4]

end Cert.Proof

end
-- ==== Proof.OutIdealState.lean ====
/-
  What the output projection's body computes, as functions of the blocks it reads: the running sum after one block of
  the mixed columns, and at the last block the strips of the two results.
-/
module

public import proofs.«01_k».proof.Proof.IdealState
public import proofs.«01_k».proof.Proof.Gen.Kernel4Ideal.Frame.Runs

@[expose] public section

set_option maxRecDepth 16384

noncomputable section

namespace Cert.Kernel4Ideal.OutProj

open Cert.Kernel4Ideal Cert.Kernel4Ideal.Gen
open Cert.KernelIdeal.Attn (blk readAt_blk)
open Idealize.ShloMosaic

variable {F : FTy → Type} [FloatOps F]

/-- The block of mixed columns: at the first four points of a row block from the first operand, then from the second. -/
def mix (i : grid0.Coords) (X2 X3 : Vec F S512x512 .bf16) : Vec F S512x512 .bf16 :=
  Scalar.select (Scalar.cmpi .slt (BitVec.ofNat 32 (i 1).val) 4#32) X2 X3

/-- Piece `n` of 512 columns of the running sum `A`, the block's contribution added. -/
def colStep (H : FVec F S512x512 .bf16) (X4 : Vec F S512x4096 .bf16) (A : Vec F S512x4096 .f32) (n : ℕ) : FVec F S512x512 .f32 :=
  addf (blk (s := S512x4096) (by decide) A ![0, 512 * n] S512x512.size)
    (matmul dot_S512x512_S512x512_S512x512_1_0_0_1_n_n none H (blk (s := S512x4096) (by decide) X4 ![0, 512 * n] S512x512.size) (constant S512x512 .f32 0x00000000#32))

/-- The running sum after the first `n` of its eight pieces. -/
def accUpTo (H : FVec F S512x512 .bf16) (X4 : Vec F S512x4096 .bf16) (A : Vec F S512x4096 .f32) : ℕ → Vec F S512x4096 .f32
  | 0 => A
  | n + 1 => VecWindow.put (accUpTo H X4 A n) ![0, 512 * n] S512x512.size (colStep H X4 A n)

/-- The running sum starts at zero. -/
def accZero : Vec F S512x4096 .f32 := broadcast S512x4096 (Scalar.ofBits .f32 0x00000000#32)

/-- The running sum after one block of mixed columns, from what it held before; at the first block from zero. -/
def accNext (i : grid0.Coords) (X2 X3 : Vec F S512x512 .bf16) (X4 : Vec F S512x4096 .bf16) (A : Vec F S512x4096 .f32) : Vec F S512x4096 .f32 :=
  accUpTo (mix i X2 X3) X4 (if (i 1).val = 0 then accZero else A) 8

/-- 128 rows normalised and scaled by `g`. -/
def normed (g : Vec F S1x4096 .f32) (B : FVec F S128x4096 .f32) : FVec F S128x4096 .f32 :=
  mulf (mulf B (broadcastTo S128x4096 (rsqrt (addf (divf (shapeCast S128x1 (multiReduction .add [1] S128 (mulf B B) 0x00000000#32 reduces_S128x4096_S128 (.inl rfl) rfl) shapeCasts_S128_S128x1)
    (broadcast S128x1 (Scalar.ofBits .f32 0x45800000#32))) (broadcast S128x1 (Scalar.ofBits .f32 0x358637BD#32)))) broadcasts_S128x1_S128x4096))
    (broadcastTo S128x4096 g broadcasts_S1x4096_S128x4096)

/-- A strip of the first result: the sum's rows `B`, normalised and scaled, gated, added to the residual's rows `x`. -/
def oStrip (X6 : Vec F S1x1x4096 .f32) (X7 : Vec F S1x4096 .f32) (x B : FVec F S128x4096 .f32) : FVec F S128x4096 .f32 :=
  addf x (mulf (broadcastTo S128x4096 (shapeCast S1x4096 X6 shapeCasts_S1x1x4096_S1x4096) broadcasts_S1x4096_S128x4096) (normed X7 B))

/-- A strip of the second: the first's rows, normalised and scaled, then scaled by one plus `X9` and shifted by `X10`. -/
def uStrip (X8 : Vec F S1x4096 .f32) (X9 X10 : Vec F S1x1x4096 .f32) (x : FVec F S128x4096 .f32) : FVec F S128x4096 .bf16 :=
  truncf .bf16 (addf (mulf (normed X8 x)
    (broadcastTo S128x4096 (addf (broadcast S1x4096 (Scalar.ofBits .f32 0x3F800000#32)) (shapeCast S1x4096 X9 shapeCasts_S1x1x4096_S1x4096)) broadcasts_S1x4096_S128x4096))
    (broadcastTo S128x4096 (shapeCast S1x4096 X10 shapeCasts_S1x1x4096_S1x4096) broadcasts_S1x4096_S128x4096)) bitsLt_bf16_f32

/-- Strip `n` of the first result's block. -/
def oStripAt (X5 : Vec F S512x4096 .f32) (X6 : Vec F S1x1x4096 .f32) (X7 : Vec F S1x4096 .f32) (B : Vec F S512x4096 .f32) (n : ℕ) : FVec F S128x4096 .f32 :=
  oStrip X6 X7 (blk (s := S512x4096) (by decide) X5 ![128 * n, 0] S128x4096.size) (blk (s := S512x4096) (by decide) B ![128 * n, 0] S128x4096.size)

/-- Strip `n` of the second result's block. -/
def uStripAt (X5 : Vec F S512x4096 .f32) (X6 : Vec F S1x1x4096 .f32) (X7 X8 : Vec F S1x4096 .f32) (X9 X10 : Vec F S1x1x4096 .f32) (B : Vec F S512x4096 .f32) (n : ℕ) : FVec F S128x4096 .bf16 :=
  uStrip X8 X9 X10 (oStripAt X5 X6 X7 B n)

/-- A block of 512 rows put together from strips of 128: row `r` is row `r % 128` of strip `r / 128`. -/
def ofStrips {α : Type} (f : ℕ → S128x4096.Idx → α) : S512x4096.Idx → α := fun y =>
  f ((y 0).val / 128) (Fin.cons (α := fun a => Fin (S128x4096.size a)) (⟨(y 0).val % 128, Nat.mod_lt _ (by decide)⟩ : Fin 128) (Fin.cons (⟨(y 1).val, (y 1).isLt⟩ : Fin 4096) finZeroElim))

/-- The block after the first `n` of its four strips are in place. -/
def upTo {α : Type} (f : ℕ → S128x4096.Idx → α) (U : S512x4096.Idx → α) : ℕ → S512x4096.Idx → α
  | 0 => U
  | n + 1 => VecWindow.put (upTo f U n) ![128 * n, 0] S128x4096.size (f n)

theorem upTo_val {α : Type} (f : ℕ → S128x4096.Idx → α) (U : S512x4096.Idx → α) (n : ℕ) (y : S512x4096.Idx) :
    upTo f U n y = if (y 0).val < 128 * n then ofStrips f y else U y := by
  induction n with
  | zero => rw [if_neg (by omega)]; rfl
  | succ n ih =>
    show VecWindow.put (upTo f U n) ![128 * n, 0] S128x4096.size (f n) y = _
    unfold VecWindow.put
    have h1 : (y 1).val < 4096 := (y 1).isLt
    by_cases h : ∀ a, (![128 * n, 0] : Fin 2 → ℕ) a ≤ (y a).val ∧ (y a).val < (![128 * n, 0] : Fin 2 → ℕ) a + S128x4096.size a
    · have h0 : 128 * n ≤ (y 0).val ∧ (y 0).val < 128 * n + 128 := h 0
      have e : (y 0).val / 128 = n := by omega
      rw [dif_pos h, if_pos (by omega)]
      unfold ofStrips
      rw [e]
      refine congrArg _ (funext fun a => Fin.ext ?_)
      match a with
      | ⟨0, _⟩ => show (y 0).val - 128 * n = (y 0).val % 128; omega
      | ⟨1, _⟩ => show (y 1).val - 0 = (y 1).val; omega
    · rw [dif_neg h, ih]
      have h0 : ¬ (128 * n ≤ (y 0).val ∧ (y 0).val < 128 * n + 128) := fun h0 => h fun a => by
        match a with
        | ⟨0, _⟩ => exact h0
        | ⟨1, _⟩ => exact ⟨Nat.zero_le _, by show (y 1).val < 0 + 4096; omega⟩
      by_cases h2 : (y 0).val < 128 * n
      · rw [if_pos h2, if_pos (by omega)]
      · rw [if_neg h2, if_neg (by omega)]

/-- After its four strips the block is the strips put together. -/
theorem upTo_four {α : Type} (f : ℕ → S128x4096.Idx → α) (U : S512x4096.Idx → α) : upTo f U 4 = ofStrips f := funext fun y => by
  have h0 : (y 0).val < 512 := (y 0).isLt
  rw [upTo_val, if_pos (by omega)]

/-- Strip `n` is still as it was before the first `n` strips were put in place. -/
theorem blk_upTo {α : Type} (f : ℕ → S128x4096.Idx → α) (U : S512x4096.Idx → α) (n : ℕ) (hn : n < 4) :
    blk (s := S512x4096) (by decide) (upTo f U n) ![128 * n, 0] S128x4096.size = blk (s := S512x4096) (by decide) U ![128 * n, 0] S128x4096.size := funext fun y => by
  unfold blk
  rw [upTo_val]
  have hy : (y 0).val < 128 := (y 0).isLt
  refine if_neg ?_
  show ¬ ((128 * n + (y 0).val) % 512 < 128 * n)
  rw [Nat.mod_eq_of_lt (by omega)]
  omega

/-- The first result's block as it leaves the row block's last point. -/
def oAll (X5 : Vec F S512x4096 .f32) (X6 : Vec F S1x1x4096 .f32) (X7 : Vec F S1x4096 .f32) (B : Vec F S512x4096 .f32) : Vec F S512x4096 .f32 :=
  ofStrips (oStripAt X5 X6 X7 B)

/-- The second result's block there. -/
def uAll (X5 : Vec F S512x4096 .f32) (X6 : Vec F S1x1x4096 .f32) (X7 X8 : Vec F S1x4096 .f32) (X9 X10 : Vec F S1x1x4096 .f32) (B : Vec F S512x4096 .f32) : Vec F S512x4096 .bf16 :=
  ofStrips (uStripAt X5 X6 X7 X8 X9 X10 B)

/-! ## The kernel's words -/

theorem first_iff (i : grid0.Coords) : cond0_0 i ↔ (i 1).val = 0 := by
  have h : ∀ k : Fin 8, (Scalar.cmpi .ne (Scalar.extui (Scalar.cmpi .eq (BitVec.ofNat 32 k.val) 0#32) : BitVec 32) 0#32 = 1#1) ↔ k.val = 0 := by decide +kernel
  exact h (i 1)

theorem last_iff (i : grid0.Coords) : k0_cond2 i = 1#1 ↔ (i 1).val = 7 := by
  have h : ∀ k : Fin 8, (Scalar.cmpi .ne (Scalar.extui (Scalar.cmpi .eq (BitVec.ofNat 32 k.val) 7#32) : BitVec 32) 0#32 = 1#1) ↔ k.val = 7 := by decide +kernel
  exact h (i 1)

theorem mix_fst (i : grid0.Coords) (X2 X3 : Vec F S512x512 .bf16) (h : (i 1).val < 4) : mix i X2 X3 = X2 := by
  have e : ∀ k : Fin 8, k.val < 4 → Scalar.cmpi .slt (BitVec.ofNat 32 k.val) 4#32 = 1#1 := by decide +kernel
  unfold mix
  rw [e (i 1) h]
  rfl

theorem mix_snd (i : grid0.Coords) (X2 X3 : Vec F S512x512 .bf16) (h : ¬ (i 1).val < 4) : mix i X2 X3 = X3 := by
  have e : ∀ k : Fin 8, ¬ k.val < 4 → Scalar.cmpi .slt (BitVec.ofNat 32 k.val) 4#32 = 0#1 := by decide +kernel
  unfold mix
  rw [e (i 1) h]
  rfl

theorem t1_trips : k0_t1_loop.trips = 4 := by decide +kernel

theorem off1 : ∀ t1 : Fin k0_t1_loop.trips, k0_off1 t1 = ![128 * t1.val, 0] := by decide +kernel

end Cert.Kernel4Ideal.OutProj

end
-- ==== Proof.OutPoint.lean ====
/-
  The output projection's body over the extended reals, read at an index: a block of mixed columns adds its products to
  the running sum; a strip of the first result is the residual plus the gated, normalised sum, a strip of the second
  that row normalised again, scaled and shifted.
-/
module

public import proofs.«01_k».proof.Proof.OutIdealState
public import Idealize.ShloMosaic.Lib.Pointwise

@[expose] public section

set_option maxRecDepth 16384

noncomputable section

namespace Cert.Kernel4Ideal.OutProj

open Cert.Kernel4Ideal Cert.Kernel4Ideal.Gen
open Cert.KernelIdeal.Attn (blk readAt_blk)
open Idealize.ShloMosaic

theorem col_at (H : FVec Ideal S512x512 .bf16) (X4 : Vec Ideal S512x4096 .bf16) (A : Vec Ideal S512x4096 .f32) (n : ℕ) (r c : Fin 512) :
    @Eq EReal (colStep H X4 A n (ix2 r c))
      (A (ix2 r ⟨(512 * n + c.val) % 4096, Nat.mod_lt _ (by decide)⟩)
        + ∑ k : Fin 512, H (ix2 r k) * X4 (ix2 k ⟨(512 * n + c.val) % 4096, Nat.mod_lt _ (by decide)⟩)) := by
  have hA : blk (s := S512x4096) (by decide) A ![0, 512 * n] S512x512.size (ix2 r c) = A (ix2 r ⟨(512 * n + c.val) % 4096, Nat.mod_lt _ (by decide)⟩) := by
    refine congrArg A (funext fun a => Fin.ext ?_)
    match a with
    | ⟨0, _⟩ => show (0 + r.val) % 512 = r.val; omega
    | ⟨1, _⟩ => rfl
  have hX (k : Fin 512) : blk (s := S512x4096) (by decide) X4 ![0, 512 * n] S512x512.size (ix2 k c) = X4 (ix2 k ⟨(512 * n + c.val) % 4096, Nat.mod_lt _ (by decide)⟩) := by
    refine congrArg X4 (funext fun a => Fin.ext ?_)
    match a with
    | ⟨0, _⟩ => show (0 + k.val) % 512 = k.val; omega
    | ⟨1, _⟩ => rfl
  pointwise [colStep]
  simp only [hA, hX]

theorem accUpTo_at (H : FVec Ideal S512x512 .bf16) (X4 : Vec Ideal S512x4096 .bf16) (A : Vec Ideal S512x4096 .f32) (n : ℕ) (r : Fin 512) (c : Fin 4096) :
    @Eq EReal (accUpTo H X4 A n (ix2 r c))
      (if c.val < 512 * n then A (ix2 r c) + ∑ k : Fin 512, H (ix2 r k) * X4 (ix2 k c) else A (ix2 r c)) := by
  induction n with
  | zero => rw [if_neg (by omega)]; rfl
  | succ n ih =>
    show VecWindow.put (accUpTo H X4 A n) ![0, 512 * n] S512x512.size (colStep H X4 A n) (ix2 r c) = _
    unfold VecWindow.put
    by_cases h : ∀ a, (![0, 512 * n] : Fin 2 → ℕ) a ≤ ((ix2 r c : S512x4096.Idx) a).val ∧ ((ix2 r c : S512x4096.Idx) a).val < (![0, 512 * n] : Fin 2 → ℕ) a + S512x512.size a
    · have h1 : 512 * n ≤ c.val ∧ c.val < 512 * n + 512 := h 1
      rw [dif_pos h, if_pos (by omega)]
      have e : (⟨(512 * n + (c.val - 512 * n)) % 4096, Nat.mod_lt _ (by decide)⟩ : Fin 4096) = c := Fin.ext (by show (512 * n + (c.val - 512 * n)) % 4096 = c.val; have := c.isLt; omega)
      refine Eq.trans (congrArg _ (a₂ := ix2 r (⟨c.val - 512 * n, by omega⟩ : Fin 512)) (funext fun a => Fin.ext ?_)) ((col_at H X4 A n r ⟨c.val - 512 * n, by omega⟩).trans ?_)
      · match a with
        | ⟨0, _⟩ => show r.val - 0 = r.val; omega
        | ⟨1, _⟩ => rfl
      · simp only [e]
    · rw [dif_neg h]
      have h1 : ¬ (512 * n ≤ c.val ∧ c.val < 512 * n + 512) := fun h1 => h fun a => by
        match a with
        | ⟨0, _⟩ => exact ⟨Nat.zero_le _, by show r.val < 0 + 512; omega⟩
        | ⟨1, _⟩ => exact h1
      refine ih.trans ?_
      by_cases h2 : c.val < 512 * n
      · rw [if_pos h2, if_pos (by omega)]
      · rw [if_neg h2, if_neg (by omega)]

/-- A block of mixed columns adds its products to the running sum, which starts at zero. -/
theorem accNext_at (i : grid0.Coords) (X2 X3 : Vec Ideal S512x512 .bf16) (X4 : Vec Ideal S512x4096 .bf16) (A : Vec Ideal S512x4096 .f32) (r : Fin 512) (c : Fin 4096) :
    @Eq EReal (accNext i X2 X3 X4 A (ix2 r c))
      ((if (i 1).val = 0 then 0 else (show EReal from A (ix2 r c))) + ∑ k : Fin 512, (show EReal from mix i X2 X3 (ix2 r k)) * X4 (ix2 k c)) := by
  unfold accNext
  refine (accUpTo_at _ _ _ 8 r c).trans ?_
  rw [if_pos (by have := c.isLt; omega)]
  refine congrArg₂ (fun u v : EReal => u + v) ?_ rfl
  split_ifs with h
  · show Ideal.ofBits .f32 0x00000000#32 = 0
    simp
  · rfl

/-! ## The strips -/

/-- Element `d` of a normalised, scaled row. -/
def nrm (row : Fin 4096 → EReal) (g : Fin 4096 → EReal) (d : Fin 4096) : EReal :=
  row d * Ideal.rsqrt (Ideal.div (∑ k : Fin 4096, row k * row k) (Ideal.ofBits .f32 0x45800000#32) + Ideal.ofBits .f32 0x358637BD#32) * g d

theorem normed_at (g : Vec Ideal S1x4096 .f32) (B : FVec Ideal S128x4096 .f32) (r : Fin 128) (d : Fin 4096) :
    @Eq EReal (normed g B (ix2 r d)) (nrm (fun k => B (ix2 r k)) (fun k => g (ix2 0 k)) d) := by
  unfold nrm
  pointwise [normed]

theorem oStrip_at (X6 : Vec Ideal S1x1x4096 .f32) (X7 : Vec Ideal S1x4096 .f32) (x B : FVec Ideal S128x4096 .f32) (r : Fin 128) (d : Fin 4096) :
    @Eq EReal (oStrip X6 X7 x B (ix2 r d)) (x (ix2 r d) + X6 (ix3 0 0 d) * nrm (fun k => B (ix2 r k)) (fun k => X7 (ix2 0 k)) d) := by
  rw [← normed_at]
  unfold oStrip
  generalize normed X7 B = N
  pointwise

theorem uStrip_at (X8 : Vec Ideal S1x4096 .f32) (X9 X10 : Vec Ideal S1x1x4096 .f32) (x : FVec Ideal S128x4096 .f32) (r : Fin 128) (d : Fin 4096) :
    @Eq EReal (uStrip X8 X9 X10 x (ix2 r d))
      (nrm (fun k => x (ix2 r k)) (fun k => X8 (ix2 0 k)) d * (Ideal.ofBits .f32 0x3F800000#32 + X9 (ix3 0 0 d)) + X10 (ix3 0 0 d)) := by
  rw [← normed_at]
  unfold uStrip
  generalize normed X8 x = N
  pointwise

/-- The first result's block, at an index. -/
theorem oAll_at (X5 : Vec Ideal S512x4096 .f32) (X6 : Vec Ideal S1x1x4096 .f32) (X7 : Vec Ideal S1x4096 .f32) (B : Vec Ideal S512x4096 .f32) (r : Fin 512) (d : Fin 4096) :
    @Eq EReal (oAll X5 X6 X7 B (ix2 r d)) (X5 (ix2 r d) + X6 (ix3 0 0 d) * nrm (fun k => B (ix2 r k)) (fun k => X7 (ix2 0 k)) d) := by
  have hx (X : Vec Ideal S512x4096 .f32) (k : Fin 4096) : blk (s := S512x4096) (by decide) X ![128 * (r.val / 128), 0] S128x4096.size
      (ix2 (⟨r.val % 128, Nat.mod_lt _ (by decide)⟩ : Fin 128) k) = X (ix2 r k) := by
    refine congrArg X (funext fun a => Fin.ext ?_)
    match a with
    | ⟨0, _⟩ => show (128 * (r.val / 128) + r.val % 128) % 512 = r.val; omega
    | ⟨1, _⟩ => show (0 + k.val) % 4096 = k.val; omega
  refine Eq.trans (congrArg _ (a₂ := ix2 (⟨r.val % 128, Nat.mod_lt _ (by decide)⟩ : Fin 128) d) (funext fun a => Fin.ext ?_))
    ((oStrip_at X6 X7 (blk (s := S512x4096) (by decide) X5 ![128 * (r.val / 128), 0] S128x4096.size)
      (blk (s := S512x4096) (by decide) B ![128 * (r.val / 128), 0] S128x4096.size) ⟨r.val % 128, Nat.mod_lt _ (by decide)⟩ d).trans ?_)
  · match a with
    | ⟨0, _⟩ => rfl
    | ⟨1, _⟩ => rfl
  · simp only [hx]

/-- The second result's block, at an index: the first's row normalised, scaled and shifted. -/
theorem uAll_at (X5 : Vec Ideal S512x4096 .f32) (X6 : Vec Ideal S1x1x4096 .f32) (X7 X8 : Vec Ideal S1x4096 .f32) (X9 X10 : Vec Ideal S1x1x4096 .f32) (B : Vec Ideal S512x4096 .f32) (r : Fin 512) (d : Fin 4096) :
    @Eq EReal (uAll X5 X6 X7 X8 X9 X10 B (ix2 r d))
      (nrm (fun k => oAll X5 X6 X7 B (ix2 r k)) (fun k => X8 (ix2 0 k)) d * (Ideal.ofBits .f32 0x3F800000#32 + X9 (ix3 0 0 d)) + X10 (ix3 0 0 d)) := by
  have hx (k : Fin 4096) : oAll X5 X6 X7 B (ix2 r k) = oStripAt X5 X6 X7 B (r.val / 128) (ix2 (⟨r.val % 128, Nat.mod_lt _ (by decide)⟩ : Fin 128) k) := by
    refine congrArg (oStripAt X5 X6 X7 B (r.val / 128)) (funext fun a => Fin.ext ?_)
    match a with
    | ⟨0, _⟩ => rfl
    | ⟨1, _⟩ => rfl
  refine Eq.trans (congrArg _ (a₂ := ix2 (⟨r.val % 128, Nat.mod_lt _ (by decide)⟩ : Fin 128) d) (funext fun a => Fin.ext ?_))
    ((uStrip_at X8 X9 X10 (oStripAt X5 X6 X7 B (r.val / 128)) ⟨r.val % 128, Nat.mod_lt _ (by decide)⟩ d).trans ?_)
  · match a with
    | ⟨0, _⟩ => rfl
    | ⟨1, _⟩ => rfl
  · simp only [hx]

end Cert.Kernel4Ideal.OutProj

end
-- ==== Proof.OutIdealBody.lean ====
/-
  One grid point of the output projection: the running sum after it, and at the last point of a row block the four
  strips of the two results.
-/
module

public import proofs.«01_k».proof.Proof.OutIdealState
public import Idealize.ShloMosaic.Lib.Exec
public import Idealize.ShloMosaic.Lib.Pointwise.Reshape
public import Idealize.ShloMosaic.Lib.VecWindow
public import Idealize.ShloMosaic.Lib.Tactic
public import Idealize.ShloMosaic.Lib.Pipeline.Kit
public import Idealize.ShloMosaic.Lib.Pipeline.Value
public import Idealize.ShloMosaic.Lib.Pipeline.FrameValue

@[expose] public section

set_option maxRecDepth 16384

noncomputable section

namespace Cert.Kernel4Ideal.OutProj

open Cert.Kernel4Ideal Cert.Kernel4Ideal.Gen
open Cert.KernelIdeal.Attn (blk readAt_blk)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A load through a buffer that reads as `X` reads that window of `X`. -/
theorem readAt_of_read {sp : Space} {s : Shape} {e : EltTy} (v : View sig .tc sp s e) {f : v.ty.Contents (Elt F)} {X : s.Idx → Elt F e} (hf : v.read (Elt F) f = X) (hpos : ∀ a, 0 < s.size a) {off off' size : Fin s.rank → ℕ}
    (inb : ∀ a, off a + size a ≤ s.size a) (h : off = off') :
    v.readAt (Elt F) (Rect.unit off size inb).toLoadRect f = blk hpos X off' size := by
  refine Eq.trans ?_ (readAt_blk v X hpos inb h)
  funext x
  rw [View.readAt_apply, View.readAt_apply, hf, View.read_rep]

/-- One piece of the running sum as the kernel computes it. -/
theorem piece_eq (n : ℕ) {H H' : FVec F S512x512 .bf16} {A : Vec F S512x4096 .f32} {X4 : Vec F S512x4096 .bf16} {Av : Vec F S512x512 .f32} {Xv : Vec F S512x512 .bf16}
    (hA : Av = blk (s := S512x4096) (by decide) A ![0, 512 * n] S512x512.size) (hH : H' = H) (hX : Xv = blk (s := S512x4096) (by decide) X4 ![0, 512 * n] S512x512.size) (hc) :
    addf (shapeCast S512x512 Av hc) (matmul dot_S512x512_S512x512_S512x512_1_0_0_1_n_n none H' Xv (constant S512x512 .f32 0x00000000#32)) = colStep H X4 A n := by
  subst hA hH hX
  rw [shapeCast_id]
  rfl

/-- The running sum read back after its eight pieces are written one after another. -/
theorem read_pieces {κ : Kind} {sp : Space} (v : View sig κ sp S512x4096 .f32) {base : v.ty.Contents (Elt F)} {H : FVec F S512x512 .bf16} {X4 : Vec F S512x4096 .bf16} {A : Vec F S512x4096 .f32} (hb : v.read (Elt F) base = A)
    {w0 w1 w2 w3 w4 w5 w6 w7 : Vec F S512x512 .f32} (b0 b1 b2 b3 b4 b5 b6 b7) (e0 : w0 = colStep H X4 A 0) (e1 : w1 = colStep H X4 A 1) (e2 : w2 = colStep H X4 A 2) (e3 : w3 = colStep H X4 A 3)
    (e4 : w4 = colStep H X4 A 4) (e5 : w5 = colStep H X4 A 5) (e6 : w6 = colStep H X4 A 6) (e7 : w7 = colStep H X4 A 7) :
    v.read (Elt F) (v.writes (Elt F) base [⟨Rect.unit (s := S512x4096) ![0, 3584] S512x512.size b7, w7⟩, ⟨Rect.unit (s := S512x4096) ![0, 3072] S512x512.size b6, w6⟩, ⟨Rect.unit (s := S512x4096) ![0, 2560] S512x512.size b5, w5⟩, ⟨Rect.unit (s := S512x4096) ![0, 2048] S512x512.size b4, w4⟩,
      ⟨Rect.unit (s := S512x4096) ![0, 1536] S512x512.size b3, w3⟩, ⟨Rect.unit (s := S512x4096) ![0, 1024] S512x512.size b2, w2⟩, ⟨Rect.unit (s := S512x4096) ![0, 512] S512x512.size b1, w1⟩, ⟨Rect.unit (s := S512x4096) ![0, 0] S512x512.size b0, w0⟩])
    = accUpTo H X4 A 8 := by
  subst e0 e1 e2 e3 e4 e5 e6 e7
  rw [View.read_writes_cons_put v base b7 _ _ (off' := ![0, 512 * 7]) rfl, View.read_writes_cons_put v base b6 _ _ (off' := ![0, 512 * 6]) rfl, View.read_writes_cons_put v base b5 _ _ (off' := ![0, 512 * 5]) rfl,
    View.read_writes_cons_put v base b4 _ _ (off' := ![0, 512 * 4]) rfl, View.read_writes_cons_put v base b3 _ _ (off' := ![0, 512 * 3]) rfl, View.read_writes_cons_put v base b2 _ _ (off' := ![0, 512 * 2]) rfl,
    View.read_writes_cons_put v base b1 _ _ (off' := ![0, 512 * 1]) rfl, View.read_writes_cons_put v base b0 _ _ (off' := ![0, 512 * 0]) rfl]
  simp only [accUpTo]
  rw [show v.read (Elt F) (v.writes (Elt F) base []) = A from hb]

theorem pay3_eq (B : FVec F S128x4096 .f32) (g : Vec F S1x4096 .f32) (x : FVec F S128x4096 .f32) (gt : Vec F S1x1x4096 .f32) : k0_pay3 B g x gt = oStrip gt g x B := by
  dsimp only [k0_pay3]
  rw [shapeCast_id]
  rfl

theorem pay4_eq (B : FVec F S128x4096 .f32) (g : Vec F S1x4096 .f32) (x : FVec F S128x4096 .f32) (gt : Vec F S1x1x4096 .f32) (g2 : Vec F S1x4096 .f32) : k0_pay4 B g x gt g2 = normed g2 (k0_pay3 B g x gt) := rfl

theorem pay2_eq (x : FVec F S128x4096 .f32) (g : Vec F S1x4096 .f32) (s h : Vec F S1x1x4096 .f32) : k0_pay2 (normed g x) s h = uStrip g s h x := rfl

section
variable (𝒱 : Variants) (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x4096 .bf16) (harg4 : arg4.IsWhole) (arg5 : Memref sig .tc .vmem S512x4096 .f32) (harg5 : arg5.IsWhole) (arg6 : Memref sig .tc .vmem S1x1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x1x4096 .f32) (harg9 : arg9.IsWhole) (arg10 : Memref sig .tc .vmem S1x1x4096 .f32) (harg10 : arg10.IsWhole) (arg11 : Memref sig .tc .vmem S512x4096 .f32) (harg11 : arg11.IsWhole) (arg12 : Memref sig .tc .vmem S512x4096 .bf16) (harg12 : arg12.IsWhole)
  (X2 X3 : Vec F S512x512 .bf16) (X4 : Vec F S512x4096 .bf16) (X5 : Vec F S512x4096 .f32) (X6 : Vec F S1x1x4096 .f32) (X7 X8 : Vec F S1x4096 .f32) (X9 X10 : Vec F S1x1x4096 .f32)

/-- What a pass over a strip works on: the residual's rows, the five vectors, the two results' blocks. -/
def heldS (A : Vec F S512x4096 .f32) (U : Vec F S512x4096 .bf16) : sProp 𝕄 :=
  iprop((arg5.view.loc (c : Thread nD τ) ↦[arg5.view.set]{fullShare} arg5.view.rep X5) ∗ (arg6.view.loc (c : Thread nD τ) ↦[arg6.view.set]{fullShare} arg6.view.rep X6) ∗ (arg7.view.loc (c : Thread nD τ) ↦[arg7.view.set]{fullShare} arg7.view.rep X7) ∗ (arg8.view.loc (c : Thread nD τ) ↦[arg8.view.set]{fullShare} arg8.view.rep X8)
    ∗ (arg9.view.loc (c : Thread nD τ) ↦[arg9.view.set]{fullShare} arg9.view.rep X9) ∗ (arg10.view.loc (c : Thread nD τ) ↦[arg10.view.set]{fullShare} arg10.view.rep X10) ∗ (arg11.view.loc (c : Thread nD τ) ↦[arg11.view.set]{fullShare} arg11.view.rep A) ∗ (arg12.view.loc (c : Thread nD τ) ↦[arg12.view.set]{fullShare} arg12.view.rep U))

/-- A pass puts strip `t1` of both results in place. -/
theorem pass_triple (E : Set ℕ) (bd : Option 𝒱.V) (h2 : k0_cond2 i = 1#1) (t1 : Fin k0_t1_loop.trips) (a : Unit) (B : Vec F S512x4096 .f32) (U : Vec F S512x4096 .bf16) :
    heldS c arg5 arg6 arg7 arg8 arg9 arg10 arg11 arg12 X5 X6 X7 X8 X9 X10 (upTo (oStripAt X5 X6 X7 B) B t1.val) (upTo (uStripAt X5 X6 X7 X8 X9 X10 B) U t1.val)
    ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 h2 t1 a)
        (fun _ => heldS c arg5 arg6 arg7 arg8 arg9 arg10 arg11 arg12 X5 X6 X7 X8 X9 X10 (upTo (oStripAt X5 X6 X7 B) B (t1.val + 1)) (upTo (uStripAt X5 X6 X7 X8 X9 X10 B) U (t1.val + 1))) := by
  have hk : t1.val < 4 := Nat.lt_of_lt_of_eq t1.isLt t1_trips
  unfold heldS k0_t1_body
  have e5 : arg5.view.readAt (Elt F) (Rect.unit (s := S512x4096) (k0_off1 t1) S128x4096.size (k0_off1_inb i t1 h2)).toLoadRect (arg5.view.rep X5) = blk (s := S512x4096) (by decide) X5 ![128 * t1.val, 0] S128x4096.size :=
    readAt_blk arg5.view X5 (by decide) _ (off1 t1)
  have e11 : arg11.view.readAt (Elt F) (Rect.unit (s := S512x4096) (k0_off1 t1) S128x4096.size (k0_off1_inb i t1 h2)).toLoadRect (arg11.view.rep (upTo (oStripAt X5 X6 X7 B) B t1.val)) = blk (s := S512x4096) (by decide) B ![128 * t1.val, 0] S128x4096.size :=
    Eq.trans (readAt_blk arg11.view (upTo (oStripAt X5 X6 X7 B) B t1.val) (off' := ![128 * t1.val, 0]) (size := S128x4096.size) (by decide) _ (off1 t1)) (blk_upTo _ B t1.val hk)
  have e6 : arg6.view.readAt (Elt F) (Rect.unit (s := S1x1x4096) ![0, 0, 0] S1x1x4096.size inb_S1x1x4096_S1x1x4096_0_0_0).toLoadRect (arg6.view.rep X6) = X6 :=
    View.readAt_rep_full (Val := Elt F) (s := S1x1x4096) (e := .f32) arg6.view X6 (off := ![0, 0, 0]) inb_S1x1x4096_S1x1x4096_0_0_0
  have e7 : arg7.view.readAt (Elt F) (Rect.unit (s := S1x4096) ![0, 0] S1x4096.size inb_S1x4096_S1x4096_0_0).toLoadRect (arg7.view.rep X7) = X7 :=
    View.readAt_rep_full (Val := Elt F) (s := S1x4096) (e := .f32) arg7.view X7 (off := ![0, 0]) inb_S1x4096_S1x4096_0_0
  have e8 : arg8.view.readAt (Elt F) (Rect.unit (s := S1x4096) ![0, 0] S1x4096.size inb_S1x4096_S1x4096_0_0).toLoadRect (arg8.view.rep X8) = X8 :=
    View.readAt_rep_full (Val := Elt F) (s := S1x4096) (e := .f32) arg8.view X8 (off := ![0, 0]) inb_S1x4096_S1x4096_0_0
  have e9 : arg9.view.readAt (Elt F) (Rect.unit (s := S1x1x4096) ![0, 0, 0] S1x1x4096.size inb_S1x1x4096_S1x1x4096_0_0_0).toLoadRect (arg9.view.rep X9) = X9 :=
    View.readAt_rep_full (Val := Elt F) (s := S1x1x4096) (e := .f32) arg9.view X9 (off := ![0, 0, 0]) inb_S1x1x4096_S1x1x4096_0_0_0
  have e10 : arg10.view.readAt (Elt F) (Rect.unit (s := S1x1x4096) ![0, 0, 0] S1x1x4096.size inb_S1x1x4096_S1x1x4096_0_0_0).toLoadRect (arg10.view.rep X10) = X10 :=
    View.readAt_rep_full (Val := Elt F) (s := S1x1x4096) (e := .f32) arg10.view X10 (off := ![0, 0, 0]) inb_S1x1x4096_S1x1x4096_0_0_0
  iintro ⟨H5, H6, H7, H8, H9, H10, H11, H12⟩
  sl_exec
  sl_step
  ihave H11 := (pointsTo_rep_of_read (c : Thread nD τ) arg11 _ fullShare (upTo (oStripAt X5 X6 X7 B) B (t1.val + 1)) ?h11) $$ H11
  case h11 =>
    rw [View.read_writes_rep_unit arg11.view _ _ _ (off1 t1)]
    show _ = VecWindow.put (upTo (oStripAt X5 X6 X7 B) B t1.val) ![128 * t1.val, 0] S128x4096.size (oStripAt X5 X6 X7 B t1.val)
    congr 1
    unfold oStripAt
    rw [← e5, ← e11]
    exact pay3_eq _ _ _ _
  ihave H12 := (pointsTo_rep_of_read (c : Thread nD τ) arg12 _ fullShare (upTo (uStripAt X5 X6 X7 X8 X9 X10 B) U (t1.val + 1)) ?h12) $$ H12
  case h12 =>
    rw [View.read_writes_rep_unit arg12.view _ _ _ (off1 t1)]
    show _ = VecWindow.put (upTo (uStripAt X5 X6 X7 X8 X9 X10 B) U t1.val) ![128 * t1.val, 0] S128x4096.size (uStripAt X5 X6 X7 X8 X9 X10 B t1.val)
    congr 1
    unfold uStripAt oStripAt
    unfold pass_triple.sl.r
    rw [pay4_eq, pay2_eq, pay3_eq]
  sl_close

/-- The loop's invariant: the first `k` strips of both results are in place. -/
@[instance_reducible] def passInv (E : Set ℕ) (bd : Option 𝒱.V) (h2 : k0_cond2 i = 1#1) (B : Vec F S512x4096 .f32) (U : Vec F S512x4096 .bf16) :
    LoopInv (M := 𝕄) frame (wpE (defs₀ (F := F)) 𝒱 (c : Thread nD τ) bd) E
      k0_t1_loop.lb k0_t1_loop.ub k0_t1_loop.st (k0_t1_ok i h2) PUnit.unit (k0_t1_body (F := F) i arg2 harg2 arg3 harg3 arg4 harg4 arg5 harg5 arg6 harg6 arg7 harg7 arg8 harg8 arg9 harg9 arg10 harg10 arg11 harg11 arg12 harg12 h2) where
  inv k _ := heldS c arg5 arg6 arg7 arg8 arg9 arg10 arg11 arg12 X5 X6 X7 X8 X9 X10 (upTo (oStripAt X5 X6 X7 B) B k) (upTo (uStripAt X5 X6 X7 X8 X9 X10 B) U k)
  step k a := pass_triple 𝒱 c i arg2 harg2 arg3 harg3 arg4 harg4 arg5 harg5 arg6 harg6 arg7 harg7 arg8 harg8 arg9 harg9 arg10 harg10 arg11 harg11 arg12 harg12 X5 X6 X7 X8 X9 X10 E bd h2 k a B U

/-- After the loop both blocks are whole. -/
theorem pass_exit (E : Set ℕ) (bd : Option 𝒱.V) (h2 : k0_cond2 i = 1#1) (B : Vec F S512x4096 .f32) (U : Vec F S512x4096 .bf16) (a : PUnit) :
    (passInv 𝒱 c i arg2 harg2 arg3 harg3 arg4 harg4 arg5 harg5 arg6 harg6 arg7 harg7 arg8 harg8 arg9 harg9 arg10 harg10 arg11 harg11 arg12 harg12 X5 X6 X7 X8 X9 X10 E bd h2 B U).inv (Scf.trips k0_t1_loop.lb k0_t1_loop.ub k0_t1_loop.st) a
      ⊢ heldS c arg5 arg6 arg7 arg8 arg9 arg10 arg11 arg12 X5 X6 X7 X8 X9 X10 (oAll X5 X6 X7 B) (uAll X5 X6 X7 X8 X9 X10 B) := by
  rw [show Scf.trips k0_t1_loop.lb k0_t1_loop.ub k0_t1_loop.st = 4 from t1_trips]
  show heldS c arg5 arg6 arg7 arg8 arg9 arg10 arg11 arg12 X5 X6 X7 X8 X9 X10 (upTo (oStripAt X5 X6 X7 B) B 4) (upTo (uStripAt X5 X6 X7 X8 X9 X10 B) U 4) ⊢ _
  rw [upTo_four, upTo_four]
  exact .rfl

/-- What the body holds: its windows' blocks. -/
def held (A : Vec F S512x4096 .f32) (U : Vec F S512x4096 .bf16) : sProp 𝕄 :=
  iprop((arg2.view.loc (c : Thread nD τ) ↦[arg2.view.set]{fullShare} arg2.view.rep X2) ∗ (arg3.view.loc (c : Thread nD τ) ↦[arg3.view.set]{fullShare} arg3.view.rep X3) ∗ (arg4.view.loc (c : Thread nD τ) ↦[arg4.view.set]{fullShare} arg4.view.rep X4)
    ∗ heldS c arg5 arg6 arg7 arg8 arg9 arg10 arg11 arg12 X5 X6 X7 X8 X9 X10 A U)

/-- The first result's block after the body. -/
def oNext (A : Vec F S512x4096 .f32) : Vec F S512x4096 .f32 :=
  if (i 1).val = 7 then oAll X5 X6 X7 (accNext i X2 X3 X4 A) else accNext i X2 X3 X4 A

/-- The second result's block after it. -/
def uNext (A : Vec F S512x4096 .f32) (U : Vec F S512x4096 .bf16) : Vec F S512x4096 .bf16 :=
  if (i 1).val = 7 then uAll X5 X6 X7 X8 X9 X10 (accNext i X2 X3 X4 A) else U

set_option maxHeartbeats 1000000 in
/-- The body at any grid point. -/
theorem body_triple (bd : Option 𝒱.V) (A : Vec F S512x4096 .f32) (U : Vec F S512x4096 .bf16) :
    held c arg2 arg3 arg4 arg5 arg6 arg7 arg8 arg9 arg10 arg11 arg12 X2 X3 X4 X5 X6 X7 X8 X9 X10 A U
    ⊢ wp frame (wpE (defs₀ (F := F)) 𝒱 (c : Thread nD τ) bd) Set.univ (cc0_out_proj (F := F) i arg2 harg2 arg3 harg3 arg4 harg4 arg5 harg5 arg6 harg6 arg7 harg7 arg8 harg8 arg9 harg9 arg10 harg10 arg11 harg11 arg12 harg12)
        (fun _ => held c arg2 arg3 arg4 arg5 arg6 arg7 arg8 arg9 arg10 arg11 arg12 X2 X3 X4 X5 X6 X7 X8 X9 X10 (oNext i X2 X3 X4 X5 X6 X7 A) (uNext i X2 X3 X4 X5 X6 X7 X8 X9 X10 A U)) := by
  unfold held heldS
  rw [cc0_out_proj_eq_skeleton]
  unfold cc0_out_proj_skel
  iintro ⟨H2, H3, H4, H5, H6, H7, H8, H9, H10, H11, H12⟩
  set_option sl_exec.stopBefore "k0_cond2" in
  sl_exec
  have eb : arg11.view.read (Elt F) (if hc : body_triple.sl.v6 i = 1#1 then arg11.view.writes (Elt F) (arg11.view.rep A) [⟨Rect.unit (s := S512x4096) ![0, 0] S512x4096.size inb_S512x4096_S512x4096_0_0, k0_pay6⟩] else arg11.view.rep A) = if (i 1).val = 0 then accZero else A := by
    by_cases hz : body_triple.sl.v6 i = 1#1
    · rw [dif_pos hz, if_pos ((first_iff i).mp hz), View.read_writes_full]
      rfl
    · rw [dif_neg hz, if_neg fun e => hz ((first_iff i).mpr e), View.read_rep]
  have eH : k0_pay5 i (arg2.view.readAt (Elt F) (Rect.unit (s := S512x512) ![0, 0] S512x512.size inb_S512x512_S512x512_0_0).toLoadRect (arg2.view.rep X2)) (arg3.view.readAt (Elt F) (Rect.unit (s := S512x512) ![0, 0] S512x512.size inb_S512x512_S512x512_0_0).toLoadRect (arg3.view.rep X3)) = mix i X2 X3 := by
    rw [View.readAt_rep_full, View.readAt_rep_full]
    rfl
  ihave H11 := (pointsTo_rep_of_read (c : Thread nD τ) arg11 _ fullShare (accNext i X2 X3 X4 A) ?h11) $$ H11
  case h11 =>
    refine read_pieces arg11.view eb _ _ _ _ _ _ _ _ ?_ ?_ ?_ ?_ ?_ ?_ ?_ ?_
    · exact piece_eq 0 (readAt_of_read arg11.view eb (by decide) _ rfl) eH (readAt_blk arg4.view X4 (by decide) _ rfl) _
    · exact piece_eq 1 (readAt_of_read arg11.view eb (by decide) _ rfl) eH (readAt_blk arg4.view X4 (by decide) _ rfl) _
    · exact piece_eq 2 (readAt_of_read arg11.view eb (by decide) _ rfl) eH (readAt_blk arg4.view X4 (by decide) _ rfl) _
    · exact piece_eq 3 (readAt_of_read arg11.view eb (by decide) _ rfl) eH (readAt_blk arg4.view X4 (by decide) _ rfl) _
    · exact piece_eq 4 (readAt_of_read arg11.view eb (by decide) _ rfl) eH (readAt_blk arg4.view X4 (by decide) _ rfl) _
    · exact piece_eq 5 (readAt_of_read arg11.view eb (by decide) _ rfl) eH (readAt_blk arg4.view X4 (by decide) _ rfl) _
    · exact piece_eq 6 (readAt_of_read arg11.view eb (by decide) _ rfl) eH (readAt_blk arg4.view X4 (by decide) _ rfl) _
    · exact piece_eq 7 (readAt_of_read arg11.view eb (by decide) _ rfl) eH (readAt_blk arg4.view X4 (by decide) _ rfl) _
  unfold oNext uNext
  generalize accNext i X2 X3 X4 A = B
  by_cases h2 : k0_cond2 i = 1#1
  · have h7 := (last_iff i).mp h2
    rw [dif_pos h2, if_pos h7, if_pos h7]
    iapply (exec_loop _ _ _ _ _ _ _ _ _ (passInv 𝒱 c i arg2 harg2 arg3 harg3 arg4 harg4 arg5 harg5 arg6 harg6 arg7 harg7 arg8 harg8 arg9 harg9 arg10 harg10 arg11 harg11 arg12 harg12 X5 X6 X7 X8 X9 X10 Set.univ bd h2 B U)) $$ [H5 H6 H7 H8 H9 H10 H11 H12]
    · iapply (show heldS c arg5 arg6 arg7 arg8 arg9 arg10 arg11 arg12 X5 X6 X7 X8 X9 X10 B U ⊢ (passInv 𝒱 c i arg2 harg2 arg3 harg3 arg4 harg4 arg5 harg5 arg6 harg6 arg7 harg7 arg8 harg8 arg9 harg9 arg10 harg10 arg11 harg11 arg12 harg12 X5 X6 X7 X8 X9 X10 Set.univ bd h2 B U).inv 0 PUnit.unit from .rfl)
      unfold heldS
      sl_close
    iintro %acc HI
    ihave HI := (pass_exit 𝒱 c i arg2 harg2 arg3 harg3 arg4 harg4 arg5 harg5 arg6 harg6 arg7 harg7 arg8 harg8 arg9 harg9 arg10 harg10 arg11 harg11 arg12 harg12 X5 X6 X7 X8 X9 X10 Set.univ bd h2 B U acc) $$ HI
    unfold heldS
    icases HI with ⟨H5, H6, H7, H8, H9, H10, H11, H12⟩
    sl_step
    sl_close
  · have h7 := (last_iff i).not.mp h2
    rw [dif_neg h2, if_neg h7, if_neg h7]
    sl_step
    sl_close

end

end Cert.Kernel4Ideal.OutProj

end
-- ==== Proof.OutIdealFrame.lean ====
/-
  The output projection run on the whole grid: after each grid point the first result's block is the running sum, at a
  row block's last point both results' blocks are put together from their strips; the run leaves the arguments as they
  were and every counter at zero.
-/
module

public import proofs.«01_k».proof.Proof.OutIdealBody
public import Idealize.ShloMosaic.Lib.Pipeline.TableIdle
public import Idealize.ShloMosaic.Lib.Claim

@[expose] public section

set_option maxRecDepth 16384

noncomputable section

namespace Cert.Kernel4Ideal.OutProj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Grid point `t` is row block `t / 8`, column block `t % 8`. -/
theorem coords_eq (t : Fin cfg0.N) : (grid0.coords t 0).val = t.val / 8 ∧ (grid0.coords t 1).val = t.val % 8 := by
  have ht : t.val < 256 := t.isLt
  have e0 : (grid0.coords t 0).val = t.val / 8 % 32 := Pipeline.Grid.coords_val t 0 (by decide) rfl
  have e1 : (grid0.coords t 1).val = t.val / 1 % 8 := Pipeline.Grid.coords_val t 1 (by decide) rfl
  omega

theorem idle10 (t : Fin cfg0.N) (h : t.val % 8 = 7) : cfg0.idle 10 (cfg0.grid.coords t) = false :=
  liveAt0_10_C t (fun e => by have := (hcond0_0 t).mp e; omega) ((hcond0_1 t).mpr h)

theorem idle10' (t : Fin cfg0.N) (h : t.val % 8 ≠ 7) : cfg0.idle 10 (cfg0.grid.coords t) = true := by
  have h1 : ¬ cond0_1 (grid0.coords t) := fun e => h ((hcond0_1 t).mp e)
  by_cases h0 : cond0_0 (grid0.coords t)
  · exact idleAt0_10_A t h0 h1
  · exact idleAt0_10_B t h0 h1

variable (m : (ℓ : Loc nD τ sig) → Buf (Elt F) ℓ) (ρ : Dev nD → PrngReg)

/-- The running sum after the first `n` grid points. -/
def accAt (c : Dev nD) : ℕ → Vec F S512x4096 .f32
  | 0 => accZero
  | n + 1 => if h : n < cfg0.N then accNext (grid0.coords ⟨n, h⟩) (iblk m c 0 ⟨n, h⟩) (iblk m c 1 ⟨n, h⟩) (iblk m c 2 ⟨n, h⟩) (accAt c n) else accZero

theorem accAt_succ (c : Dev nD) (t : Fin cfg0.N) (A : Vec F S512x4096 .f32) (h : t.val % 8 ≠ 0 → A = accAt m c t.val) :
    accNext (grid0.coords t) (iblk m c 0 t) (iblk m c 1 t) (iblk m c 2 t) A = accAt m c (t.val + 1) := by
  rw [accAt, dif_pos t.isLt]
  by_cases h0 : t.val % 8 = 0
  · have hc := (coords_eq t).2.trans h0
    unfold accNext
    rw [if_pos hc, if_pos hc]
  · rw [h h0]

/-- What the pipeline's windows hold: the inputs their blocks, the first result the running sum and at the last column
    block its own block, the second result its block. -/
def dats (p : Fin 1) (c : Dev nD) : Dat τ (Elt F) Unit ℕ (UR sig nD τ) ℕ (cfgs p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => if t.val % 8 = 7 then oAll (F := F) (iblk m c 3 t) (iblk m c 4 t) (iblk m c 5 t) (accAt m c (t.val + 1)) else accAt m c (t.val + 1)
    | ⟨10, _⟩ => uAll (F := F) (iblk m c 3 t) (iblk m c 4 t) (iblk m c 5 t) (iblk m c 6 t) (iblk m c 7 t) (iblk m c 8 t) (accAt m c (t.val + 1))
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = if t.val % 8 = 7 then oAll (F := F) (iblk m c 3 t) (iblk m c 4 t) (iblk m c 5 t) (accAt m c (t.val + 1)) else accAt m c (t.val + 1) := by dsimp only [dats]
theorem after0_10 (c : Dev nD) (t : Fin cfg0.N) : (dats m 0 c).after 10 t = uAll (F := F) (iblk m c 3 t) (iblk m c 4 t) (iblk m c 5 t) (iblk m c 6 t) (iblk m c 7 t) (iblk m c 8 t) (accAt m c (t.val + 1)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- Past a row block's first point the first result's buffer holds the running sum. -/
theorem before0_9 (c : Dev nD) (t : Fin cfg0.N) (d) (h : t.val % 8 ≠ 0) : (dats m 0 c).before 9 t d = accAt m c t.val := by
  have hN : t.val < 256 := t.isLt
  rw [Dat.before_out_kept _ 9 rfl t (by omega) (Bool.eq_false_iff.mpr fun h => by have := (flush0_9 _).mp h; dsimp only at this; omega)
    (fun _ => rfl) (fun _ _ => rfl), after0_9, if_neg (by show ¬ (t.val - 1) % 8 = 7; omega)]
  exact congrArg (accAt m c) (by show t.val - 1 + 1 = t.val; omega)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (dats m 0 c).leavesExact 9 t
    ∗ (dats m 0 c).leavesExact 10 t)

/-- The first result's buffer is left at its contents. -/
theorem leaves9 (c : Dev nD) (t : Fin cfg0.N) : (dats m 0 c).leavesExact 9 t = (owns (c : Thread nD τ) (st0_9 t) fullShare ((dats m 0 c).after 9 t) : sProp 𝕄) := by
  unfold Dat.leavesExact
  rw [liveAt0_9 t]

/-- The second result's buffer is left as found, -/
theorem leaves10 (c : Dev nD) (t : Fin cfg0.N) (h : t.val % 8 ≠ 7) : (dats m 0 c).leavesExact 10 t = (iprop(∃ d, owns (c : Thread nD τ) (st0_10 t) fullShare ((dats m 0 c).before 10 t d)) : sProp 𝕄) :=
  (dats m 0 c).leavesExact_idle 10 t (idle10' t h) (by rw [Bool.eq_false_iff]; exact fun e => h ((flush0_10 t).mp e))

/-- but at the last column block at its block. -/
theorem leaves10' (c : Dev nD) (t : Fin cfg0.N) (h : t.val % 8 = 7) : (dats m 0 c).leavesExact 10 t = (owns (c : Thread nD τ) (st0_10 t) fullShare ((dats m 0 c).after 10 t) : sProp 𝕄) := by
  unfold Dat.leavesExact
  rw [idle10 t h]

/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, leaves9]
  iintro ⟨HΦ, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩⟩
  ihave H2 := (rep_of_owns (c : Thread nD τ) (st0_0 t) fullShare (iblk m c 0 t)) $$ H2
  ihave H3 := (rep_of_owns (c : Thread nD τ) (st0_1 t) fullShare (iblk m c 1 t)) $$ H3
  ihave H4 := (rep_of_owns (c : Thread nD τ) (st0_2 t) fullShare (iblk m c 2 t)) $$ H4
  ihave H5 := (rep_of_owns (c : Thread nD τ) (st0_3 t) fullShare (iblk m c 3 t)) $$ H5
  ihave H6 := (rep_of_owns (c : Thread nD τ) (st0_4 t) fullShare (iblk m c 4 t)) $$ H6
  ihave H7 := (rep_of_owns (c : Thread nD τ) (st0_5 t) fullShare (iblk m c 5 t)) $$ H7
  ihave H8 := (rep_of_owns (c : Thread nD τ) (st0_6 t) fullShare (iblk m c 6 t)) $$ H8
  ihave H9 := (rep_of_owns (c : Thread nD τ) (st0_7 t) fullShare (iblk m c 7 t)) $$ H9
  ihave H10 := (rep_of_owns (c : Thread nD τ) (st0_8 t) fullShare (iblk m c 8 t)) $$ H10
  ihave H11 := (rep_of_owns (c : Thread nD τ) (st0_9 t) fullShare _) $$ H11
  ihave H12 := (rep_of_owns (c : Thread nD τ) (st0_10 t) fullShare _) $$ H12
  iapply (wp_wand_r frame (wpE (defs₀ (F := F)) Variants.none (c : Thread nD τ) none) Set.univ)
  isplitl [H2 H3 H4 H5 H6 H7 H8 H9 H10 H11 H12]
  · iapply (body_triple (F := F) Variants.none c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) none ((dats m 0 c).before 9 t d9) ((dats m 0 c).before 10 t d10))
    unfold held heldS
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro %v H
  unfold oNext uNext
  rw [accAt_succ m c t ((dats m 0 c).before 9 t d9) (before0_9 m c t d9)]
  unfold held heldS
  icases H with ⟨H2, H3, H4, H5, H6, H7, H8, H9, H10, H11, H12⟩
  isplitl [HΦ]; · iexact HΦ
  isplitl [Ho]; · iexact Ho
  isplitl [H2]; · iapply (owns_of_rep (c : Thread nD τ) (st0_0 t) fullShare (iblk m c 0 t)) $$ H2
  isplitl [H3]; · iapply (owns_of_rep (c : Thread nD τ) (st0_1 t) fullShare (iblk m c 1 t)) $$ H3
  isplitl [H4]; · iapply (owns_of_rep (c : Thread nD τ) (st0_2 t) fullShare (iblk m c 2 t)) $$ H4
  isplitl [H5]; · iapply (owns_of_rep (c : Thread nD τ) (st0_3 t) fullShare (iblk m c 3 t)) $$ H5
  isplitl [H6]; · iapply (owns_of_rep (c : Thread nD τ) (st0_4 t) fullShare (iblk m c 4 t)) $$ H6
  isplitl [H7]; · iapply (owns_of_rep (c : Thread nD τ) (st0_5 t) fullShare (iblk m c 5 t)) $$ H7
  isplitl [H8]; · iapply (owns_of_rep (c : Thread nD τ) (st0_6 t) fullShare (iblk m c 6 t)) $$ H8
  isplitl [H9]; · iapply (owns_of_rep (c : Thread nD τ) (st0_7 t) fullShare (iblk m c 7 t)) $$ H9
  isplitl [H10]; · iapply (owns_of_rep (c : Thread nD τ) (st0_8 t) fullShare (iblk m c 8 t)) $$ H10
  have hc := (coords_eq t).2
  by_cases h7 : t.val % 8 = 7
  · rw [leaves10' m c t h7, after0_9, after0_10, if_pos (hc.trans h7), if_pos (hc.trans h7), if_pos h7]
    isplitl [H11]; · iapply (owns_of_rep (c : Thread nD τ) (st0_9 t) fullShare _) $$ H11
    iapply (owns_of_rep (c : Thread nD τ) (st0_10 t) fullShare _) $$ H12
  · rw [leaves10 m c t h7, after0_9, if_neg (fun e => h7 (hc.symm.trans e)), if_neg (fun e => h7 (hc.symm.trans e)), if_neg h7]
    isplitl [H11]; · iapply (owns_of_rep (c : Thread nD τ) (st0_9 t) fullShare _) $$ H11
    iexists d10
    iapply (owns_of_rep (c : Thread nD τ) (st0_10 t) fullShare _) $$ H12

/-- The body table's row at point `t`. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every run ends with each window's array at what the blocks give, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run: it ends, the arguments as they were and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.Kernel4Ideal.OutProj

end
-- ==== Proof.OutRef.lean ====
/-
  The output projection's reference over the extended reals, read at one element of each of its results: the residual
  plus the gated, normalised row of the product; that row normalised again, scaled and shifted.
-/
module

public import proofs.«01_k».proof.Proof.Gen.Reference4Ideal.Run
public import Idealize.ShloMosaic.Lib.Pointwise

@[expose] public section

set_option maxRecDepth 16384

noncomputable section

namespace Cert.Reference4Ideal.OutProj

open Cert.Reference4Ideal Cert.Reference4Ideal.Gen
open Idealize.ShloMosaic Idealize.ShloMosaic.TcCoe

/-- The two mixers' columns side by side. -/
def cat (HM OM : FVec Ideal S16384x2048 .bf16) : FVec Ideal S16384x4096 .bf16 :=
  concatenate S16384x4096 1 [⟨S16384x2048, HM⟩, ⟨S16384x2048, OM⟩] concatenates_S16384x2048_S16384x2048_S16384x4096_d1

/-- The projected rows. -/
def proj (M : FVec Ideal S16384x4096 .bf16) (W : FVec Ideal S4096x4096 .bf16) : FVec Ideal S16384x4096 .f32 :=
  Host.dotGeneral dot_S16384x4096_S4096x4096_S16384x4096_1_0_0_1_n_n none (extf .f32 M bitsLt_bf16_f32) (extf .f32 W bitsLt_bf16_f32)

/-- One over the root of a row's mean square. -/
def inv (B : FVec Ideal S2x8192x4096 .f32) : FVec Ideal S2x8192x1 .f32 :=
  Host.rsqrt (addf (Host.divf (broadcastInDim S2x8192x1 ![0, 1] bcast_S2x8192_S2x8192x1_0_1 (Host.reduceAdd (mulf B B) (constant S_ .f32 0x00000000#32) reducesTo_S2x8192x4096_S2x8192_d2 h_S_))
    (broadcastInDim S2x8192x1 ![] bcast_S_S2x8192x1 (constant S_ .f32 0x45800000#32))) (broadcastInDim S2x8192x1 ![] bcast_S_S2x8192x1 (constant S_ .f32 0x358637BD#32)))

/-- The rows normalised and scaled. -/
def normed (G : FVec Ideal S1x4096 .f32) (B : FVec Ideal S2x8192x4096 .f32) : FVec Ideal S2x8192x4096 .f32 :=
  mulf (mulf B (broadcastInDim S2x8192x4096 ![0, 1, 2] bcast_S2x8192x1_S2x8192x4096_0_1_2 (inv B)))
    (broadcastInDim S2x8192x4096 ![0, 1, 2] bcast_S1x1x4096_S2x8192x4096_0_1_2 (broadcastInDim S1x1x4096 ![1, 2] bcast_S1x4096_S1x1x4096_1_2 G))

/-- The residual plus the gated, normalised rows, sequence by sequence. -/
def gated (X : FVec Ideal S16384x4096 .f32) (GT : FVec Ideal S2x4096 .f32) (G : FVec Ideal S1x4096 .f32) (Y : FVec Ideal S16384x4096 .f32) : FVec Ideal S2x8192x4096 .f32 :=
  addf (shapeCast S2x8192x4096 X shapeCasts_S16384x4096_S2x8192x4096)
    (mulf (broadcastInDim S2x8192x4096 ![0, 1, 2] bcast_S2x1x4096_S2x8192x4096_0_1_2 (broadcastInDim S2x1x4096 ![0, 2] bcast_S2x4096_S2x1x4096_0_2 GT))
      (normed G (shapeCast S2x8192x4096 Y shapeCasts_S16384x4096_S2x8192x4096)))

/-- Rows normalised, scaled and shifted, sequence by sequence. -/
def mods (G : FVec Ideal S1x4096 .f32) (SC SH : FVec Ideal S2x4096 .f32) (B : FVec Ideal S2x8192x4096 .f32) : FVec Ideal S2x8192x4096 .f32 :=
  addf (mulf (normed G B)
      (broadcastInDim S2x8192x4096 ![0, 1, 2] bcast_S2x1x4096_S2x8192x4096_0_1_2 (addf (broadcastInDim S2x1x4096 ![] bcast_S_S2x1x4096 (constant S_ .f32 0x3F800000#32)) (broadcastInDim S2x1x4096 ![0, 2] bcast_S2x4096_S2x1x4096_0_2 SC))))
    (broadcastInDim S2x8192x4096 ![0, 1, 2] bcast_S2x1x4096_S2x8192x4096_0_1_2 (broadcastInDim S2x1x4096 ![0, 2] bcast_S2x4096_S2x1x4096_0_2 SH))

/-- The first result, row by row, -/
def out1 (B : FVec Ideal S2x8192x4096 .f32) : FVec Ideal S16384x4096 .f32 :=
  shapeCast S16384x4096 B shapeCasts_S2x8192x4096_S16384x4096

/-- and the second. -/
def out2 (G : FVec Ideal S1x4096 .f32) (SC SH : FVec Ideal S2x4096 .f32) (B : FVec Ideal S2x8192x4096 .f32) : FVec Ideal S16384x4096 .bf16 :=
  truncf .bf16 (shapeCast S16384x4096 (mods G SC SH B) shapeCasts_S2x8192x4096_S16384x4096) bitsLt_bf16_f32

/-- The reference's run ends with these results and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v44) = out1 (gated (m ((c.tc : Thread nD τ).loc main_arg3)) (m ((c.tc : Thread nD τ).loc main_arg4)) (m ((c.tc : Thread nD τ).loc main_arg5))
        (proj (cat (m ((c.tc : Thread nD τ).loc main_arg0)) (m ((c.tc : Thread nD τ).loc main_arg1))) (m ((c.tc : Thread nD τ).loc main_arg2))))
      ∧ r.2.mem ((c.tc : Thread nD τ).loc main_v46) = out2 (m ((c.tc : Thread nD τ).loc main_arg6)) (m ((c.tc : Thread nD τ).loc main_arg7)) (m ((c.tc : Thread nD τ).loc main_arg8))
        (gated (m ((c.tc : Thread nD τ).loc main_arg3)) (m ((c.tc : Thread nD τ).loc main_arg4)) (m ((c.tc : Thread nD τ).loc main_arg5))
        (proj (cat (m ((c.tc : Thread nD τ).loc main_arg0)) (m ((c.tc : Thread nD τ).loc main_arg1))) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run _ _ _).mono (fun r h c => ⟨(h c).1, (h c).2.1.trans (by unfold Value.res_main_v46; rfl), (h c).2.2⟩) (Value.run (F := Ideal) m ρ)

/-! ## Element by element -/

theorem cat_left (HM OM : FVec Ideal S16384x2048 .bf16) (R : Fin 16384) (k : Fin 4096) (h : k.val < 2048) :
    @Eq EReal (cat HM OM (ix2 R k)) (HM (ix2 R ⟨k.val, h⟩)) := by
  pointwise [cat]
  rw [dif_pos h]

theorem cat_right (HM OM : FVec Ideal S16384x2048 .bf16) (R : Fin 16384) (k : Fin 4096) (h : ¬ k.val < 2048) :
    @Eq EReal (cat HM OM (ix2 R k)) (OM (ix2 R ⟨k.val - 2048, by omega⟩)) := by
  pointwise [cat]
  rw [dif_neg h]

theorem proj_at (M : FVec Ideal S16384x4096 .bf16) (W : FVec Ideal S4096x4096 .bf16) (R : Fin 16384) (C : Fin 4096) :
    @Eq EReal (proj M W (ix2 R C)) (∑ k : Fin 4096, M (ix2 R k) * W (ix2 k C)) := by
  pointwise [proj]

/-- Element `d` of a normalised, scaled row. -/
def nrm (row : Fin 4096 → EReal) (G : FVec Ideal S1x4096 .f32) (d : Fin 4096) : EReal :=
  row d * Ideal.rsqrt (Ideal.div (∑ k : Fin 4096, row k * row k) (Ideal.ofBits .f32 0x45800000#32) + Ideal.ofBits .f32 0x358637BD#32) * G (ix2 0 d)

theorem inv_at (B : FVec Ideal S2x8192x4096 .f32) (b : Fin 2) (r : Fin 8192) : @Eq EReal (inv B (ix3 b r 0))
    (Ideal.rsqrt (Ideal.div (∑ c : Fin 4096, B (ix3 b r c) * B (ix3 b r c)) (Ideal.ofBits .f32 0x45800000#32) + Ideal.ofBits .f32 0x358637BD#32)) := by
  pointwise [inv]

theorem normed_at (G : FVec Ideal S1x4096 .f32) (B : FVec Ideal S2x8192x4096 .f32) (b : Fin 2) (r : Fin 8192) (d : Fin 4096) :
    @Eq EReal (normed G B (ix3 b r d)) (nrm (fun k => B (ix3 b r k)) G d) := by
  unfold nrm
  rw [← inv_at]
  pointwise [normed]

theorem gated_at (X : FVec Ideal S16384x4096 .f32) (GT : FVec Ideal S2x4096 .f32) (G : FVec Ideal S1x4096 .f32) (Y : FVec Ideal S16384x4096 .f32) (R : Fin 16384) (d : Fin 4096) :
    @Eq EReal (gated X GT G Y (ix3 (⟨R.val / 8192, by omega⟩ : Fin 2) (⟨R.val % 8192, Nat.mod_lt _ (by decide)⟩ : Fin 8192) d))
      (X (ix2 R d) + GT (ix2 ⟨R.val / 8192, by omega⟩ d) * nrm (fun k => Y (ix2 R k)) G d) := by
  have e (k : Fin 4096) : (shapeCast S2x8192x4096 Y shapeCasts_S16384x4096_S2x8192x4096) (ix3 (⟨R.val / 8192, by omega⟩ : Fin 2) (⟨R.val % 8192, Nat.mod_lt _ (by decide)⟩ : Fin 8192) k) = Y (ix2 R k) := by
    pointwise
  have e2 := normed_at G (shapeCast S2x8192x4096 Y shapeCasts_S16384x4096_S2x8192x4096) ⟨R.val / 8192, by omega⟩ ⟨R.val % 8192, Nat.mod_lt _ (by decide)⟩ d
  simp only [e] at e2
  rw [← e2]
  generalize hN : normed G (shapeCast S2x8192x4096 Y shapeCasts_S16384x4096_S2x8192x4096) = N
  unfold gated
  rw [hN]
  pointwise

theorem mods_at (G : FVec Ideal S1x4096 .f32) (SC SH : FVec Ideal S2x4096 .f32) (B : FVec Ideal S2x8192x4096 .f32) (b : Fin 2) (r : Fin 8192) (d : Fin 4096) :
    @Eq EReal (mods G SC SH B (ix3 b r d)) (nrm (fun k => B (ix3 b r k)) G d * (Ideal.ofBits .f32 0x3F800000#32 + SC (ix2 b d)) + SH (ix2 b d)) := by
  rw [← normed_at]
  generalize hN : normed G B = N
  unfold mods
  rw [hN]
  pointwise

theorem out1_at (B : FVec Ideal S2x8192x4096 .f32) (R : Fin 16384) (d : Fin 4096) :
    @Eq EReal (out1 B (ix2 R d)) (B (ix3 (⟨R.val / 8192, by omega⟩ : Fin 2) (⟨R.val % 8192, Nat.mod_lt _ (by decide)⟩ : Fin 8192) d)) := by
  pointwise [out1]

theorem out2_at (G : FVec Ideal S1x4096 .f32) (SC SH : FVec Ideal S2x4096 .f32) (B : FVec Ideal S2x8192x4096 .f32) (R : Fin 16384) (d : Fin 4096) :
    @Eq EReal (out2 G SC SH B (ix2 R d))
      (nrm (fun k => out1 B (ix2 R k)) G d * (Ideal.ofBits .f32 0x3F800000#32 + SC (ix2 ⟨R.val / 8192, by omega⟩ d)) + SH (ix2 ⟨R.val / 8192, by omega⟩ d)) := by
  have e : @Eq EReal (out2 G SC SH B (ix2 R d)) (mods G SC SH B (ix3 (⟨R.val / 8192, by omega⟩ : Fin 2) (⟨R.val % 8192, Nat.mod_lt _ (by decide)⟩ : Fin 8192) d)) := by
    unfold out2
    generalize mods G SC SH B = Y
    pointwise
  rw [e, mods_at]
  simp only [out1_at]

end Cert.Reference4Ideal.OutProj

end
-- ==== Proof.OutValue.lean ====
/-
  The output projection's results on the whole grid are the reference's: point `8 b + k` adds block `k` of the mixed
  columns to the sum of row block `b`, so that after point `8 b + 7` the sum is the reference's projected row.
-/
module

public import proofs.«01_k».proof.Proof.OutPoint
public import proofs.«01_k».proof.Proof.OutIdealFrame
public import proofs.«01_k».proof.Proof.OutRef
public import Idealize.ShloMosaic.Lib.Pipeline.ValueKit
public import Idealize.ShloMosaic.Lib.Claim

@[expose] public section

set_option maxRecDepth 16384

noncomputable section

namespace Cert.Kernel4Ideal.OutProj

open Cert.Kernel4Ideal Cert.Kernel4Ideal.Gen
open Idealize.ShloMosaic Idealize.ShloMosaic.TcCoe Idealize.SL.Sem
open Cert.Reference4Ideal.OutProj (cat cat_left cat_right proj proj_at gated gated_at out1 out1_at out2 out2_at)

/-- Where each window's block of point `t` sits. -/
theorem idx : ∀ t : Fin cfg0.N, win0_0.index t = ![t.val / 8, min (t.val % 8) 3] ∧ win0_1.index t = ![t.val / 8, t.val % 8 - 4]
    ∧ win0_2.index t = ![t.val % 8, 0] ∧ win0_3.index t = ![t.val / 8, 0] ∧ win0_4.index t = ![t.val / 128, 0, 0]
    ∧ win0_5.index t = ![0, 0] ∧ win0_6.index t = ![0, 0] ∧ win0_7.index t = ![t.val / 128, 0, 0] ∧ win0_8.index t = ![t.val / 128, 0, 0]
    ∧ win0_9.index t = ![t.val / 8, 0] ∧ win0_10.index t = ![t.val / 8, 0] :=
  (by decide +kernel : ∀ t : Fin grid0.N, _)

theorem row_lt (t : Fin cfg0.N) : t.val / 8 < 32 := by
  have : t.val < 256 := t.isLt
  omega

theorem seq_lt (t : Fin cfg0.N) : t.val / 128 < 2 := by
  have : t.val < 256 := t.isLt
  omega

variable (m : (ℓ : Loc nD τ sig) → Buf (Elt Ideal) ℓ) (c : Dev nD)

/-- The argument arrays. -/
abbrev argHM : FVec Ideal S16384x2048 .bf16 := m ((c : Thread nD τ).loc main_arg0)
abbrev argOM : FVec Ideal S16384x2048 .bf16 := m ((c : Thread nD τ).loc main_arg1)
abbrev argW : FVec Ideal S4096x4096 .bf16 := m ((c : Thread nD τ).loc main_arg2)
abbrev argX : FVec Ideal S16384x4096 .f32 := m ((c : Thread nD τ).loc main_arg3)
abbrev argGt : FVec Ideal S2x4096 .f32 := m ((c : Thread nD τ).loc main_arg4)
abbrev argG : FVec Ideal S1x4096 .f32 := m ((c : Thread nD τ).loc main_arg5)
abbrev argG2 : FVec Ideal S1x4096 .f32 := m ((c : Thread nD τ).loc main_arg6)
abbrev argSc : FVec Ideal S2x4096 .f32 := m ((c : Thread nD τ).loc main_arg7)
abbrev argSh : FVec Ideal S2x4096 .f32 := m ((c : Thread nD τ).loc main_arg8)

/-! ## The blocks at an index -/

theorem hm_at (t : Fin cfg0.N) (r k : Fin 512) :
    iblk m c 0 t (ix2 r k) = argHM m c (ix2 ⟨512 * (t.val / 8) + r.val, by have := row_lt t; omega⟩ ⟨512 * min (t.val % 8) 3 + k.val, by omega⟩) := by
  blk_ext [iblk, V_main_arg0, idx t]

theorem om_at (t : Fin cfg0.N) (r k : Fin 512) :
    iblk m c 1 t (ix2 r k) = argOM m c (ix2 ⟨512 * (t.val / 8) + r.val, by have := row_lt t; omega⟩ ⟨512 * (t.val % 8 - 4) + k.val, by omega⟩) := by
  blk_ext [iblk, V_main_arg1, idx t]

theorem w_at (t : Fin cfg0.N) (k : Fin 512) (d : Fin 4096) :
    iblk m c 2 t (ix2 k d) = argW m c (ix2 ⟨512 * (t.val % 8) + k.val, by omega⟩ d) := by
  blk_ext [iblk, V_main_arg2, idx t]

theorem x_at (t : Fin cfg0.N) (r : Fin 512) (d : Fin 4096) :
    iblk m c 3 t (ix2 r d) = argX m c (ix2 ⟨512 * (t.val / 8) + r.val, by have := row_lt t; omega⟩ d) := by
  blk_ext [iblk, V_main_arg3, idx t]

theorem gt_at (t : Fin cfg0.N) (d : Fin 4096) : iblk m c 4 t (ix3 0 0 d) = argGt m c (ix2 ⟨t.val / 128, seq_lt t⟩ d) := by
  have e : V m c main_v0 = broadcastInDim S2x1x4096 ![0, 2] bcast_S2x4096_S2x1x4096_0_2 (argGt m c) := by
    entry_read
    rfl
  have e2 (g : Fin 2) : V m c main_v0 (ix3 g 0 d) = argGt m c (ix2 g d) := by
    rw [e]
    pointwise
  refine Eq.trans ?_ (e2 _)
  blk_ext [iblk, idx t]

theorem g_at (t : Fin cfg0.N) (d : Fin 4096) : iblk m c 5 t (ix2 0 d) = argG m c (ix2 0 d) := by
  blk_ext [iblk, V_main_arg5, idx t]

theorem g2_at (t : Fin cfg0.N) (d : Fin 4096) : iblk m c 6 t (ix2 0 d) = argG2 m c (ix2 0 d) := by
  blk_ext [iblk, V_main_arg6, idx t]

theorem sc_at (t : Fin cfg0.N) (d : Fin 4096) : iblk m c 7 t (ix3 0 0 d) = argSc m c (ix2 ⟨t.val / 128, seq_lt t⟩ d) := by
  have e : V m c main_v1 = broadcastInDim S2x1x4096 ![0, 2] bcast_S2x4096_S2x1x4096_0_2 (argSc m c) := by
    entry_read
    rfl
  have e2 (g : Fin 2) : V m c main_v1 (ix3 g 0 d) = argSc m c (ix2 g d) := by
    rw [e]
    pointwise
  refine Eq.trans ?_ (e2 _)
  blk_ext [iblk, idx t]

theorem sh_at (t : Fin cfg0.N) (d : Fin 4096) : iblk m c 8 t (ix3 0 0 d) = argSh m c (ix2 ⟨t.val / 128, seq_lt t⟩ d) := by
  have e : V m c main_v2 = broadcastInDim S2x1x4096 ![0, 2] bcast_S2x4096_S2x1x4096_0_2 (argSh m c) := by
    entry_read
    rfl
  have e2 (g : Fin 2) : V m c main_v2 (ix3 g 0 d) = argSh m c (ix2 g d) := by
    rw [e]
    pointwise
  refine Eq.trans ?_ (e2 _)
  blk_ext [iblk, idx t]

/-! ## The running sum -/

/-- What mixed column `h` adds to column `d` of row `r`; numbers past the end wrap round. -/
def term (r : Fin 16384) (d : Fin 4096) (h : ℕ) : EReal :=
  (show EReal from cat (argHM m c) (argOM m c) (ix2 r (⟨h % 4096, Nat.mod_lt _ (by decide)⟩ : Fin 4096))) * argW m c (ix2 (⟨h % 4096, Nat.mod_lt _ (by decide)⟩ : Fin 4096) d)

/-- The block of mixed columns is the concatenation's. -/
theorem mix_at (t : Fin cfg0.N) (r k : Fin 512) :
    @Eq EReal (mix (grid0.coords t) (iblk m c 0 t) (iblk m c 1 t) (ix2 r k))
      (cat (argHM m c) (argOM m c) (ix2 ⟨512 * (t.val / 8) + r.val, by have := row_lt t; omega⟩ ⟨512 * (t.val % 8) + k.val, by omega⟩)) := by
  have hc := (coords_eq t).2
  by_cases h : t.val % 8 < 4
  · rw [mix_fst _ _ _ (hc.trans_lt h)]
    refine (hm_at m c t r k).trans (Eq.trans ?_ (cat_left (argHM m c) (argOM m c) ⟨512 * (t.val / 8) + r.val, by have := row_lt t; omega⟩ ⟨512 * (t.val % 8) + k.val, by omega⟩ (by show 512 * (t.val % 8) + k.val < 2048; omega)).symm)
    exact congrArg (fun C : Fin 2048 => argHM m c (ix2 _ C)) (Fin.ext (by show 512 * min (t.val % 8) 3 + k.val = 512 * (t.val % 8) + k.val; omega))
  · rw [mix_snd _ _ _ (fun e => h (hc.symm.trans_lt e))]
    refine (om_at m c t r k).trans (Eq.trans ?_ (cat_right (argHM m c) (argOM m c) ⟨512 * (t.val / 8) + r.val, by have := row_lt t; omega⟩ ⟨512 * (t.val % 8) + k.val, by omega⟩ (by show ¬ 512 * (t.val % 8) + k.val < 2048; omega)).symm)
    exact congrArg (fun C : Fin 2048 => argOM m c (ix2 _ C)) (Fin.ext (by show 512 * (t.val % 8 - 4) + k.val = 512 * (t.val % 8) + k.val - 2048; omega))

theorem step_at (t : Fin cfg0.N) (r : Fin 512) (d : Fin 4096) (k : Fin 512) :
    (show EReal from mix (grid0.coords t) (iblk m c 0 t) (iblk m c 1 t) (ix2 r k)) * (show EReal from iblk m c 2 t (ix2 k d))
      = term m c ⟨512 * (t.val / 8) + r.val, by have := row_lt t; omega⟩ d (512 * (t.val % 8) + k.val) := by
  have e : (⟨(512 * (t.val % 8) + k.val) % 4096, Nat.mod_lt _ (by decide)⟩ : Fin 4096) = ⟨512 * (t.val % 8) + k.val, by omega⟩ :=
    Fin.ext (by show (512 * (t.val % 8) + k.val) % 4096 = 512 * (t.val % 8) + k.val; have := k.isLt; omega)
  unfold term
  rw [e]
  exact congrArg₂ (fun u v : EReal => u * v) (mix_at m c t r k) (w_at m c t k d)

/-- After point `8 b + k` the sum runs over the first `k + 1` blocks of mixed columns. -/
theorem accAt_at (b : Fin 32) (r : Fin 512) (d : Fin 4096) (k : ℕ) (hk : k < 8) :
    @Eq EReal (accAt m c (8 * b.val + k + 1) (ix2 r d))
      (∑ h ∈ Finset.range (512 * (k + 1)), term m c ⟨512 * b.val + r.val, by omega⟩ d h) := by
  have hN : 8 * b.val + k < cfg0.N := by show _ < 256; omega
  have hdiv : (8 * b.val + k) / 8 = b.val := by omega
  have hmod : (8 * b.val + k) % 8 = k := by omega
  have hstep : @Eq EReal (accAt m c (8 * b.val + k + 1) (ix2 r d))
      ((if k = 0 then 0 else (show EReal from accAt m c (8 * b.val + k) (ix2 r d)))
        + ∑ x : Fin 512, term m c ⟨512 * b.val + r.val, by omega⟩ d (512 * k + x.val)) := by
    rw [accAt, dif_pos hN]
    refine (accNext_at _ _ _ _ _ r d).trans ?_
    have hc : (grid0.coords ⟨8 * b.val + k, hN⟩ 1).val = k := (coords_eq ⟨8 * b.val + k, hN⟩).2.trans hmod
    rw [hc]
    refine congrArg₂ (fun u v : EReal => u + v) rfl (Finset.sum_congr rfl fun x _ => (step_at m c ⟨8 * b.val + k, hN⟩ r d x).trans ?_)
    simp only [hdiv, hmod]
  rw [hstep, Nat.mul_succ, Finset.sum_range_add, ← Finset.sum_range fun x => term m c ⟨512 * b.val + r.val, by omega⟩ d (512 * k + x)]
  refine congrArg₂ (fun u v : EReal => u + v) ?_ rfl
  cases k with
  | zero => simp
  | succ k => rw [if_neg (Nat.succ_ne_zero k)]; exact accAt_at b r d k (by omega)

/-- The reference's projected rows. -/
abbrev projRows : FVec Ideal S16384x4096 .f32 := proj (cat (argHM m c) (argOM m c)) (argW m c)

/-- After the last block the sum is the reference's projected row. -/
theorem acc_proj (b : Fin 32) (r : Fin 512) (d : Fin 4096) :
    @Eq EReal (accAt m c (8 * b.val + 8) (ix2 r d)) (projRows m c (ix2 ⟨512 * b.val + r.val, by omega⟩ d)) := by
  refine (accAt_at m c b r d 7 (by decide)).trans (Eq.trans ?_ (proj_at _ _ _ d).symm)
  show ∑ h ∈ Finset.range 4096, _ = _
  rw [Finset.sum_range]
  refine Finset.sum_congr rfl fun h _ => ?_
  have e : (⟨h.val % 4096, Nat.mod_lt _ (by decide)⟩ : Fin 4096) = h := Fin.ext (Nat.mod_eq_of_lt h.isLt)
  unfold term
  rw [e]

/-! ## The results -/

/-- The reference's first result, sequence by sequence. -/
abbrev gatedRows : FVec Ideal Cert.Reference4Ideal.S2x8192x4096 .f32 := gated (argX m c) (argGt m c) (argG m c) (projRows m c)

/-- One element of the first result's block at a row block's last point. -/
theorem o_at (t : Fin cfg0.N) (h7 : t.val % 8 = 7) (r : Fin 512) (d : Fin 4096) :
    @Eq EReal (oAll (F := Ideal) (iblk m c 3 t) (iblk m c 4 t) (iblk m c 5 t) (accAt m c (t.val + 1)) (ix2 r d))
      (out1 (gatedRows m c) (ix2 ⟨512 * (t.val / 8) + r.val, by have := row_lt t; omega⟩ d)) := by
  have hb := row_lt t
  have hR : 512 * (t.val / 8) + r.val < 16384 := by omega
  have hB (k : Fin 4096) : @Eq EReal (accAt m c (t.val + 1) (ix2 r k)) (projRows m c (ix2 (⟨512 * (t.val / 8) + r.val, hR⟩ : Fin 16384) k)) := by
    have e : t.val + 1 = 8 * (t.val / 8) + 8 := by omega
    rw [e]
    exact acc_proj m c ⟨t.val / 8, hb⟩ r k
  have eb : (⟨t.val / 128, seq_lt t⟩ : Fin 2) = ⟨(⟨512 * (t.val / 8) + r.val, hR⟩ : Fin 16384).val / 8192, by show (512 * (t.val / 8) + r.val) / 8192 < 2; omega⟩ := Fin.ext (by
    show t.val / 128 = (512 * (t.val / 8) + r.val) / 8192
    omega)
  have egt := (gt_at m c t d).trans (congrArg (fun b : Fin 2 => argGt m c (ix2 b d)) eb)
  refine (oAll_at _ _ _ _ r d).trans (Eq.trans ?_ ((out1_at _ _ d).trans (gated_at (argX m c) (argGt m c) (argG m c) (projRows m c) ⟨512 * (t.val / 8) + r.val, hR⟩ d)).symm)
  rw [egt, x_at]
  simp only [hB, g_at]
  rfl

/-- One element of the second result's block there. -/
theorem u_at (t : Fin cfg0.N) (h7 : t.val % 8 = 7) (r : Fin 512) (d : Fin 4096) :
    @Eq EReal (uAll (F := Ideal) (iblk m c 3 t) (iblk m c 4 t) (iblk m c 5 t) (iblk m c 6 t) (iblk m c 7 t) (iblk m c 8 t) (accAt m c (t.val + 1)) (ix2 r d))
      (out2 (argG2 m c) (argSc m c) (argSh m c) (gatedRows m c) (ix2 ⟨512 * (t.val / 8) + r.val, by have := row_lt t; omega⟩ d)) := by
  have hb := row_lt t
  have hR : 512 * (t.val / 8) + r.val < 16384 := by omega
  have eb : (⟨t.val / 128, seq_lt t⟩ : Fin 2) = ⟨(⟨512 * (t.val / 8) + r.val, hR⟩ : Fin 16384).val / 8192, by show (512 * (t.val / 8) + r.val) / 8192 < 2; omega⟩ := Fin.ext (by
    show t.val / 128 = (512 * (t.val / 8) + r.val) / 8192
    omega)
  have esc := (sc_at m c t d).trans (congrArg (fun b : Fin 2 => argSc m c (ix2 b d)) eb)
  have esh := (sh_at m c t d).trans (congrArg (fun b : Fin 2 => argSh m c (ix2 b d)) eb)
  have ho := fun k => o_at m c t h7 r k
  refine (uAll_at _ _ _ _ _ _ _ r d).trans (Eq.trans ?_ (out2_at (argG2 m c) (argSc m c) (argSh m c) (gatedRows m c) ⟨512 * (t.val / 8) + r.val, hR⟩ d).symm)
  rw [esc, esh]
  simp only [ho, g2_at]
  rfl

/-- **The whole grid, first result.** -/
theorem final_o : (dats m 0 c).arrAt 9 (cfgs 0).N = out1 (gatedRows m c) := by
  refine (dats m 0 c).arrAt_eq_of_covers 9 _ (by decide +kernel) fun t hf y => ?_
  have h7 : t.val % 8 = 7 := (flush0_9 t).mp hf
  have h0 : (y 0).val < 512 := (y 0).isLt
  have h1 : (y 1).val < 4096 := (y 1).isLt
  have key := o_at m c t h7 ⟨(y 0).val, h0⟩ ⟨(y 1).val, h1⟩
  blk_simp
  rw [after0_9, if_pos h7]
  refine Eq.trans ?_ (key.trans ?_)
  · refine congrArg _ (funext fun a => ?_)
    match a with
    | ⟨0, _⟩ => rfl
    | ⟨1, _⟩ => rfl
  · blk_ext [idx t]

/-- **The whole grid, second result.** -/
theorem final_u : (dats m 0 c).arrAt 10 (cfgs 0).N = out2 (argG2 m c) (argSc m c) (argSh m c) (gatedRows m c) := by
  refine (dats m 0 c).arrAt_eq_of_covers 10 _ (by decide +kernel) fun t hf y => ?_
  have h7 : t.val % 8 = 7 := (flush0_10 t).mp hf
  have h0 : (y 0).val < 512 := (y 0).isLt
  have h1 : (y 1).val < 4096 := (y 1).isLt
  have key := u_at m c t h7 ⟨(y 0).val, h0⟩ ⟨(y 1).val, h1⟩
  blk_simp
  rw [after0_10]
  refine Eq.trans ?_ (key.trans ?_)
  · refine congrArg _ (funext fun a => ?_)
    match a with
    | ⟨0, _⟩ => rfl
    | ⟨1, _⟩ => rfl
  · blk_ext [idx t]

end Cert.Kernel4Ideal.OutProj

end
-- ==== Proof.OutAlgebraic.lean ====
/-
  The output projection: the frames of its three programs, and that kernel and reference give the same two results over
  the extended reals, from any arguments.
-/
module

public import proofs.«01_k».proof.Defs
public import proofs.«01_k».proof.Proof.OutBitsFrame
public import proofs.«01_k».proof.Proof.OutValue

@[expose] public section

noncomputable section

namespace Cert.Proof

open Idealize.ShloMosaic Idealize.ShloMosaic.TcCoe Idealize.SL.Sem

/-- The kernel at the words of the machine. -/
theorem frame_out_kernel : Cert.quiescent_Kernel4 (hKernel4 := Cert.Kernel4.Gen.facts) :=
  fun m ρ _ => Cert.Kernel4.OutProj.run_frame (F := Bits) m ρ

/-- The kernel over the extended reals. -/
theorem frame_out_ideal : Cert.quiescent_Kernel4Ideal (hKernel4Ideal := Cert.Kernel4Ideal.Gen.facts) :=
  fun m ρ _ => Cert.Kernel4Ideal.OutProj.run_frame (F := Ideal) m ρ

/-- The reference over the extended reals: operations of the host only, without any counter. -/
theorem frame_out_reference : Cert.quiescent_Reference4Ideal (hReference4Ideal := Cert.Reference4Ideal.Gen.facts) :=
  fun m ρ _ => (θ_run Cert.Reference4Ideal.defs _ _).mono (fun r h => ⟨fun c => (h c).2.2,
      sem_eq_zero_of_no_sems (by decide) r.2⟩) (Cert.Reference4Ideal.OutProj.run m ρ)

/-- No operation of the kernel is rewritten. -/
theorem out_unchanged : Cert.preserves_Kernel4_Kernel4Ideal := trivial

/-- **The value.** Both runs end with the reference's two results of the arguments. -/
theorem output_projection : Cert.algebraic_Kernel4Ideal_Reference4Ideal (hKernel4Ideal := Cert.Kernel4Ideal.Gen.facts)
    (hReference4Ideal := Cert.Reference4Ideal.Gen.facts) := by
  intro m ρ m' ρ' _ hargs
  refine ⟨fun c => (Cert.Kernel4Ideal.OutProj.dats m 0 c).arrAt 9 (Cert.Kernel4Ideal.cfgs 0).N,
    fun c => (Cert.Kernel4Ideal.OutProj.dats m 0 c).arrAt 10 (Cert.Kernel4Ideal.cfgs 0).N, ?_, ?_⟩
  · exact (θ_run _ _ _).mono (fun r h c => ⟨(h.1.1 c).1 9, (h.1.1 c).1 10, h.2.1 c⟩)
      (θ_run_and (Cert.Kernel4Ideal.OutProj.run_quiescent (F := Ideal) m ρ) (Cert.Kernel4Ideal.OutProj.run_frame (F := Ideal) m ρ))
  · refine (θ_run _ _ _).mono (fun r h c => ⟨?_, ?_, (h c).2.2⟩) (Cert.Reference4Ideal.OutProj.run m' ρ')
    · obtain ⟨e0, e1, e2, e3, e4, e5, e6, e7, e8⟩ := hargs c
      refine (h c).1.trans (Eq.trans ?_ (Cert.Kernel4Ideal.OutProj.final_o m c).symm)
      rw [e0, e1, e2, e3, e4, e5]
    · obtain ⟨e0, e1, e2, e3, e4, e5, e6, e7, e8⟩ := hargs c
      refine (h c).2.1.trans (Eq.trans ?_ (Cert.Kernel4Ideal.OutProj.final_u m c).symm)
      rw [e0, e1, e2, e3, e4, e5, e6, e7, e8]

end Cert.Proof

end
-- ==== Proof.SamIdealState.lean ====
/-
  What the feed-forward kernel's body computes at the sample's shapes, as functions of the blocks it reads: the hidden block, the running sum
  after one block of hidden units, the rows it sends out at the last block.
-/
module

public import proofs.«01_k».proof.Proof.IdealState
public import proofs.«01_k».proof.Proof.Gen.Kernel5Ideal.Frame

@[expose] public section

set_option maxRecDepth 16384

noncomputable section

namespace Cert.Kernel5Ideal.Ffn

open Cert.Kernel5Ideal Cert.Kernel5Ideal.Gen
open Cert.KernelIdeal.Attn (blk readAt_blk)
open Idealize.ShloMosaic

variable {F : FTy → Type} [FloatOps F]

/-- The hidden block: the block of the first product, its negative entries zero, squared. -/
def hid (X2 : Vec F S512x4096 .bf16) (X5 : Vec F S4096x1024 .bf16) : FVec F S512x1024 .bf16 :=
  let r : FVec F S512x1024 .f32 := maximumf (matmul dot_S512x4096_S4096x1024_S512x1024_1_0_0_1_n_n none X2 X5 (constant S512x1024 .f32 0x00000000#32)) (broadcast S512x1024 (Scalar.ofBits .f32 0x00000000#32))
  truncf .bf16 (mulf r r) bitsLt_bf16_f32

/-- Piece `n` of 512 columns of the running sum `A`, the hidden block's contribution added. -/
def colStep (H : FVec F S512x1024 .bf16) (X6 : Vec F S1024x4096 .bf16) (A : Vec F S512x4096 .f32) (n : ℕ) : FVec F S512x512 .f32 :=
  addf (blk (s := S512x4096) (by decide) A ![0, 512 * n] S512x512.size)
    (matmul dot_S512x1024_S1024x512_S512x512_1_0_0_1_n_n none H (blk (s := S1024x4096) (by decide) X6 ![0, 512 * n] S1024x512.size) (constant S512x512 .f32 0x00000000#32))

/-- The running sum after the first `n` of its eight pieces. -/
def accUpTo (H : FVec F S512x1024 .bf16) (X6 : Vec F S1024x4096 .bf16) (A : Vec F S512x4096 .f32) : ℕ → Vec F S512x4096 .f32
  | 0 => A
  | n + 1 => VecWindow.put (accUpTo H X6 A n) ![0, 512 * n] S512x512.size (colStep H X6 A n)

/-- The running sum starts at zero. -/
def accZero : Vec F S512x4096 .f32 := broadcast S512x4096 (Scalar.ofBits .f32 0x00000000#32)

/-- The running sum after one block of hidden units, from what it held before; at the first block from zero. -/
def accNext (i : grid0.Coords) (X2 : Vec F S512x4096 .bf16) (X5 : Vec F S4096x1024 .bf16) (X6 : Vec F S1024x4096 .bf16) (A : Vec F S512x4096 .f32) : Vec F S512x4096 .f32 :=
  accUpTo (hid X2 X5) X6 (if (i 1).val = 0 then accZero else A) 8

/-- The rows of a strip that starts at row `r0`, over the 128 gate rows: 1 where row `(r0 + r) / 16` is meant, else 0. -/
def sel (r0 : BitVec 32) : FVec F S128x128 .bf16 :=
  let row : IVec S128x128 32 := addi (iota .tc S128x128 32 [0] iota_S128x128_d0_w32) (broadcast S128x128 r0)
  let q : IVec S128x128 32 := divsi row (broadcast S128x128 16#32)
  let sgn : IVec S128x128 32 := subi (extui 32 (cmpi .sgt row (broadcast S128x128 0#32)) natLt_1_32) (extui 32 (cmpi .slt row (broadcast S128x128 0#32)) natLt_1_32)
  let odd : IVec S128x128 1 := andi (cmpi .ne sgn (broadcast S128x128 (Scalar.subi (Scalar.extui (Scalar.cmpi .sgt 16#32 0#32)) (Scalar.extui (Scalar.cmpi .slt 16#32 0#32)))))
    (cmpi .ne (remsi row (broadcast S128x128 16#32)) (broadcast S128x128 0#32))
  truncf .bf16 (select (cmpi .eq (select odd (subi q (broadcast S128x128 1#32)) q) (iota .tc S128x128 32 [1] iota_S128x128_d1_w32))
    (broadcast S128x128 (Scalar.ofBits .f32 0x3F800000#32)) (broadcast S128x128 (Scalar.ofBits .f32 0x00000000#32))) bitsLt_bf16_f32

/-- The gate of each row of a strip: the chosen gate rows, in three parts of which each is rounded. -/
def spread (r0 : BitVec 32) (X3 : Vec F S1x128x4096 .f32) : FVec F S128x4096 .f32 :=
  let g : FVec F S128x4096 .f32 := shapeCast S128x4096 X3 shapeCasts_S1x128x4096_S128x4096
  let hi : FVec F S128x4096 .bf16 := truncf .bf16 g bitsLt_bf16_f32
  let r1 : FVec F S128x4096 .f32 := subf g (extf .f32 hi bitsLt_bf16_f32)
  let mid : FVec F S128x4096 .bf16 := truncf .bf16 r1 bitsLt_bf16_f32
  let lo : FVec F S128x4096 .bf16 := truncf .bf16 (subf r1 (extf .f32 mid bitsLt_bf16_f32)) bitsLt_bf16_f32
  let z : FVec F S128x4096 .f32 := constant S128x4096 .f32 0x00000000#32
  addf (addf (addf (broadcast S128x4096 (Scalar.ofBits .f32 0x00000000#32)) (matmul dot_S128x128_S128x4096_S128x4096_1_0_0_1_n_n none (sel r0) hi z))
    (matmul dot_S128x128_S128x4096_S128x4096_1_0_0_1_n_n none (sel r0) mid z)) (matmul dot_S128x128_S128x4096_S128x4096_1_0_0_1_n_n none (sel r0) lo z)

/-- A strip of 128 rows sent out: the sum's rows `B`, normalised and scaled, gated, added to the residual's rows `x`. -/
def strip (r0 : BitVec 32) (X3 : Vec F S1x128x4096 .f32) (X4 : Vec F S1x4096 .f32) (B x : FVec F S128x4096 .f32) : FVec F S128x4096 .f32 :=
  addf x (mulf (spread r0 X3)
    (mulf (mulf B (broadcastTo S128x4096 (rsqrt (addf (divf (shapeCast S128x1 (multiReduction .add [1] S128 (mulf B B) 0x00000000#32 reduces_S128x4096_S128 (.inl rfl) rfl) shapeCasts_S128_S128x1)
      (broadcast S128x1 (Scalar.ofBits .f32 0x45800000#32))) (broadcast S128x1 (Scalar.ofBits .f32 0x358637BD#32)))) broadcasts_S128x1_S128x4096))
      (broadcastTo S128x4096 X4 broadcasts_S1x4096_S128x4096)))

/-- Strip `n` of row block `b`. -/
def stripAt (b : ℕ) (X3 : Vec F S1x128x4096 .f32) (X4 : Vec F S1x4096 .f32) (B : Vec F S512x4096 .f32) (x : Vec F S512x4096 .f32) (n : ℕ) : FVec F S128x4096 .f32 :=
  strip (BitVec.ofNat 32 (128 * n)) X3 X4 (blk (s := S512x4096) (by decide) B ![128 * n, 0] S128x4096.size) (blk (s := S512x4096) (by decide) x ![512 * b + 128 * n, 0] S128x4096.size)

/-- The result array after the first `n` of row block `b`'s four strips. -/
def outUpTo (b : ℕ) (X3 : Vec F S1x128x4096 .f32) (X4 : Vec F S1x4096 .f32) (B : Vec F S512x4096 .f32) (x o : Vec F S512x4096 .f32) : ℕ → Vec F S512x4096 .f32
  | 0 => o
  | n + 1 => VecWindow.put (outUpTo b X3 X4 B x o n) ![512 * b + 128 * n, 0] S128x4096.size (stripAt b X3 X4 B x n)

/-- The result array after the body: at the last block of hidden units row block `i 0` has been sent out. -/
def outNext (i : grid0.Coords) (X3 : Vec F S1x128x4096 .f32) (X4 : Vec F S1x4096 .f32) (B : Vec F S512x4096 .f32) (x o : Vec F S512x4096 .f32) : Vec F S512x4096 .f32 :=
  if (i 1).val = 15 then outUpTo (i 0).val X3 X4 B x o 4 else o

/-! ## The kernel's words -/

theorem cond2_iff (i : grid0.Coords) : k0_cond2 i = 1#1 ↔ (i 1).val = 15 := by
  have h : ∀ k : Fin 16, (Scalar.cmpi .ne (Scalar.extui (Scalar.cmpi .eq (BitVec.ofNat 32 k.val) 15#32) : BitVec 32) 0#32 = 1#1) ↔ k.val = 15 := by decide +kernel
  exact h (i 1)

theorem cond1_iff (i : grid0.Coords) : Scalar.cmpi .ne (Scalar.extui (Scalar.cmpi .eq (BitVec.ofNat 32 (i 1).val) 0#32) : BitVec 32) 0#32 = 1#1 ↔ (i 1).val = 0 := by
  have h : ∀ k : Fin 16, (Scalar.cmpi .ne (Scalar.extui (Scalar.cmpi .eq (BitVec.ofNat 32 k.val) 0#32) : BitVec 32) 0#32 = 1#1) ↔ k.val = 0 := by decide +kernel
  exact h (i 1)

/-- The rows a transfer moves start at row `512 b + r`. -/
theorem off1_eq (i : grid0.Coords) (r : ℕ) (hr : r < 512) : k0_off1 i (BitVec.ofNat 32 r) = ![512 * (i 0).val + r, 0] := by
  have hi : (i 0).val < 1 := (i 0).isLt
  have e : (Scalar.addi (Scalar.muli (BitVec.ofNat 32 (i 0).val) 512#32) (BitVec.ofNat 32 r)).toNat = 512 * (i 0).val + r := by
    simp only [Scalar.addi, Scalar.muli, IntOp.addi, IntOp.muli, BitVec.toNat_add, BitVec.toNat_mul, BitVec.toNat_ofNat]
    omega
  show ![(Scalar.addi (Scalar.muli (BitVec.ofNat 32 (i 0).val) 512#32) (BitVec.ofNat 32 r)).toNat, 0] = _
  rw [e]

end Cert.Kernel5Ideal.Ffn

end
-- ==== Proof.SamPoint.lean ====
/-
  The feed-forward kernel's body at the sample's shapes over the extended reals, read at an index: a block of hidden units adds its products
  to the running sum; a strip sent out is the residual plus the gated, normalised sum, where the gate of row `r` is gate
  row `r / 16`.
-/
module

public import proofs.«01_k».proof.Proof.SamIdealState
public import Idealize.ShloMosaic.Lib.IdealHost
public import Idealize.ShloMosaic.Lib.Pointwise

@[expose] public section

set_option maxRecDepth 16384

noncomputable section

namespace Cert.Kernel5Ideal.Ffn

open Cert.Kernel5Ideal Cert.Kernel5Ideal.Gen
open Cert.KernelIdeal.Attn (blk readAt_blk)
open Idealize.ShloMosaic

theorem hid_at (X2 : Vec Ideal S512x4096 .bf16) (X5 : Vec Ideal S4096x1024 .bf16) (r : Fin 512) (h : Fin 1024) :
    @Eq EReal (hid X2 X5 (ix2 r h))
      (max (∑ d : Fin 4096, X2 (ix2 r d) * X5 (ix2 d h)) 0 * max (∑ d : Fin 4096, X2 (ix2 r d) * X5 (ix2 d h)) 0) := by
  pointwise [hid]

theorem col_at (H : FVec Ideal S512x1024 .bf16) (X6 : Vec Ideal S1024x4096 .bf16) (A : Vec Ideal S512x4096 .f32) (n : ℕ) (r c : Fin 512) :
    @Eq EReal (colStep H X6 A n (ix2 r c))
      (A (ix2 r ⟨(512 * n + c.val) % 4096, Nat.mod_lt _ (by decide)⟩)
        + ∑ k : Fin 1024, H (ix2 r k) * X6 (ix2 k ⟨(512 * n + c.val) % 4096, Nat.mod_lt _ (by decide)⟩)) := by
  have hA : blk (s := S512x4096) (by decide) A ![0, 512 * n] S512x512.size (ix2 r c) = A (ix2 r ⟨(512 * n + c.val) % 4096, Nat.mod_lt _ (by decide)⟩) := by
    refine congrArg A (funext fun a => Fin.ext ?_)
    match a with
    | ⟨0, _⟩ => show (0 + r.val) % 512 = r.val; omega
    | ⟨1, _⟩ => rfl
  have hX (k : Fin 1024) : blk (s := S1024x4096) (by decide) X6 ![0, 512 * n] S1024x512.size (ix2 k c) = X6 (ix2 k ⟨(512 * n + c.val) % 4096, Nat.mod_lt _ (by decide)⟩) := by
    refine congrArg X6 (funext fun a => Fin.ext ?_)
    match a with
    | ⟨0, _⟩ => show (0 + k.val) % 1024 = k.val; omega
    | ⟨1, _⟩ => rfl
  pointwise [colStep]
  simp only [hA, hX]

theorem accUpTo_at (H : FVec Ideal S512x1024 .bf16) (X6 : Vec Ideal S1024x4096 .bf16) (A : Vec Ideal S512x4096 .f32) (n : ℕ) (r : Fin 512) (c : Fin 4096) :
    @Eq EReal (accUpTo H X6 A n (ix2 r c))
      (if c.val < 512 * n then A (ix2 r c) + ∑ k : Fin 1024, H (ix2 r k) * X6 (ix2 k c) else A (ix2 r c)) := by
  induction n with
  | zero => rw [if_neg (by omega)]; rfl
  | succ n ih =>
    show VecWindow.put (accUpTo H X6 A n) ![0, 512 * n] S512x512.size (colStep H X6 A n) (ix2 r c) = _
    unfold VecWindow.put
    by_cases h : ∀ a, (![0, 512 * n] : Fin 2 → ℕ) a ≤ ((ix2 r c : S512x4096.Idx) a).val ∧ ((ix2 r c : S512x4096.Idx) a).val < (![0, 512 * n] : Fin 2 → ℕ) a + S512x512.size a
    · have h1 : 512 * n ≤ c.val ∧ c.val < 512 * n + 512 := h 1
      rw [dif_pos h, if_pos (by omega)]
      have e : (⟨(512 * n + (c.val - 512 * n)) % 4096, Nat.mod_lt _ (by decide)⟩ : Fin 4096) = c := Fin.ext (by show (512 * n + (c.val - 512 * n)) % 4096 = c.val; have := c.isLt; omega)
      refine Eq.trans (congrArg _ (a₂ := ix2 r (⟨c.val - 512 * n, by omega⟩ : Fin 512)) (funext fun a => Fin.ext ?_)) ((col_at H X6 A n r ⟨c.val - 512 * n, by omega⟩).trans ?_)
      · match a with
        | ⟨0, _⟩ => show r.val - 0 = r.val; omega
        | ⟨1, _⟩ => rfl
      · simp only [e]
    · rw [dif_neg h]
      have h1 : ¬ (512 * n ≤ c.val ∧ c.val < 512 * n + 512) := fun h1 => h fun a => by
        match a with
        | ⟨0, _⟩ => exact ⟨Nat.zero_le _, by show r.val < 0 + 512; omega⟩
        | ⟨1, _⟩ => exact h1
      refine ih.trans ?_
      by_cases h2 : c.val < 512 * n
      · rw [if_pos h2, if_pos (by omega)]
      · rw [if_neg h2, if_neg (by omega)]

/-- A block of hidden units adds its products to the running sum, which starts at zero. -/
theorem accNext_at (i : grid0.Coords) (X2 : Vec Ideal S512x4096 .bf16) (X5 : Vec Ideal S4096x1024 .bf16) (X6 : Vec Ideal S1024x4096 .bf16) (A : Vec Ideal S512x4096 .f32) (r : Fin 512) (c : Fin 4096) :
    @Eq EReal (accNext i X2 X5 X6 A (ix2 r c))
      ((if (i 1).val = 0 then 0 else (show EReal from A (ix2 r c))) + ∑ k : Fin 1024, (show EReal from hid X2 X5 (ix2 r k)) * X6 (ix2 k c)) := by
  unfold accNext
  refine (accUpTo_at _ _ _ 8 r c).trans ?_
  rw [if_pos (by have := c.isLt; omega)]
  refine congrArg₂ (fun u v : EReal => u + v) ?_ rfl
  split_ifs with h
  · show Ideal.ofBits .f32 0x00000000#32 = 0
    simp
  · rfl

/-! ## The gate of a row -/

/-- The gate row of row `r` of a strip that starts at row `r0`, as the kernel's words compute it. -/
def gateRow (r0 r : BitVec 32) : BitVec 32 :=
  let row := IntOp.addi r r0
  let q := IntOp.divsi .vector row 16#32
  Scalar.select (IntOp.andi
      (IntOp.cmpi .ne (IntOp.subi (Scalar.extui (IntOp.cmpi .sgt row 0#32)) (Scalar.extui (IntOp.cmpi .slt row 0#32)))
        (Scalar.subi (Scalar.extui (Scalar.cmpi .sgt 16#32 0#32)) (Scalar.extui (Scalar.cmpi .slt 16#32 0#32))))
      (IntOp.cmpi .ne (IntOp.remsi .vector row 16#32) 0#32))
    (IntOp.subi q 1#32) q

/-- It is the quotient by 16. -/
theorem gateRow_eq : ∀ (n : Fin 4) (r : Fin 128), gateRow (BitVec.ofNat 32 (128 * n.val)) (BitVec.ofNat 32 r.val) = BitVec.ofNat 32 ((128 * n.val + r.val) / 16) := by
  decide +kernel

theorem sel_word (r0 : BitVec 32) (r k : Fin 128) : @Eq EReal (sel (F := Ideal) r0 (ix2 r k))
    (if IntOp.cmpi .eq (gateRow r0 (BitVec.ofNat 32 r.val)) (BitVec.ofNat 32 k.val) = 1#1 then Ideal.ofBits .f32 0x3F800000#32 else Ideal.ofBits .f32 0x00000000#32) := by
  pointwise [sel]
  rfl

/-- The weights of row `r` of strip `n`: 1 at gate row `(128 n + r) / 16`, 0 at the others. -/
theorem sel_at (n : Fin 4) (r k : Fin 128) : @Eq EReal (sel (F := Ideal) (BitVec.ofNat 32 (128 * n.val)) (ix2 r k))
    (if (⟨(128 * n.val + r.val) / 16, by omega⟩ : Fin 128) = k then 1 else 0) := by
  have hk := k.isLt
  have hr := r.isLt
  have hn := n.isLt
  rw [sel_word, gateRow_eq n r, Ideal.ofBits_one_f32, Ideal.ofBits_zero]
  by_cases h : (128 * n.val + r.val) / 16 = k.val
  · rw [if_pos (Fin.ext h), if_pos (by rw [h]; simp [IntOp.cmpi])]
  · rw [if_neg (fun e => h (congrArg Fin.val e)), if_neg]
    intro e
    have e2 : BitVec.ofNat 32 ((128 * n.val + r.val) / 16) = BitVec.ofNat 32 k.val := by
      by_contra hne
      have hb : (BitVec.ofNat 32 ((128 * n.val + r.val) / 16) == BitVec.ofNat 32 k.val) = false := beq_false_of_ne hne
      exact absurd ((congrArg BitVec.ofBool hb).symm.trans e) (by decide)
    have e3 := congrArg BitVec.toNat e2
    simp only [BitVec.toNat_ofNat] at e3
    omega

theorem spread_sum (r0 : BitVec 32) (X3 : Vec Ideal S1x128x4096 .f32) (r : Fin 128) (c : Fin 4096) : @Eq EReal (spread r0 X3 (ix2 r c))
    (((0 + ∑ k : Fin 128, sel (F := Ideal) r0 (ix2 r k) * X3 (ix3 0 k c))
      + ∑ k : Fin 128, sel (F := Ideal) r0 (ix2 r k) * (X3 (ix3 0 k c) - X3 (ix3 0 k c)))
      + ∑ k : Fin 128, sel (F := Ideal) r0 (ix2 r k) * ((X3 (ix3 0 k c) - X3 (ix3 0 k c)) - (X3 (ix3 0 k c) - X3 (ix3 0 k c)))) := by
  pointwise [spread]

/-- From a gate of real numbers the three parts together give each row its gate. -/
theorem spread_at (n : Fin 4) (X3 : Vec Ideal S1x128x4096 .f32) (h3 : ∀ k c, ∃ x : ℝ, @Eq EReal (X3 (ix3 0 k c)) x) (r : Fin 128) (c : Fin 4096) :
    @Eq EReal (spread (BitVec.ofNat 32 (128 * n.val)) X3 (ix2 r c)) (X3 (ix3 0 ⟨(128 * n.val + r.val) / 16, by omega⟩ c)) := by
  have hz (k : Fin 128) : (show EReal from X3 (ix3 0 k c)) - (show EReal from X3 (ix3 0 k c)) = 0 := by
    obtain ⟨x, hx⟩ := h3 k c
    have e : (show EReal from X3 (ix3 0 k c)) = x := hx
    rw [e, ← EReal.coe_sub, sub_self, EReal.coe_zero]
  have h0 : (0 : EReal) - 0 = 0 := by simp
  refine (spread_sum _ X3 r c).trans ?_
  simp only [sel_at]
  simp only [hz, h0, mul_zero, Finset.sum_const_zero, add_zero, zero_add, ite_mul, one_mul, zero_mul, Finset.sum_ite_eq, Finset.mem_univ, if_true]

/-- A strip, at an index. -/
theorem strip_at (n : Fin 4) (X3 : Vec Ideal S1x128x4096 .f32) (h3 : ∀ k c, ∃ x : ℝ, @Eq EReal (X3 (ix3 0 k c)) x) (X4 : Vec Ideal S1x4096 .f32)
    (B x : FVec Ideal S128x4096 .f32) (r : Fin 128) (c : Fin 4096) :
    @Eq EReal (strip (BitVec.ofNat 32 (128 * n.val)) X3 X4 B x (ix2 r c))
      (x (ix2 r c) + X3 (ix3 0 ⟨(128 * n.val + r.val) / 16, by omega⟩ c) * (B (ix2 r c)
        * Ideal.rsqrt (Ideal.div (∑ k : Fin 4096, B (ix2 r k) * B (ix2 r k)) (Ideal.ofBits .f32 0x45800000#32) + Ideal.ofBits .f32 0x358637BD#32)
        * X4 (ix2 0 c))) := by
  have hs : @Eq EReal (strip (BitVec.ofNat 32 (128 * n.val)) X3 X4 B x (ix2 r c))
      (x (ix2 r c) + (show EReal from spread (BitVec.ofNat 32 (128 * n.val)) X3 (ix2 r c)) * (B (ix2 r c)
        * Ideal.rsqrt (Ideal.div (∑ k : Fin 4096, B (ix2 r k) * B (ix2 r k)) (Ideal.ofBits .f32 0x45800000#32) + Ideal.ofBits .f32 0x358637BD#32)
        * X4 (ix2 0 c))) := by
    pointwise [strip]
  exact hs.trans (congrArg (fun g : EReal => (show EReal from x (ix2 r c)) + g * _) (spread_at n X3 h3 r c))

end Cert.Kernel5Ideal.Ffn

end
-- ==== Proof.SamIdealRead.lean ====
/-
  What the feed-forward kernel's body reads back at the sample's shapes: pieces of the running sum, slots of the residual, the strips sent out.
-/
module

public import proofs.«01_k».proof.Proof.SamIdealState
public import Idealize.ShloMosaic.Lib.Pointwise.Reshape
public import Idealize.ShloMosaic.Lib.Pipeline.Value
public import Idealize.ShloMosaic.Lib.VecWindow
public import Idealize.ShloMosaic.Lib.Exec
public import Idealize.ShloMosaic.Lib.ReshapeSlab
public import Idealize.ShloMosaic.Lib.Tactic
public import Idealize.ShloMosaic.Lib.Pipeline.Kit
public import Idealize.ShloMosaic.Lib.Pipeline.FrameValue

@[expose] public section

set_option maxRecDepth 16384

noncomputable section

namespace Cert.Kernel5Ideal.Ffn

open Cert.Kernel5Ideal Cert.Kernel5Ideal.Gen
open Cert.KernelIdeal.Attn (blk readAt_blk)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The buffers the body is called with besides its windows: the running sum, the residual's two slots, the residual and
    the result. -/
abbrev accM : Memref sig .tc .vmem S512x4096 .f32 := Memref.whole cc0_scratch0
abbrev xsM : Memref sig .tc .vmem S2x128x4096 .f32 := Memref.whole cc0_scratch1
abbrev xM : Memref sig .tc .hbm S512x4096 .f32 := Memref.whole main_arg0
abbrev oM : Memref sig .tc .hbm S512x4096 .f32 := Memref.whole main_v2

section
variable (c : Dev nD) (i : grid0.Coords) {arg6 : Memref sig .tc .vmem S1024x4096 .bf16}

/-- A whole buffer is what it reads as. -/
theorem whole_rep (b : Ref sig .tc) (f : (View.whole b).ty.Contents (Elt F)) {X : b.ty.shape.Idx → Elt F b.ty.elt} (h : (View.whole b).read (Elt F) f = X) : f = (View.whole b).rep X := by
  subst h
  have e := (View.read_rep (View.whole b) ((View.whole b).read (Elt F) f)).symm
  exact e

/-- The running sum's buffer is what it reads as. -/
theorem acc_rep (f : Buf (Elt F) (accM.view.loc (c : Thread nD τ))) {X : Vec F S512x4096 .f32} (h : accM.view.read (Elt F) f = X) : f = accM.view.rep X :=
  whole_rep cc0_scratch0 f h

/-- The residual's array is what it reads as. -/
theorem x_rep (x : Vec F S512x4096 .f32) : (x : Buf (Elt F) (xM.view.loc (c : Thread nD τ))) = xM.view.rep x :=
  whole_rep main_arg0 x rfl

/-- Rows as a transfer reads them. -/
theorem slice_read {sp : Space} {s : Shape} {e : EltTy} (M : Memref sig .tc sp s e) (X : Vec F s e) (hpos : ∀ a, 0 < s.size a) {off off' size : Fin s.rank → ℕ} (inb : ∀ a, off a + size a ≤ s.size a) (hr) (h : off = off')
    {f : M.view.ty.Contents (Elt F)} (hf : f = M.view.rep X) :
    View.read (Elt F) (M.slice (Rect.unit off size inb) hr).view f = blk hpos X off' size := by
  subst hf
  exact readAt_blk M.view X hpos inb h

/-- A slot reads what was last transferred to it. -/
theorem slot_hit {sp : Space} {s s' : Shape} {e : EltTy} (M : Memref sig .tc sp s e) (r : Rect s) (hr hq hc) (f : M.view.ty.Contents (Elt F)) (w : Vec F s' e) :
    shapeCast s' (M.view.readAt (Elt F) r.toLoadRect (View.write (Elt F) ((M.slice r hr).squeeze s' hq).view f w Finset.univ)) hc = w :=
  (Memref.read_squeeze_slice M r hr hq hc _).symm.trans (View.read_write_univ _ _)

/-- A transfer to another slot is not seen. -/
theorem slot_miss {sp : Space} {s s' : Shape} {e : EltTy} (M : Memref sig .tc sp s e) (r r' : Rect s) (hr hq hc) (f : M.view.ty.Contents (Elt F)) (w : Vec F s' e)
    (h : Disjoint (M.view.slice r).set (M.view.slice r').set) :
    shapeCast s' (M.view.readAt (Elt F) r.toLoadRect (View.write (Elt F) ((M.slice r' hr).squeeze s' hq).view f w Finset.univ)) hc
      = shapeCast s' (M.view.readAt (Elt F) r.toLoadRect f) hc := by
  refine congrArg (fun v => shapeCast s' v hc) ?_
  refine View.read_congr (v := M.view.slice r) fun j hj => ?_
  refine View.write_of_not_mem _ _ _ fun hm => ?_
  have hm' : j ∈ (M.view.slice r').set := (View.set_reshape (v := M.view.slice r') _) ▸ hm
  exact Finset.disjoint_left.mp h hj hm'

/-- The residual's two slots share no element. -/
theorem slots_disjoint {off off' : Fin 3 → ℕ} (inb : ∀ a, off a + S1x128x4096.size a ≤ S2x128x4096.size a) (inb' : ∀ a, off' a + S1x128x4096.size a ≤ S2x128x4096.size a) (h : off 0 + 1 ≤ off' 0 ∨ off' 0 + 1 ≤ off 0) :
    Disjoint (xsM.view.slice (Rect.unit (s := S2x128x4096) off S1x128x4096.size inb)).set (xsM.view.slice (Rect.unit (s := S2x128x4096) off' S1x128x4096.size inb')).set :=
  View.disjoint_slice_of_sep xsM.view _ _ 0 rfl rfl h

/-- One piece of the running sum as the kernel computes it. -/
theorem piece_eq (n : ℕ) {H H' : FVec F S512x1024 .bf16} {A : Vec F S512x4096 .f32} {X6 : Vec F S1024x4096 .bf16} {Av : Vec F S512x512 .f32} {Xv : Vec F S1024x512 .bf16}
    (hA : Av = blk (s := S512x4096) (by decide) A ![0, 512 * n] S512x512.size) (hH : H' = H) (hX : Xv = blk (s := S1024x4096) (by decide) X6 ![0, 512 * n] S1024x512.size) (hc) :
    shapeCast S512x512 (addf Av (matmul dot_S512x1024_S1024x512_S512x512_1_0_0_1_n_n none H' Xv (constant S512x512 .f32 0x00000000#32))) hc = colStep H X6 A n := by
  subst hA hH hX
  rw [shapeCast_id]
  rfl

/-- Eight pieces of columns written one after another. -/
theorem read_pieces {κ : Kind} {sp : Space} (v : View sig κ sp S512x4096 .f32) (base : v.ty.Contents (Elt F)) (w0 w1 w2 w3 w4 w5 w6 w7 : Vec F S512x512 .f32) (b0 b1 b2 b3 b4 b5 b6 b7) :
    v.read (Elt F) (v.writes (Elt F) base [⟨Rect.unit (s := S512x4096) ![0, 3584] S512x512.size b7, w7⟩, ⟨Rect.unit (s := S512x4096) ![0, 3072] S512x512.size b6, w6⟩, ⟨Rect.unit (s := S512x4096) ![0, 2560] S512x512.size b5, w5⟩, ⟨Rect.unit (s := S512x4096) ![0, 2048] S512x512.size b4, w4⟩,
      ⟨Rect.unit (s := S512x4096) ![0, 1536] S512x512.size b3, w3⟩, ⟨Rect.unit (s := S512x4096) ![0, 1024] S512x512.size b2, w2⟩, ⟨Rect.unit (s := S512x4096) ![0, 512] S512x512.size b1, w1⟩, ⟨Rect.unit (s := S512x4096) ![0, 0] S512x512.size b0, w0⟩])
    = VecWindow.put (VecWindow.put (VecWindow.put (VecWindow.put (VecWindow.put (VecWindow.put (VecWindow.put (VecWindow.put (v.read (Elt F) base) ![0, 512 * 0] S512x512.size w0) ![0, 512 * 1] S512x512.size w1) ![0, 512 * 2] S512x512.size w2) ![0, 512 * 3] S512x512.size w3)
        ![0, 512 * 4] S512x512.size w4) ![0, 512 * 5] S512x512.size w5) ![0, 512 * 6] S512x512.size w6) ![0, 512 * 7] S512x512.size w7 := by
  rw [View.read_writes_cons_put v base b7 w7 _ (off' := ![0, 512 * 7]) rfl, View.read_writes_cons_put v base b6 w6 _ (off' := ![0, 512 * 6]) rfl, View.read_writes_cons_put v base b5 w5 _ (off' := ![0, 512 * 5]) rfl,
    View.read_writes_cons_put v base b4 w4 _ (off' := ![0, 512 * 4]) rfl, View.read_writes_cons_put v base b3 w3 _ (off' := ![0, 512 * 3]) rfl, View.read_writes_cons_put v base b2 w2 _ (off' := ![0, 512 * 2]) rfl,
    View.read_writes_cons_put v base b1 w1 _ (off' := ![0, 512 * 1]) rfl, View.read_writes_cons_put v base b0 w0 _ (off' := ![0, 512 * 0]) rfl]
  rfl

/-- The running sum after its eight pieces. -/
theorem pieces_eq {H : FVec F S512x1024 .bf16} {X6 : Vec F S1024x4096 .bf16} {A R : Vec F S512x4096 .f32} (hb : R = A)
    {w0 w1 w2 w3 w4 w5 w6 w7 : Vec F S512x512 .f32} (e0 : w0 = colStep H X6 A 0) (e1 : w1 = colStep H X6 A 1) (e2 : w2 = colStep H X6 A 2) (e3 : w3 = colStep H X6 A 3)
    (e4 : w4 = colStep H X6 A 4) (e5 : w5 = colStep H X6 A 5) (e6 : w6 = colStep H X6 A 6) (e7 : w7 = colStep H X6 A 7) :
    VecWindow.put (VecWindow.put (VecWindow.put (VecWindow.put (VecWindow.put (VecWindow.put (VecWindow.put (VecWindow.put R ![0, 512 * 0] S512x512.size w0) ![0, 512 * 1] S512x512.size w1) ![0, 512 * 2] S512x512.size w2) ![0, 512 * 3] S512x512.size w3)
        ![0, 512 * 4] S512x512.size w4) ![0, 512 * 5] S512x512.size w5) ![0, 512 * 6] S512x512.size w6) ![0, 512 * 7] S512x512.size w7 = accUpTo H X6 A 8 := by
  rw [e0, e1, e2, e3, e4, e5, e6, e7, hb]
  simp only [accUpTo]

/-- A strip as the kernel computes it. -/
theorem strip_eq (n : ℕ) {r0 : BitVec 32} (h0 : r0 = BitVec.ofNat 32 (128 * n)) {X3' X3 : Vec F S1x128x4096 .f32} {X4' X4 : Vec F S1x4096 .f32} {B' x' : Vec F S128x4096 .f32} {B : Vec F S512x4096 .f32} {x : Vec F S512x4096 .f32} (h3 : X3' = X3) (h4 : X4' = X4)
    (hB : B' = blk (s := S512x4096) (by decide) B ![128 * n, 0] S128x4096.size) (hx : x' = blk (s := S512x4096) (by decide) x ![512 * (i 0).val + 128 * n, 0] S128x4096.size) (hc) :
    shapeCast S128x4096 (strip r0 X3' X4' B' x') hc = stripAt (i 0).val X3 X4 B x n := by
  subst h0 h3 h4 hB hx
  rw [shapeCast_id]
  rfl

/-- Four strips of rows written one after another. -/
theorem read_strips {κ : Kind} {sp : Space} (v : View sig κ sp S512x4096 .f32) (o : v.ty.Contents (Elt F)) (d0 d1 d2 d3 : Vec F S128x4096 .f32) (b0 b1 b2 b3) :
    v.read (Elt F) (v.writes (Elt F) o [⟨Rect.unit (s := S512x4096) (k0_off1 i 384#32) S128x4096.size b3, d3⟩, ⟨Rect.unit (s := S512x4096) (k0_off1 i 256#32) S128x4096.size b2, d2⟩, ⟨Rect.unit (s := S512x4096) (k0_off1 i 128#32) S128x4096.size b1, d1⟩, ⟨Rect.unit (s := S512x4096) (k0_off1 i 0#32) S128x4096.size b0, d0⟩])
    = VecWindow.put (VecWindow.put (VecWindow.put (VecWindow.put (v.read (Elt F) o) ![512 * (i 0).val + 128 * 0, 0] S128x4096.size d0) ![512 * (i 0).val + 128 * 1, 0] S128x4096.size d1) ![512 * (i 0).val + 128 * 2, 0] S128x4096.size d2) ![512 * (i 0).val + 128 * 3, 0] S128x4096.size d3 := by
  rw [View.read_writes_cons_put v o b3 d3 _ (off1_eq i 384 (by decide)), View.read_writes_cons_put v o b2 d2 _ (off1_eq i 256 (by decide)), View.read_writes_cons_put v o b1 d1 _ (off1_eq i 128 (by decide)), View.read_writes_cons_put v o b0 d0 _ (off1_eq i 0 (by decide))]
  rfl

/-- The result after the four strips have been sent out. -/
theorem strips_eq {X3 : Vec F S1x128x4096 .f32} {X4 : Vec F S1x4096 .f32} {B : Vec F S512x4096 .f32} {x o : Vec F S512x4096 .f32} {b : ℕ} {d0 d1 d2 d3 : Vec F S128x4096 .f32}
    (e0 : d0 = stripAt b X3 X4 B x 0) (e1 : d1 = stripAt b X3 X4 B x 1) (e2 : d2 = stripAt b X3 X4 B x 2) (e3 : d3 = stripAt b X3 X4 B x 3) :
    VecWindow.put (VecWindow.put (VecWindow.put (VecWindow.put o ![512 * b + 128 * 0, 0] S128x4096.size d0) ![512 * b + 128 * 1, 0] S128x4096.size d1) ![512 * b + 128 * 2, 0] S128x4096.size d2) ![512 * b + 128 * 3, 0] S128x4096.size d3 = outUpTo b X3 X4 B x o 4 := by
  rw [e0, e1, e2, e3]
  simp only [outUpTo]

/-- The same, each strip written through its own slice. -/
theorem read_slices {sp : Space} (M : Memref sig .tc sp S512x4096 .f32) (o : M.view.ty.Contents (Elt F)) (d0 d1 d2 d3 : Vec F S128x4096 .f32) (b0 b1 b2 b3 h0 h1 h2 h3) :
    M.view.read (Elt F) (View.write (Elt F) (M.slice (Rect.unit (s := S512x4096) (k0_off1 i 384#32) S128x4096.size b3) h3).view (View.write (Elt F) (M.slice (Rect.unit (s := S512x4096) (k0_off1 i 256#32) S128x4096.size b2) h2).view
      (View.write (Elt F) (M.slice (Rect.unit (s := S512x4096) (k0_off1 i 128#32) S128x4096.size b1) h1).view (View.write (Elt F) (M.slice (Rect.unit (s := S512x4096) (k0_off1 i 0#32) S128x4096.size b0) h0).view
        o d0 Finset.univ) d1 Finset.univ) d2 Finset.univ) d3 Finset.univ)
    = VecWindow.put (VecWindow.put (VecWindow.put (VecWindow.put (M.view.read (Elt F) o) ![512 * (i 0).val + 128 * 0, 0] S128x4096.size d0) ![512 * (i 0).val + 128 * 1, 0] S128x4096.size d1) ![512 * (i 0).val + 128 * 2, 0] S128x4096.size d2) ![512 * (i 0).val + 128 * 3, 0] S128x4096.size d3 :=
  read_strips i M.view o d0 d1 d2 d3 b0 b1 b2 b3

/-- The result's array is what it reads as. -/
theorem out_rep (f : Buf (Elt F) (oM.view.loc (c : Thread nD τ))) {X : Vec F S512x4096 .f32} (h : oM.view.read (Elt F) f = X) : f = X :=
  (whole_rep main_v2 f h).trans (whole_rep main_v2 X rfl).symm

end
end Cert.Kernel5Ideal.Ffn
end
-- ==== Proof.SamIdealBody.lean ====
/-
  One grid point of the feed-forward kernel at the sample's shapes: the running sum after it, and at the last block of hidden units the four
  strips of rows sent out, each transfer waited for.
-/
module

public import proofs.«01_k».proof.Proof.SamIdealRead
public import Idealize.ShloMosaic.Lib.Exec
public import Idealize.ShloMosaic.Lib.ReshapeSlab
public import Idealize.ShloMosaic.Lib.Tactic
public import Idealize.ShloMosaic.Lib.Pipeline.Kit
public import Idealize.ShloMosaic.Lib.Pipeline.FrameValue

@[expose] public section

set_option maxRecDepth 16384

noncomputable section

namespace Cert.Kernel5Ideal.Ffn

open Cert.Kernel5Ideal Cert.Kernel5Ideal.Gen
open Cert.KernelIdeal.Attn (blk readAt_blk)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The result's buffer holds the four strips after the transfers out. -/
theorem out_own (c : Dev nD) {f g : Buf (Elt F) (oM.view.loc (c : Thread nD τ))} (h : f = g) :
    (oM.view.loc (c : Thread nD τ) ↦{fullShare} f : sProp 𝕄) ⊢ oM.view.loc (c : Thread nD τ) ↦{fullShare} g := by
  subst h
  exact .rfl

/-- The running sum's buffer holds something. -/
theorem acc_own (c : Dev nD) (f : Buf (Elt F) (accM.view.loc (c : Thread nD τ))) :
    (accM.view.loc (c : Thread nD τ) ↦{fullShare} f : sProp 𝕄) ⊢ ∃ A : Vec F S512x4096 .f32, accM.view.loc (c : Thread nD τ) ↦{fullShare} accM.view.rep A := by
  iintro H
  iexists accM.view.read (Elt F) f
  rw [← acc_rep c f rfl]
  iexact H

section
variable (𝒱 : Variants) (c : Dev nD) (i : grid0.Coords) (arg2 : Memref sig .tc .vmem S512x4096 .bf16) (harg2 : arg2.IsWhole) (arg3 : Memref sig .tc .vmem S1x128x4096 .f32) (harg3 : arg3.IsWhole) (arg4 : Memref sig .tc .vmem S1x4096 .f32) (harg4 : arg4.IsWhole) (arg5 : Memref sig .tc .vmem S4096x1024 .bf16) (harg5 : arg5.IsWhole) (arg6 : Memref sig .tc .vmem S1024x4096 .bf16) (harg6 : arg6.IsWhole)

/-- The body at grid point `i` on five window buffers. -/
abbrev body := cc0_ffn (F := F) i arg2 harg2 arg3 harg3 arg4 harg4 arg5 harg5 arg6 harg6 xM (Memref.isWhole_whole _) oM (Memref.isWhole_whole _) accM (Memref.isWhole_whole _) xsM (Memref.isWhole_whole _) cc0_scratch2 cc0_scratch3

/-- What the body holds: its windows' blocks, the running sum, the residual, the result, the slots, the six counters. -/
def held (X2 : Vec F S512x4096 .bf16) (X3 : Vec F S1x128x4096 .f32) (X4 : Vec F S1x4096 .f32) (X5 : Vec F S4096x1024 .bf16) (X6 : Vec F S1024x4096 .bf16)
    (A : Buf (Elt F) (accM.view.loc (c : Thread nD τ))) (x : Buf (Elt F) (xM.view.loc (c : Thread nD τ))) (o : Buf (Elt F) (oM.view.loc (c : Thread nD τ))) (xs : Buf (Elt F) (xsM.view.loc (c : Thread nD τ))) (W : Waits sig Unit) : sProp 𝕄 :=
  iprop((arg2.view.loc (c : Thread nD τ) ↦[arg2.view.set]{fullShare} arg2.view.rep X2) ∗ (arg3.view.loc (c : Thread nD τ) ↦[arg3.view.set]{fullShare} arg3.view.rep X3) ∗ (arg4.view.loc (c : Thread nD τ) ↦[arg4.view.set]{fullShare} arg4.view.rep X4) ∗ (arg5.view.loc (c : Thread nD τ) ↦[arg5.view.set]{fullShare} arg5.view.rep X5) ∗ (arg6.view.loc (c : Thread nD τ) ↦[arg6.view.set]{fullShare} arg6.view.rep X6) ∗ (accM.view.loc (c : Thread nD τ) ↦{fullShare} A)
      ∗ (xM.view.loc (c : Thread nD τ) ↦{fullShare} x) ∗ (oM.view.loc (c : Thread nD τ) ↦{fullShare} o) ∗ (xsM.view.loc (c : Thread nD τ) ↦{fullShare} xs)
      ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ owes (c : Thread nD τ) 0 W)

/-- The rows two transfers move, at strips `p ≠ q` of one row block, share no element of their array. -/
theorem rows_disjoint (M : Memref sig .tc .hbm S512x4096 .f32) (p q : BitVec 32)
    (ha : ∀ a, (k0_off1 i p) a + S128x4096.size a ≤ S512x4096.size a) (hb : ∀ a, (k0_off1 i q) a + S128x4096.size a ≤ S512x4096.size a)
    (h : p.toNat < 512 ∧ q.toNat < 512 ∧ (p.toNat + 128 ≤ q.toNat ∨ q.toNat + 128 ≤ p.toNat)) :
    Disjoint (M.slice (Rect.unit (s := S512x4096) (k0_off1 i p) S128x4096.size ha) (fun _ => rfl)).view.set (M.slice (Rect.unit (s := S512x4096) (k0_off1 i q) S128x4096.size hb) (fun _ => rfl)).view.set := by
  obtain ⟨hp, hq, h⟩ := h
  have ep : k0_off1 i p = ![512 * (i 0).val + p.toNat, 0] := by simpa using off1_eq i p.toNat hp
  have eq : k0_off1 i q = ![512 * (i 0).val + q.toNat, 0] := by simpa using off1_eq i q.toNat hq
  refine View.disjoint_slice_of_sep M.view _ _ 0 rfl rfl ?_
  show k0_off1 i p 0 + 128 ≤ k0_off1 i q 0 ∨ k0_off1 i q 0 + 128 ≤ k0_off1 i p 0
  rw [ep, eq]
  simp only [Matrix.cons_val_zero]
  omega

set_option maxHeartbeats 1000000 in
/-- The body at any grid point. -/
theorem body_triple (bd : Option 𝒱.V) (X2 : Vec F S512x4096 .bf16) (X3 : Vec F S1x128x4096 .f32) (X4 : Vec F S1x4096 .f32) (X5 : Vec F S4096x1024 .bf16) (X6 : Vec F S1024x4096 .bf16)
    (A : Vec F S512x4096 .f32) (x o : Vec F S512x4096 .f32) (xs : Buf (Elt F) (xsM.view.loc (c : Thread nD τ))) (W : Waits sig Unit) :
    held c arg2 arg3 arg4 arg5 arg6 X2 X3 X4 X5 X6 (accM.view.rep A) x o xs W
    ⊢ wp frame (wpE (defs₀ (F := F)) 𝒱 (c : Thread nD τ) bd) Set.univ (body i arg2 harg2 arg3 harg3 arg4 harg4 arg5 harg5 arg6 harg6)
        (fun _ => iprop(∃ (A' : Vec F S512x4096 .f32) (xs' : Buf (Elt F) (xsM.view.loc (c : Thread nD τ))) (W' : Waits sig Unit),
          ⌜(i 1).val ≠ 15 → A' = accNext i X2 X5 X6 A⌝ ∗ held c arg2 arg3 arg4 arg5 arg6 X2 X3 X4 X5 X6 (accM.view.rep A') x (outNext i X3 X4 (accNext i X2 X5 X6 A) x o) xs' W')) := by
  have hx := rows_disjoint i xM
  have ho := rows_disjoint i oM
  unfold held body cc0_ffn
  iintro ⟨H2, H3, H4, H5, H6, H9, H7, H8, H10, s0, s1, s2, s3, s4, s5, HO⟩
  set_option sl_exec.stopBefore "k0_cond2" in
  sl_exec
  have eb : (if hc : body_triple.sl.v9 i = 1#1 then accM.view.writes (Elt F) (accM.view.rep A) [⟨Rect.unit (s := S512x4096) ![0, 0] S512x4096.size inb_S512x4096_S512x4096_0_0, body_triple.sl.v72⟩] else accM.view.rep A) = accM.view.rep (if (i 1).val = 0 then accZero else A) := by
    by_cases hz : body_triple.sl.v9 i = 1#1
    · rw [dif_pos hz, if_pos ((cond1_iff i).mp hz)]
      refine acc_rep c _ ?_
      rw [View.read_writes_full]
      exact shapeCast_id _ _
    · rw [dif_neg hz, if_neg fun e => hz ((cond1_iff i).mpr e)]
  have eH : hid (arg2.view.readAt (Elt F) (Rect.unit (s := S512x4096) ![0, 0] S512x4096.size inb_S512x4096_S512x4096_0_0).toLoadRect (arg2.view.rep X2)) (arg5.view.readAt (Elt F) (Rect.unit (s := S4096x1024) ![0, 0] S4096x1024.size inb_S4096x1024_S4096x1024_0_0).toLoadRect (arg5.view.rep X5)) = hid X2 X5 := by
    rw [View.readAt_rep_full, View.readAt_rep_full]
  have ep : ∀ (n : ℕ) {off : Fin 2 → ℕ} (hoff : off = ![0, 512 * n]) (b1 b2) (hc), shapeCast S512x512 (addf (accM.view.readAt (Elt F) (Rect.unit (s := S512x4096) off S512x512.size b1).toLoadRect (if hc : body_triple.sl.v9 i = 1#1 then accM.view.writes (Elt F) (accM.view.rep A) [⟨Rect.unit (s := S512x4096) ![0, 0] S512x4096.size inb_S512x4096_S512x4096_0_0, body_triple.sl.v72⟩] else accM.view.rep A))
      (matmul dot_S512x1024_S1024x512_S512x512_1_0_0_1_n_n none (hid (arg2.view.readAt (Elt F) (Rect.unit (s := S512x4096) ![0, 0] S512x4096.size inb_S512x4096_S512x4096_0_0).toLoadRect (arg2.view.rep X2)) (arg5.view.readAt (Elt F) (Rect.unit (s := S4096x1024) ![0, 0] S4096x1024.size inb_S4096x1024_S4096x1024_0_0).toLoadRect (arg5.view.rep X5)))
        (arg6.view.readAt (Elt F) (Rect.unit (s := S1024x4096) off S1024x512.size b2).toLoadRect (arg6.view.rep X6)) (constant S512x512 .f32 0x00000000#32))) hc = colStep (hid X2 X5) X6 (if (i 1).val = 0 then accZero else A) n := fun n off hoff b1 b2 hc =>
    piece_eq n ((congrArg _ eb).trans (readAt_blk accM.view _ (by decide) b1 hoff)) eH (readAt_blk arg6.view X6 (by decide) b2 hoff) hc
  have eA : ∀ f : Buf (Elt F) (accM.view.loc (c : Thread nD τ)), f = accM.view.writes (Elt F) (if hc : body_triple.sl.v9 i = 1#1 then accM.view.writes (Elt F) (accM.view.rep A) [⟨Rect.unit (s := S512x4096) ![0, 0] S512x4096.size inb_S512x4096_S512x4096_0_0, body_triple.sl.v72⟩] else accM.view.rep A)
      [⟨Rect.unit (s := S512x4096) ![0, 3584] S512x512.size inb_S512x4096_S512x512_0_3584, body_triple.sl.v65 i arg2 arg5 arg6 X2 X5 X6 A⟩, ⟨Rect.unit (s := S512x4096) ![0, 3072] S512x512.size inb_S512x4096_S512x512_0_3072, body_triple.sl.v58 i arg2 arg5 arg6 X2 X5 X6 A⟩,
       ⟨Rect.unit (s := S512x4096) ![0, 2560] S512x512.size inb_S512x4096_S512x512_0_2560, body_triple.sl.v51 i arg2 arg5 arg6 X2 X5 X6 A⟩, ⟨Rect.unit (s := S512x4096) ![0, 2048] S512x512.size inb_S512x4096_S512x512_0_2048, body_triple.sl.v44 i arg2 arg5 arg6 X2 X5 X6 A⟩,
       ⟨Rect.unit (s := S512x4096) ![0, 1536] S512x512.size inb_S512x4096_S512x512_0_1536, body_triple.sl.v37 i arg2 arg5 arg6 X2 X5 X6 A⟩, ⟨Rect.unit (s := S512x4096) ![0, 1024] S512x512.size inb_S512x4096_S512x512_0_1024, body_triple.sl.v30 i arg2 arg5 arg6 X2 X5 X6 A⟩,
       ⟨Rect.unit (s := S512x4096) ![0, 512] S512x512.size inb_S512x4096_S512x512_0_512, body_triple.sl.v23 i arg2 arg5 arg6 X2 X5 X6 A⟩, ⟨Rect.unit (s := S512x4096) ![0, 0] S512x512.size inb_S512x4096_S512x512_0_0, body_triple.sl.v16 i arg2 arg5 arg6 X2 X5 X6 A⟩] → f = accM.view.rep (accNext i X2 X5 X6 A) := by
    rintro f rfl
    refine acc_rep c _ ((read_pieces accM.view _ _ _ _ _ _ _ _ _ _ _ _ _ _ _ _ _).trans (pieces_eq ((congrArg (accM.view.read (Elt F)) eb).trans (View.read_rep _ _)) ?_ ?_ ?_ ?_ ?_ ?_ ?_ ?_))
    · exact ep 0 rfl _ _ _
    · exact ep 1 rfl _ _ _
    · exact ep 2 rfl _ _ _
    · exact ep 3 rfl _ _ _
    · exact ep 4 rfl _ _ _
    · exact ep 5 rfl _ _ _
    · exact ep 6 rfl _ _ _
    · exact ep 7 rfl _ _ _
  rw [eA _ rfl]
  generalize accNext i X2 X5 X6 A = B
  by_cases h2 : k0_cond2 i = 1#1
  · have h15 := (cond2_iff i).mp h2
    rw [dif_pos h2]
    set_option sl_exec.dmaWindow true in
    sl_exec
    have e0 : body_triple.sl.v157 c i arg3 arg4 X3 X4 x xs B h2 = stripAt (i 0).val X3 X4 B x 0 := by
      refine strip_eq i 0 rfl (View.readAt_rep_full _ _ _) (View.readAt_rep_full _ _ _) (readAt_blk accM.view B (by decide) _ rfl) ?_ _
      exact (slot_miss xsM _ _ _ _ _ _ _ (slots_disjoint _ _ (by decide))).trans ((slot_hit xsM _ _ _ _ _ _).trans (slice_read xM x (by decide) _ _ (off1_eq i 0 (by decide)) (x_rep x)))
    have e1 : body_triple.sl.v244 c i arg3 arg4 X3 X4 x xs B h2 = stripAt (i 0).val X3 X4 B x 1 := by
      refine strip_eq i 1 rfl (View.readAt_rep_full _ _ _) (View.readAt_rep_full _ _ _) (readAt_blk accM.view B (by decide) _ rfl) ?_ _
      exact (slot_miss xsM _ _ _ _ _ _ _ (slots_disjoint _ _ (by decide))).trans ((slot_hit xsM _ _ _ _ _ _).trans (slice_read xM x (by decide) _ _ (off1_eq i 128 (by decide)) (x_rep x)))
    have e2 : body_triple.sl.v331 c i arg3 arg4 X3 X4 x xs B h2 = stripAt (i 0).val X3 X4 B x 2 := by
      refine strip_eq i 2 rfl (View.readAt_rep_full _ _ _) (View.readAt_rep_full _ _ _) (readAt_blk accM.view B (by decide) _ rfl) ?_ _
      exact (slot_miss xsM _ _ _ _ _ _ _ (slots_disjoint _ _ (by decide))).trans ((slot_hit xsM _ _ _ _ _ _).trans (slice_read xM x (by decide) _ _ (off1_eq i 256 (by decide)) (x_rep x)))
    have e3 : body_triple.sl.v412 c i arg3 arg4 X3 X4 x xs B h2 = stripAt (i 0).val X3 X4 B x 3 := by
      refine strip_eq i 3 rfl (View.readAt_rep_full _ _ _) (View.readAt_rep_full _ _ _) (readAt_blk accM.view B (by decide) _ rfl) ?_ _
      exact (slot_hit xsM _ _ _ _ _ _).trans (slice_read xM x (by decide) _ _ (off1_eq i 384 (by decide)) (x_rep x))
    sl_step
    ihave H8 := (out_own c (g := outUpTo (i 0).val X3 X4 B x o 4) ?ho) $$ H8
    case ho =>
      refine out_rep c _ ((read_slices i oM o _ _ _ _ _ _ _ _ _ _ _ _).trans (strips_eq ?_ ?_ ?_ ?_))
      · exact (View.read_write_univ _ _).trans e0
      · exact (View.read_write_univ _ _).trans e1
      · exact (View.read_write_univ _ _).trans e2
      · exact (View.read_write_univ _ _).trans e3
    ihave H9 := (acc_own c _) $$ H9
    icases H9 with ⟨%A', H9⟩
    iexists A', _, _
    isplitr
    · ipureintro
      exact fun h => absurd h15 h
    · unfold outNext
      rw [if_pos h15]
      isplitl [H2]; · iexact H2
      isplitl [H3]; · iexact H3
      isplitl [H4]; · iexact H4
      isplitl [H5]; · iexact H5
      isplitl [H6]; · iexact H6
      isplitl [H9]; · iexact H9
      isplitl [H7]; · iexact H7
      isplitl [H8]; · iexact H8
      isplitl [H10]; · iexact H10
      isplitl [s0]; · iexact s0
      isplitl [s1]; · iexact s1
      isplitl [s2]; · iexact s2
      isplitl [s3]; · iexact s3
      isplitl [s4]; · iexact s4
      isplitl [s5]; · iexact s5
      iexact HO
  · have h15 := (cond2_iff i).not.mp h2
    rw [dif_neg h2]
    sl_exec
    sl_step
    iexists B, _, _
    isplitr
    · ipureintro
      exact fun _ => rfl
    · unfold outNext
      rw [if_neg h15]
      isplitl [H2]; · iexact H2
      isplitl [H3]; · iexact H3
      isplitl [H4]; · iexact H4
      isplitl [H5]; · iexact H5
      isplitl [H6]; · iexact H6
      isplitl [H9]; · iexact H9
      isplitl [H7]; · iexact H7
      isplitl [H8]; · iexact H8
      isplitl [H10]; · iexact H10
      isplitl [s0]; · iexact s0
      isplitl [s1]; · iexact s1
      isplitl [s2]; · iexact s2
      isplitl [s3]; · iexact s3
      isplitl [s4]; · iexact s4
      isplitl [s5]; · iexact s5
      iexact HO
end
end Cert.Kernel5Ideal.Ffn
end
-- ==== Proof.SamIdealFrame.lean ====
/-
  The feed-forward kernel run at the sample's shapes on the whole grid: at the end the result holds, row block by row block, the strips of the
  row block's complete sum; the run leaves the arguments as they were and every counter at zero.
-/
module

public import proofs.«01_k».proof.Proof.SamIdealBody
public import Idealize.ShloMosaic.Lib.Pipeline.TableIdle
public import Idealize.ShloMosaic.Lib.Pipeline.FrameValue
public import Idealize.ShloMosaic.Lib.Pipeline.Routed
public import Idealize.ShloMosaic.Lib.Claim

@[expose] public section

set_option maxRecDepth 16384

noncomputable section

namespace Cert.Kernel5Ideal.Ffn

open Cert.Kernel5Ideal Cert.Kernel5Ideal.Gen
open Cert.KernelIdeal.Attn (blk readAt_blk)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the run computes -/

/-- Grid point `t` is row block `t / 16`, block `t % 16` of hidden units. -/
theorem coords_eq (t : Fin cfg0.N) : (grid0.coords t 0).val = t.val / 16 ∧ (grid0.coords t 1).val = t.val % 16 := by
  have h : ∀ t : Fin 16, (grid0.coords t 0).val = t.val / 16 ∧ (grid0.coords t 1).val = t.val % 16 := by decide +kernel
  exact h t

/-- The running sum before point `n`, where it matters. -/
def accAt (c : Dev nD) : ℕ → Vec F S512x4096 .f32
  | 0 => accZero
  | n + 1 => if h : n < cfg0.N then accNext (grid0.coords ⟨n, h⟩) (iblk m c 0 ⟨n, h⟩) (iblk m c 3 ⟨n, h⟩) (iblk m c 4 ⟨n, h⟩) (accAt c n) else accZero

theorem accAt_succ (c : Dev nD) (t : Fin cfg0.N) (A : Vec F S512x4096 .f32) (h : t.val % 16 ≠ 0 → A = accAt m c t.val) :
    accNext (grid0.coords t) (iblk m c 0 t) (iblk m c 3 t) (iblk m c 4 t) A = accAt m c (t.val + 1) := by
  rw [accAt, dif_pos t.isLt]
  by_cases h0 : t.val % 16 = 0
  · unfold accNext
    rw [if_pos ((coords_eq t).2.trans h0), if_pos ((coords_eq t).2.trans h0)]
  · rw [h h0]

/-- The last point of the row block of row `r`. -/
def lastPt (r : Fin 512) : Fin cfg0.N := ⟨16 * (r.val / 512) + 15, by have := r.isLt; show _ < 16; omega⟩

/-- The result array at the end. -/
def res (c : Dev nD) : Vec F S512x4096 .f32 := fun y =>
  stripAt ((y 0).val / 512) (iblk m c 1 (lastPt (y 0))) (iblk m c 2 (lastPt (y 0))) (accAt m c (16 * ((y 0).val / 512) + 16)) (V m c main_arg0)
    ((y 0).val % 512 / 128) (Fin.cons (α := fun a => Fin (S128x4096.size a)) (⟨(y 0).val % 128, Nat.mod_lt _ (by decide)⟩ : Fin 128) (Fin.cons (⟨(y 1).val, (y 1).isLt⟩ : Fin 4096) finZeroElim))

/-- The rows of the row blocks before `b` are in place. -/
def OutOk (c : Dev nD) (b : ℕ) (o : Vec F S512x4096 .f32) : Prop := ∀ y : S512x4096.Idx, (y 0).val < 512 * b → o y = res m c y

theorem outUpTo_val (b : ℕ) (X3 : Vec F S1x128x4096 .f32) (X4 : Vec F S1x4096 .f32) (B : Vec F S512x4096 .f32) (x o : Vec F S512x4096 .f32) (n : ℕ) (y : S512x4096.Idx) :
    outUpTo b X3 X4 B x o n y = if 512 * b ≤ (y 0).val ∧ (y 0).val < 512 * b + 128 * n then
      stripAt b X3 X4 B x (((y 0).val - 512 * b) / 128) (Fin.cons (α := fun a => Fin (S128x4096.size a)) (⟨((y 0).val - 512 * b) % 128, Nat.mod_lt _ (by decide)⟩ : Fin 128) (Fin.cons (⟨(y 1).val, (y 1).isLt⟩ : Fin 4096) finZeroElim)) else o y := by
  induction n with
  | zero => rw [if_neg (by omega)]; rfl
  | succ n ih =>
    show VecWindow.put (outUpTo b X3 X4 B x o n) ![512 * b + 128 * n, 0] S128x4096.size (stripAt b X3 X4 B x n) y = _
    unfold VecWindow.put
    have h1 : (y 1).val < 4096 := (y 1).isLt
    by_cases h : ∀ a, (![512 * b + 128 * n, 0] : Fin 2 → ℕ) a ≤ (y a).val ∧ (y a).val < (![512 * b + 128 * n, 0] : Fin 2 → ℕ) a + S128x4096.size a
    · have h0 : 512 * b + 128 * n ≤ (y 0).val ∧ (y 0).val < 512 * b + 128 * n + 128 := h 0
      have e : ((y 0).val - 512 * b) / 128 = n := by omega
      rw [dif_pos h, if_pos (by omega), e]
      refine congrArg _ (funext fun a => Fin.ext ?_)
      match a with
      | ⟨0, _⟩ => show (y 0).val - (512 * b + 128 * n) = ((y 0).val - 512 * b) % 128; omega
      | ⟨1, _⟩ => show (y 1).val - 0 = (y 1).val; omega
    · rw [dif_neg h, ih]
      have h0 : ¬ (512 * b + 128 * n ≤ (y 0).val ∧ (y 0).val < 512 * b + 128 * n + 128) := fun h0 => h fun a => by
        match a with
        | ⟨0, _⟩ => exact h0
        | ⟨1, _⟩ => exact ⟨Nat.zero_le _, by show (y 1).val < 0 + 4096; omega⟩
      by_cases h2 : 512 * b ≤ (y 0).val ∧ (y 0).val < 512 * b + 128 * n
      · rw [if_pos h2, if_pos (by omega)]
      · rw [if_neg h2, if_neg (by omega)]

/-- One more grid point keeps the finished row blocks in place. -/
theorem outOk_succ (c : Dev nD) (t : Fin cfg0.N) (o : Vec F S512x4096 .f32) (h : OutOk m c (t.val / 16) o) :
    OutOk m c ((t.val + 1) / 16) (outNext (grid0.coords t) (iblk m c 1 t) (iblk m c 2 t) (accAt m c (t.val + 1)) (V m c main_arg0) o) := by
  intro y hy
  unfold outNext
  by_cases h15 : t.val % 16 = 15
  · rw [if_pos ((coords_eq t).2.trans h15), outUpTo_val, (coords_eq t).1]
    by_cases hb : 512 * (t.val / 16) ≤ (y 0).val
    · have ey : (y 0).val / 512 = t.val / 16 := by omega
      have et : lastPt (y 0) = t := Fin.ext (by show 16 * ((y 0).val / 512) + 15 = t.val; omega)
      rw [if_pos (by omega)]
      unfold res
      rw [et, ey, show 16 * (t.val / 16) + 16 = t.val + 1 by omega, show ((y 0).val - 512 * (t.val / 16)) / 128 = (y 0).val % 512 / 128 by omega]
      refine congrArg _ (funext fun a => Fin.ext ?_)
      match a with
      | ⟨0, _⟩ => show ((y 0).val - 512 * (t.val / 16)) % 128 = (y 0).val % 128; omega
      | ⟨1, _⟩ => rfl
    · rw [if_neg (by omega)]
      exact h y (by omega)
  · rw [if_neg fun e => h15 ((coords_eq t).2.symm.trans e)]
    exact h y (by omega)

/-! ## What the run holds between grid points -/

/-- The six counters of the body's own transfers. -/
abbrev osem0 : Fin 6 → SemLoc sig := fun j => (![SemLoc.dma 7, SemLoc.dma 8, SemLoc.dma 9, SemLoc.dma 10, SemLoc.dma 11, SemLoc.dma 12] : Fin 6 → SemLoc sig) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 7) 0 ∗ semVal ((c : Thread nD τ), SemLoc.dma 8) 0 ∗ semVal ((c : Thread nD τ), SemLoc.dma 9) 0
          ∗ semVal ((c : Thread nD τ), SemLoc.dma 10) 0 ∗ semVal ((c : Thread nD τ), SemLoc.dma 11) 0 ∗ semVal ((c : Thread nD τ), SemLoc.dma 12) 0) := by
  rw [Pipeline.ownSems0_eq_of_list c osem0 [0, 1, 2, 3, 4, 5] (by decide) (by decide)]; rfl

/-- The residual is read by the body's own transfers, -/
def H0 : Finset (Ref sig .tc) := {main_arg0}
/-- the result is written by them. -/
def R0 : Finset (Ref sig .tc) := {main_v2}
theorem H0_sub : H0 ⊆ Pipeline.restRefs sig spec0 := by decide
theorem R0_sub : R0 ⊆ Pipeline.restRefs sig spec0 \ H0 := by decide

/-- The unstaged buffers at the end: the result at `res`, the others as the run found them. -/
def G (c : Dev nD) : (b : Ref sig .tc) → Buf (Elt F) ((c.tc : Thread nD τ).loc b) :=
  Function.update (β := fun b => Buf (Elt F) ((c.tc : Thread nD τ).loc b)) (V m c) main_v2 (res m c)

/-- What the body holds before point `n`. -/
def phi (c : Dev nD) (n : ℕ) : sProp 𝕄 :=
  iprop(((∃ A : Vec F S512x4096 .f32, ⌜n % 16 ≠ 0 → A = accAt m c n⌝ ∗ (accM.view.loc (c : Thread nD τ) ↦{fullShare} accM.view.rep A)) ∗ (∃ f : Buf (Elt F) (xsM.view.loc (c : Thread nD τ)), xsM.view.loc (c : Thread nD τ) ↦{fullShare} f))
    ∗ (∃ r, prngReg c r)
    ∗ (semVal ((c : Thread nD τ), SemLoc.dma 7) 0 ∗ semVal ((c : Thread nD τ), SemLoc.dma 8) 0 ∗ semVal ((c : Thread nD τ), SemLoc.dma 9) 0
          ∗ semVal ((c : Thread nD τ), SemLoc.dma 10) 0 ∗ semVal ((c : Thread nD τ), SemLoc.dma 11) 0 ∗ semVal ((c : Thread nD τ), SemLoc.dma 12) 0)
    ∗ (xM.view.loc (c : Thread nD τ) ↦{fullShare} (V m c main_arg0))
    ∗ (∃ o : Vec F S512x4096 .f32, ⌜OutOk m c (n / 16) o⌝ ∗ (oM.view.loc (c : Thread nD τ) ↦{fullShare} o)))

theorem ends_eq (g : (c : Dev nD) → (b : Ref sig .tc) → Buf (Elt F) ((c.tc : Thread nD τ).loc b)) (c : Dev nD) :
    (Pipeline.ΦDRG osem0 spec0 H0 R0 (V m) g c : sProp 𝕄)
      = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
        ∗ (∃ r, prngReg c r)
        ∗ (semVal ((c : Thread nD τ), SemLoc.dma 7) 0 ∗ semVal ((c : Thread nD τ), SemLoc.dma 8) 0 ∗ semVal ((c : Thread nD τ), SemLoc.dma 9) 0
          ∗ semVal ((c : Thread nD τ), SemLoc.dma 10) 0 ∗ semVal ((c : Thread nD τ), SemLoc.dma 11) 0 ∗ semVal ((c : Thread nD τ), SemLoc.dma 12) 0)
        ∗ (((c.tc : Thread nD τ).loc main_arg0) ↦{fullShare} V m c main_arg0)
        ∗ (((c.tc : Thread nD τ).loc main_v2) ↦{fullShare} g c main_v2)) := by
  rw [Pipeline.ΦDRG_eq, ownSems00_eq, scopedRest0_eq]
  unfold Pipeline.routed H0 R0
  rw [BI.bigSep_singleton, BI.bigSep_singleton]

theorem phi_in (c : Dev nD) : (Pipeline.ΦDRG osem0 spec0 H0 R0 (V m) (V m) c : sProp 𝕄) ⊢ phi m c 0 := by
  rw [ends_eq]
  unfold phi
  iintro ⟨⟨⟨%f, HA⟩, Hx⟩, Hr, Hs, HX, HO⟩
  isplitl [HA Hx]
  · isplitl [HA]
    · ihave HA := (acc_own c f) $$ HA
      icases HA with ⟨%A, HA⟩
      iexists A
      isplitr
      · ipureintro
        exact fun h => absurd rfl h
      · iexact HA
    · iexact Hx
  isplitl [Hr]; · iexact Hr
  isplitl [Hs]; · iexact Hs
  isplitl [HX]; · iexact HX
  iexists _
  isplitr
  swap
  · iexact HO
  · ipureintro
    intro y hy
    exact absurd hy (Nat.not_lt_zero _)

theorem phi_out (c : Dev nD) : phi m c 16 ⊢ (Pipeline.ΦDRG osem0 spec0 H0 R0 (V m) (G m) c : sProp 𝕄) := by
  rw [ends_eq]
  unfold phi
  iintro ⟨⟨⟨%A, -, HA⟩, Hx⟩, Hr, Hs, HX, ⟨%o, %ho, HO⟩⟩
  isplitl [HA Hx]
  · isplitl [HA]
    · iexists _
      iexact HA
    · iexact Hx
  isplitl [Hr]; · iexact Hr
  isplitl [Hs]; · iexact Hs
  isplitl [HX]; · iexact HX
  have e : o = res m c := funext fun y => ho y (y 0).isLt
  rw [show G m c main_v2 = o from (Function.update_self _ _ _).trans e.symm]
  iexact HO

/-- The pipeline's windows hold their blocks throughout. -/
def dats (p : Fin 1) (c : Dev nD) : Dat τ (Elt F) Unit ℕ (Pipeline.UD sig nD τ) ℕ (cfgs p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ n := phi m c n.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-! An input window holds its block when the body runs. -/

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans (by unfold Dat.fetched Dat.blockOf iblk; rw [A_eq]; try rfl)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = phi m c t.val from rfl, show (dats m 0 c).Φ t.succ = phi m c (t.val + 1) from rfl,
    after0_0, after0_1, after0_2, after0_3, after0_4]
  unfold Dat.owesAt Pipeline.owesWithin
  rw [show (dats m 0 c).owed t.castSucc = 0 from rfl, show (dats m 0 c).owed t.succ = 0 from rfl]
  unfold phi
  iintro ⟨⟨⟨⟨%A, %hA, H9⟩, ⟨%xs, H10⟩⟩, Hr, ⟨s0, s1, s2, s3, s4, s5⟩, H7, ⟨%o, %ho, H8⟩⟩, ⟨%W, -, HW⟩, ⟨%d0, H2⟩, ⟨%d1, H3⟩, ⟨%d2, H4⟩, ⟨%d3, H5⟩, ⟨%d4, H6⟩⟩
  ihave H2 := (rep_of_owns (c : Thread nD τ) (st0_0 t) fullShare (iblk m c 0 t)) $$ H2
  ihave H3 := (rep_of_owns (c : Thread nD τ) (st0_1 t) fullShare (iblk m c 1 t)) $$ H3
  ihave H4 := (rep_of_owns (c : Thread nD τ) (st0_2 t) fullShare (iblk m c 2 t)) $$ H4
  ihave H5 := (rep_of_owns (c : Thread nD τ) (st0_3 t) fullShare (iblk m c 3 t)) $$ H5
  ihave H6 := (rep_of_owns (c : Thread nD τ) (st0_4 t) fullShare (iblk m c 4 t)) $$ H6
  iapply (wp_wand_r frame (wpE (defs₀ (F := F)) Variants.none (c : Thread nD τ) none) Set.univ)
  isplitl [H2 H3 H4 H5 H6 H7 H8 H9 H10 s0 s1 s2 s3 s4 s5 HW]
  · iapply (body_triple (F := F) Variants.none c (grid0.coords t) _ _ _ _ _ _ _ _ _ _ none (iblk m c 0 t) (iblk m c 1 t) (iblk m c 2 t) (iblk m c 3 t) (iblk m c 4 t) A (V m c main_arg0) o xs W)
    unfold held
    isplitl [H2]; · iexact H2
    isplitl [H3]; · iexact H3
    isplitl [H4]; · iexact H4
    isplitl [H5]; · iexact H5
    isplitl [H6]; · iexact H6
    isplitl [H9]; · iexact H9
    isplitl [H7]; · iexact H7
    isplitl [H8]; · iexact H8
    isplitl [H10]; · iexact H10
    isplitl [s0]; · iexact s0
    isplitl [s1]; · iexact s1
    isplitl [s2]; · iexact s2
    isplitl [s3]; · iexact s3
    isplitl [s4]; · iexact s4
    isplitl [s5]; · iexact s5
    iexact HW
  iintro %v ⟨%A', %xs', %W', %hA', H⟩
  rw [accAt_succ m c t A hA] at *
  unfold held
  icases H with ⟨H2, H3, H4, H5, H6, H9, H7, H8, H10, s0, s1, s2, s3, s4, s5, HW⟩
  isplitl [H7 H8 H9 H10 s0 s1 s2 s3 s4 s5 Hr]
  · isplitl [H9 H10]
    · isplitl [H9]
      · iexists A'
        isplitr
        · ipureintro
          intro hn
          exact hA' fun e => hn (by have := (coords_eq t).2; omega)
        · iexact H9
      · iexists xs'
        iexact H10
    isplitl [Hr]; · iexact Hr
    isplitl [s0 s1 s2 s3 s4 s5]
    · isplitl [s0]; · iexact s0
      isplitl [s1]; · iexact s1
      isplitl [s2]; · iexact s2
      isplitl [s3]; · iexact s3
      isplitl [s4]; · iexact s4
      iexact s5
    isplitl [H7]; · iexact H7
    iexists _
    isplitr
    swap
    · iexact H8
    · ipureintro
      exact outOk_succ m c t o ho
  isplitl [HW]
  · iexists W'
    isplitr
    · ipureintro
      exact fun _ _ => Or.inl trivial
    · iexact HW
  isplitl [H2]; · iapply (owns_of_rep (c : Thread nD τ) (st0_0 t) fullShare (iblk m c 0 t)) $$ H2
  isplitl [H3]; · iapply (owns_of_rep (c : Thread nD τ) (st0_1 t) fullShare (iblk m c 1 t)) $$ H3
  isplitl [H4]; · iapply (owns_of_rep (c : Thread nD τ) (st0_2 t) fullShare (iblk m c 2 t)) $$ H4
  isplitl [H5]; · iapply (owns_of_rep (c : Thread nD τ) (st0_3 t) fullShare (iblk m c 3 t)) $$ H5
  iapply (owns_of_rep (c : Thread nD τ) (st0_4 t) fullShare (iblk m c 4 t)) $$ H6

/-- The body table's row at point `t`. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
/-- The program up to the kernel's call. -/
theorem upTo_call (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

set_option backward.isDefEq.respectTransparency.types false in
set_option maxHeartbeats 800000 in
/-- Every run ends with the result at `res`, the other arrays as found, every counter at zero. -/
theorem run_quiescent : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := upTo_call m Variants.none) (hA := A_eq m) (G := G m)
    (hin := phi_in m) (hout := phi_out m)

/-- The run: it ends, the result at `res`, the arguments as they were and every counter at zero. -/
theorem run_all : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v2) = res m c)
      ∧ r.2.sem = fun _ => 0) :=
  (θ_run defs _ _).mono (fun r hr => ⟨fun c => ⟨⟨
      ((hr.1.toR c).2 main_arg0 (Finset.mem_sdiff.mpr ⟨Pipeline.mem_restRefs_of main_arg0 (by decide) (by decide), by decide⟩)).trans (V_main_arg0 m c),
      ((hr.1.toR c).1 0).trans (((dats m 0 c).arrAt_in 0 rfl _).trans ((A_eq m c 0).trans (V_main_arg1 m c))),
      ((hr.1.toR c).2 main_arg2 (Finset.mem_sdiff.mpr ⟨Pipeline.mem_restRefs_of main_arg2 (by decide) (by decide), by decide⟩)).trans (V_main_arg2 m c),
      ((hr.1.toR c).1 2).trans (((dats m 0 c).arrAt_in 2 rfl _).trans ((A_eq m c 2).trans (V_main_arg3 m c))),
      ((hr.1.toR c).1 3).trans (((dats m 0 c).arrAt_in 3 rfl _).trans ((A_eq m c 3).trans (V_main_arg4 m c))),
      ((hr.1.toR c).1 4).trans (((dats m 0 c).arrAt_in 4 rfl _).trans ((A_eq m c 4).trans (V_main_arg5 m c)))⟩,
      (hr.1.written c (by decide)).trans (Function.update_self _ _ _)⟩, hr.2⟩) (run_quiescent m ρ)

end Cert.Kernel5Ideal.Ffn

end
-- ==== Proof.SamRef.lean ====
/-
  The sample's feed-forward reference over the extended reals, read at one element of its result: the residual, plus the gate of
  the row's sequence times the mixed row, normalised and scaled.
-/
module

public import proofs.«01_k».proof.Proof.Gen.Reference5Ideal.Run
public import Idealize.ShloMosaic.Lib.Pointwise

@[expose] public section

set_option maxRecDepth 16384

noncomputable section

namespace Cert.Reference5Ideal.Ffn

open Cert.Reference5Ideal Cert.Reference5Ideal.Gen
open Idealize.ShloMosaic Idealize.ShloMosaic.TcCoe

/-- The hidden units, their negative values zero. -/
def act (U : FVec Ideal S512x4096 .bf16) (W1 : FVec Ideal S4096x16384 .bf16) : FVec Ideal S512x16384 .f32 :=
  maximumf (Host.dotGeneral dot_S512x4096_S4096x16384_S512x16384_1_0_0_1_n_n none (extf .f32 U bitsLt_bf16_f32) (extf .f32 W1 bitsLt_bf16_f32))
    (broadcastInDim S512x16384 ![] bcast_S_S512x16384 (constant S_ .f32 0x00000000#32))

/-- The mixed rows. -/
def mix (U : FVec Ideal S512x4096 .bf16) (W1 : FVec Ideal S4096x16384 .bf16) (W2 : FVec Ideal S16384x4096 .bf16) : FVec Ideal S512x4096 .f32 :=
  Host.dotGeneral dot_S512x16384_S16384x4096_S512x4096_1_0_0_1_n_n none (mulf (act U W1) (act U W1)) (extf .f32 W2 bitsLt_bf16_f32)

/-- One over the root of a row's mean square. -/
def inv (B : FVec Ideal S512x4096 .f32) : FVec Ideal S512x1 .f32 :=
  Host.rsqrt (addf (Host.divf (broadcastInDim S512x1 ![0] bcast_S512_S512x1_0 (Host.reduceAdd (mulf B B) (constant S_ .f32 0x00000000#32) reducesTo_S512x4096_S512_d1 h_S_))
    (broadcastInDim S512x1 ![] bcast_S_S512x1 (constant S_ .f32 0x45800000#32))) (broadcastInDim S512x1 ![] bcast_S_S512x1 (constant S_ .f32 0x358637BD#32)))

/-- The reference's result from the mixed rows `B`. -/
def post (X : FVec Ideal S512x4096 .f32) (G : FVec Ideal S32x4096 .f32) (P : FVec Ideal S1x4096 .f32) (B : FVec Ideal S512x4096 .f32) : FVec Ideal S512x4096 .f32 :=
  shapeCast S512x4096 (addf (shapeCast S32x16x4096 X shapeCasts_S512x4096_S32x16x4096)
    (mulf (broadcastInDim S32x16x4096 ![0, 1, 2] bcast_S32x1x4096_S32x16x4096_0_1_2 (broadcastInDim S32x1x4096 ![0, 2] bcast_S32x4096_S32x1x4096_0_2 G))
      (shapeCast S32x16x4096 (mulf (mulf B (broadcastInDim S512x4096 ![0, 1] bcast_S512x1_S512x4096_0_1 (inv B)))
        (broadcastInDim S512x4096 ![0, 1] bcast_S1x4096_S512x4096_0_1 P)) shapeCasts_S512x4096_S32x16x4096))) shapeCasts_S32x16x4096_S512x4096

/-- The reference's run ends with this result and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = post (m ((c.tc : Thread nD τ).loc main_arg0)) (m ((c.tc : Thread nD τ).loc main_arg2))
        (m ((c.tc : Thread nD τ).loc main_arg3)) (mix (m ((c.tc : Thread nD τ).loc main_arg1)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run (F := Ideal) m ρ

/-! ## Element by element -/

variable (U : FVec Ideal S512x4096 .bf16) (W1 : FVec Ideal S4096x16384 .bf16) (W2 : FVec Ideal S16384x4096 .bf16)

/-- Hidden unit `h` of row `r`: the product, zero if negative, squared. -/
def unit (r : Fin 512) (h : Fin 16384) : EReal :=
  max (∑ d : Fin 4096, U (ix2 r d) * W1 (ix2 d h)) 0 * max (∑ d : Fin 4096, U (ix2 r d) * W1 (ix2 d h)) 0

theorem act_at (r : Fin 512) (h : Fin 16384) : @Eq EReal (act U W1 (ix2 r h)) (max (∑ d : Fin 4096, U (ix2 r d) * W1 (ix2 d h)) 0) := by
  pointwise [act]

theorem mix_at (r : Fin 512) (c : Fin 4096) : @Eq EReal (mix U W1 W2 (ix2 r c)) (∑ h : Fin 16384, unit U W1 r h * W2 (ix2 h c)) := by
  pointwise [mix]
  simp only [act_at]
  rfl

theorem inv_at (B : FVec Ideal S512x4096 .f32) (r : Fin 512) : @Eq EReal (inv B (ix2 r 0))
    (Ideal.rsqrt (Ideal.div (∑ c : Fin 4096, B (ix2 r c) * B (ix2 r c)) (Ideal.ofBits .f32 0x45800000#32) + Ideal.ofBits .f32 0x358637BD#32)) := by
  pointwise [inv]

theorem post_at (X : FVec Ideal S512x4096 .f32) (G : FVec Ideal S32x4096 .f32) (P : FVec Ideal S1x4096 .f32) (B : FVec Ideal S512x4096 .f32) (r : Fin 512) (c : Fin 4096) :
    @Eq EReal (post X G P B (ix2 r c))
      (X (ix2 r c) + G (ix2 ⟨r.val / 16, by omega⟩ c) * (B (ix2 r c)
        * Ideal.rsqrt (Ideal.div (∑ c : Fin 4096, B (ix2 r c) * B (ix2 r c)) (Ideal.ofBits .f32 0x45800000#32) + Ideal.ofBits .f32 0x358637BD#32) * P (ix2 0 c))) := by
  rw [← inv_at]
  pointwise [post]

end Cert.Reference5Ideal.Ffn

end
-- ==== Proof.SamValue.lean ====
/-
  The feed-forward kernel's result at the sample's shapes is the reference's, if the gate's elements are real numbers:
  point `k` adds block `k` of the hidden units to the sum, so that after the last point it runs over all of them.
-/
module

public import proofs.«01_k».proof.Proof.SamPoint
public import proofs.«01_k».proof.Proof.SamIdealFrame
public import proofs.«01_k».proof.Proof.SamRef
public import Idealize.ShloMosaic.Lib.Pipeline.ValueKit
public import Idealize.ShloMosaic.Lib.Claim
public import Idealize.ShloMosaic.Lib.KernelVsHost

@[expose] public section

set_option maxRecDepth 16384

noncomputable section

namespace Cert.Kernel5Ideal.Ffn

open Cert.Kernel5Ideal Cert.Kernel5Ideal.Gen
open Cert.KernelIdeal.Attn (blk readAt_blk)
open Idealize.ShloMosaic Idealize.ShloMosaic.TcCoe Idealize.SL.Sem
open Cert.Reference5Ideal.Ffn (unit mix mix_at inv inv_at post post_at)

/-- Where each window's block of point `t` sits. -/
theorem idx : ∀ t : Fin cfg0.N, win0_0.index t = ![t.val / 16, 0] ∧ win0_1.index t = ![0, 0, 0]
    ∧ win0_2.index t = ![0, 0] ∧ win0_3.index t = ![0, t.val % 16] ∧ win0_4.index t = ![t.val % 16, 0] ∧ t.val / 16 < 1 :=
  (by decide +kernel : ∀ t : Fin grid0.N, _)

variable (m : (ℓ : Loc nD τ sig) → Buf (Elt Ideal) ℓ) (c : Dev nD)

/-- The argument arrays. -/
abbrev argX : FVec Ideal S512x4096 .f32 := m ((c : Thread nD τ).loc main_arg0)
abbrev argU : FVec Ideal S512x4096 .bf16 := m ((c : Thread nD τ).loc main_arg1)
abbrev argG : FVec Ideal S32x4096 .f32 := m ((c : Thread nD τ).loc main_arg2)
abbrev argP : FVec Ideal S1x4096 .f32 := m ((c : Thread nD τ).loc main_arg3)
abbrev argW1 : FVec Ideal S4096x16384 .bf16 := m ((c : Thread nD τ).loc main_arg4)
abbrev argW2 : FVec Ideal S16384x4096 .bf16 := m ((c : Thread nD τ).loc main_arg5)

/-! ## The blocks at an index -/

theorem u_at (t : Fin cfg0.N) (r : Fin 512) (d : Fin 4096) :
    iblk m c 0 t (ix2 r d) = argU m c (ix2 ⟨512 * (t.val / 16) + r.val, by have := (idx t).2.2.2.2.2; omega⟩ d) := by
  blk_ext [iblk, V_main_arg1, idx t]

/-- The gate as the call finds it: its 32 rows, the rest zero. -/
theorem padded_at (k : Fin 128) (d : Fin 4096) :
    @Eq EReal (V m c main_v1 (ix3 0 k d)) (if h : k.val < 32 then argG m c (ix2 ⟨k.val, h⟩ d) else 0) := by
  have e : V m c main_v1 = pad S1x128x4096 ![0, 0, 0] ![0, 96, 0] ![0, 0, 0] (shapeCast S1x32x4096 (argG m c) shapeCasts_S32x4096_S1x32x4096)
      (sitofp (F := Ideal) .f32 (constantI S_ 32 0#32)) pads_S1x32x4096_S1x128x4096_000_0960_000 h_S_ := by
    entry_read
    rfl
  rw [e]
  by_cases h : k.val < 32
  · rw [dif_pos h]
    refine (pad_apply_of_inside _ _ _ _ _ _ _ _ (ix3 0 (⟨k.val, h⟩ : Fin 32) d) fun a => ?_).trans ?_
    · match a with
      | ⟨0, _⟩ => rfl
      | ⟨1, _⟩ => show k.val = 0 + k.val * 1; omega
      | ⟨2, _⟩ => show d.val = 0 + d.val * 1; omega
    · pointwise
  · rw [dif_neg h]
    refine (pad_apply_of_not_inside _ _ _ _ _ _ _ _ 1 fun ha => h ?_).trans (sitofp_zero (φ := .f32))
    have h2 : (k.val - 0) / 1 < 32 := ha.2.2
    omega

theorem gate_at (t : Fin cfg0.N) (k : Fin 128) (d : Fin 4096) :
    @Eq EReal (iblk m c 1 t (ix3 0 k d)) (if h : k.val < 32 then argG m c (ix2 ⟨k.val, h⟩ d) else 0) := by
  refine Eq.trans ?_ (padded_at m c k d)
  blk_ext [iblk, idx t]

theorem post_w_at (t : Fin cfg0.N) (d : Fin 4096) : iblk m c 2 t (ix2 0 d) = argP m c (ix2 0 d) := by
  blk_ext [iblk, V_main_arg3, idx t]

theorem w1_at (t : Fin cfg0.N) (d : Fin 4096) (h : Fin 1024) :
    iblk m c 3 t (ix2 d h) = argW1 m c (ix2 d ⟨1024 * (t.val % 16) + h.val, by omega⟩) := by
  blk_ext [iblk, V_main_arg4, idx t]

theorem w2_at (t : Fin cfg0.N) (h : Fin 1024) (d : Fin 4096) :
    iblk m c 4 t (ix2 h d) = argW2 m c (ix2 ⟨1024 * (t.val % 16) + h.val, by omega⟩ d) := by
  blk_ext [iblk, V_main_arg5, idx t]

/-! ## The running sum -/

/-- What hidden unit `h` adds to column `d` of row `r`; numbers past the end wrap round. -/
def term (r : Fin 512) (d : Fin 4096) (h : ℕ) : EReal :=
  unit (argU m c) (argW1 m c) r ⟨h % 16384, Nat.mod_lt _ (by decide)⟩ * argW2 m c (ix2 ⟨h % 16384, Nat.mod_lt _ (by decide)⟩ d)

theorem step_at (t : Fin cfg0.N) (r : Fin 512) (d : Fin 4096) (k : Fin 1024) :
    (show EReal from hid (iblk m c 0 t) (iblk m c 3 t) (ix2 r k)) * (show EReal from iblk m c 4 t (ix2 k d))
      = term m c ⟨512 * (t.val / 16) + r.val, by have := (idx t).2.2.2.2.2; omega⟩ d (1024 * (t.val % 16) + k.val) := by
  have e : (⟨(1024 * (t.val % 16) + k.val) % 16384, Nat.mod_lt _ (by decide)⟩ : Fin 16384) = ⟨1024 * (t.val % 16) + k.val, by omega⟩ :=
    Fin.ext (by show (1024 * (t.val % 16) + k.val) % 16384 = 1024 * (t.val % 16) + k.val; have := k.isLt; omega)
  unfold term
  rw [e]
  refine congrArg₂ (fun u v : EReal => u * v) ((hid_at _ _ r k).trans ?_) (w2_at m c t k d)
  have hs : (∑ x : Fin 4096, (show EReal from iblk m c 0 t (ix2 r x)) * (show EReal from iblk m c 3 t (ix2 x k)))
      = ∑ x : Fin 4096, argU m c (ix2 ⟨512 * (t.val / 16) + r.val, by have := (idx t).2.2.2.2.2; omega⟩ x) * argW1 m c (ix2 x ⟨1024 * (t.val % 16) + k.val, by omega⟩) :=
    Finset.sum_congr rfl fun x _ => congrArg₂ (fun u v : EReal => u * v) (u_at m c t r x) (w1_at m c t x k)
  exact congrArg (fun s : EReal => max s 0 * max s 0) hs

/-- After point `16 b + k` the sum runs over the first `k + 1` blocks of hidden units. -/
theorem accAt_at (b : Fin 1) (r : Fin 512) (d : Fin 4096) (k : ℕ) (hk : k < 16) :
    @Eq EReal (accAt m c (16 * b.val + k + 1) (ix2 r d))
      (∑ h ∈ Finset.range (1024 * (k + 1)), term m c ⟨512 * b.val + r.val, by omega⟩ d h) := by
  have hN : 16 * b.val + k < cfg0.N := by show _ < 16; omega
  have hdiv : (16 * b.val + k) / 16 = b.val := by omega
  have hmod : (16 * b.val + k) % 16 = k := by omega
  have hstep : @Eq EReal (accAt m c (16 * b.val + k + 1) (ix2 r d))
      ((if k = 0 then 0 else (show EReal from accAt m c (16 * b.val + k) (ix2 r d)))
        + ∑ x : Fin 1024, term m c ⟨512 * b.val + r.val, by omega⟩ d (1024 * k + x.val)) := by
    rw [accAt, dif_pos hN]
    refine (accNext_at _ _ _ _ _ r d).trans ?_
    have hc : (grid0.coords ⟨16 * b.val + k, hN⟩ 1).val = k := (coords_eq ⟨16 * b.val + k, hN⟩).2.trans hmod
    rw [hc]
    refine congrArg₂ (fun u v : EReal => u + v) rfl (Finset.sum_congr rfl fun x _ => (step_at m c ⟨16 * b.val + k, hN⟩ r d x).trans ?_)
    simp only [hdiv, hmod]
  rw [hstep, Nat.mul_succ, Finset.sum_range_add, ← Finset.sum_range fun x => term m c ⟨512 * b.val + r.val, by omega⟩ d (1024 * k + x)]
  refine congrArg₂ (fun u v : EReal => u + v) ?_ rfl
  cases k with
  | zero => simp
  | succ k => rw [if_neg (Nat.succ_ne_zero k)]; exact accAt_at b r d k (by omega)

/-- After the last block the sum is the reference's mixed row. -/
theorem acc_mix (b : Fin 1) (r : Fin 512) (d : Fin 4096) :
    @Eq EReal (accAt m c (16 * b.val + 16) (ix2 r d))
      (mix (argU m c) (argW1 m c) (argW2 m c) (ix2 ⟨512 * b.val + r.val, by omega⟩ d)) := by
  refine (accAt_at m c b r d 15 (by decide)).trans (Eq.trans ?_ (mix_at _ _ _ _ d).symm)
  show ∑ h ∈ Finset.range 16384, _ = _
  rw [Finset.sum_range]
  refine Finset.sum_congr rfl fun h _ => ?_
  have e : (⟨h.val % 16384, Nat.mod_lt _ (by decide)⟩ : Fin 16384) = h := Fin.ext (Nat.mod_eq_of_lt h.isLt)
  unfold term
  rw [e]

/-! ## The result -/

/-- A strip's element is the reference's, if the sum's row, the residual, the gate and the scale are. -/
theorem strip_post (n : Fin 4) (X3 : Vec Ideal S1x128x4096 .f32) (h3 : ∀ k c, ∃ x : ℝ, @Eq EReal (X3 (ix3 0 k c)) x) (X4 : Vec Ideal S1x4096 .f32)
    (B x : FVec Ideal S128x4096 .f32) (X : FVec Ideal S512x4096 .f32)
    (G : FVec Ideal S32x4096 .f32) (P : FVec Ideal S1x4096 .f32) (M : FVec Ideal S512x4096 .f32) (r : Fin 128) (R : Fin 512) (C : Fin 4096)
    (hB : ∀ d : Fin 4096, @Eq EReal (B (ix2 r d)) (M (ix2 R d))) (hx : @Eq EReal (x (ix2 r C)) (X (ix2 R C)))
    (hg : @Eq EReal (X3 (ix3 0 ⟨(128 * n.val + r.val) / 16, by omega⟩ C)) (G (ix2 ⟨R.val / 16, by omega⟩ C))) (hp : @Eq EReal (X4 (ix2 0 C)) (P (ix2 0 C))) :
    @Eq EReal (strip (BitVec.ofNat 32 (128 * n.val)) X3 X4 B x (ix2 r C)) (post X G P M (ix2 R C)) := by
  refine (strip_at n X3 h3 X4 B x r C).trans (Eq.trans ?_ (post_at X G P M R C).symm)
  rw [hx, hg, hp]
  simp only [hB]

/-- One element of the result. -/
theorem res_at (hG : ∀ i, ∃ x : ℝ, @Eq EReal (argG m c i) x) (R : Fin 512) (C : Fin 4096) : @Eq EReal (res m c (ix2 R C))
    (post (argX m c) (argG m c) (argP m c) (mix (argU m c) (argW1 m c) (argW2 m c)) (ix2 R C)) := by
  have hb : R.val / 512 < 1 := by omega
  have hB (d : Fin 4096) : @Eq EReal (blk (s := S512x4096) (by decide) (accAt m c (16 * (R.val / 512) + 16)) ![128 * (R.val % 512 / 128), 0] S128x4096.size
      (ix2 (⟨R.val % 128, Nat.mod_lt _ (by decide)⟩ : Fin 128) d)) (mix (argU m c) (argW1 m c) (argW2 m c) (ix2 R d)) := by
    refine Eq.trans (congrArg _ (a₂ := ix2 (⟨R.val % 512, Nat.mod_lt _ (by decide)⟩ : Fin 512) d) (funext fun a => Fin.ext ?_))
      ((acc_mix m c ⟨R.val / 512, hb⟩ ⟨R.val % 512, Nat.mod_lt _ (by decide)⟩ d).trans ?_)
    · match a with
      | ⟨0, _⟩ => show (128 * (R.val % 512 / 128) + R.val % 128) % 512 = R.val % 512; omega
      | ⟨1, _⟩ => show (0 + d.val) % 4096 = d.val; omega
    · have e : (⟨512 * (R.val / 512) + R.val % 512, by omega⟩ : Fin 512) = R := Fin.ext (Nat.div_add_mod _ _)
      exact congrArg (fun R : Fin 512 => (show EReal from mix (argU m c) (argW1 m c) (argW2 m c) (ix2 R d))) e
  have hx : @Eq EReal (blk (s := S512x4096) (by decide) (V m c main_arg0) ![512 * (R.val / 512) + 128 * (R.val % 512 / 128), 0] S128x4096.size
      (ix2 (⟨R.val % 128, Nat.mod_lt _ (by decide)⟩ : Fin 128) C)) (argX m c (ix2 R C)) := by
    rw [V_main_arg0]
    refine congrArg (argX m c) (funext fun a => Fin.ext ?_)
    match a with
    | ⟨0, _⟩ => show (512 * (R.val / 512) + 128 * (R.val % 512 / 128) + R.val % 128) % 512 = R.val; omega
    | ⟨1, _⟩ => show (0 + C.val) % 4096 = C.val; omega
  have h3 (k : Fin 128) (d : Fin 4096) : ∃ x : ℝ, @Eq EReal (iblk m c 1 (lastPt R) (ix3 0 k d)) x := by
    rw [gate_at m c (lastPt R) k d]
    by_cases h : k.val < 32
    · rw [dif_pos h]
      exact hG _
    · rw [dif_neg h]
      exact ⟨0, EReal.coe_zero.symm⟩
  have hg : @Eq EReal (iblk m c 1 (lastPt R) (ix3 0 ⟨(128 * (R.val % 512 / 128) + R.val % 128) / 16, by omega⟩ C)) (argG m c (ix2 ⟨R.val / 16, by omega⟩ C)) := by
    refine (gate_at m c (lastPt R) _ C).trans ((dif_pos (by show (128 * (R.val % 512 / 128) + R.val % 128) / 16 < 32; omega)).trans
      (congrArg (fun g : Fin 32 => (show EReal from argG m c (ix2 g C))) (Fin.ext ?_)))
    show (128 * (R.val % 512 / 128) + R.val % 128) / 16 = R.val / 16
    omega
  have hp : @Eq EReal (iblk m c 2 (lastPt R) (ix2 0 C)) (argP m c (ix2 0 C)) := post_w_at m c (lastPt R) C
  refine Eq.trans (congrArg _ (a₂ := ix2 (⟨R.val % 128, Nat.mod_lt _ (by decide)⟩ : Fin 128) C) (funext fun a => Fin.ext ?_))
    (strip_post ⟨R.val % 512 / 128, by omega⟩ _ h3 _ _ _ _ _ _ _ ⟨R.val % 128, Nat.mod_lt _ (by decide)⟩ R C hB hx hg hp)
  match a with
  | ⟨0, _⟩ => rfl
  | ⟨1, _⟩ => rfl

/-- **The whole grid.** The kernel's result array is the reference's. -/
theorem final (hG : ∀ i, ∃ x : ℝ, @Eq EReal (argG m c i) x) : res m c = post (argX m c) (argG m c) (argP m c) (mix (argU m c) (argW1 m c) (argW2 m c)) := by
  funext y
  have hy : y = ix2 (n0 := 512) (n1 := 4096) (y 0) (y 1) := by
    funext a
    match a with
    | ⟨0, _⟩ => rfl
    | ⟨1, _⟩ => rfl
  exact (congrArg (res m c) hy).trans ((res_at m c hG (y 0) (y 1)).trans (congrArg _ hy.symm))

end Cert.Kernel5Ideal.Ffn

end
-- ==== Proof.SamAlgebraic.lean ====
/-
  The feed-forward call for the sample: the frames of its three programs, and that kernel and reference give the same
  result over the extended reals, from a gate of real numbers.
-/
module

public import proofs.«01_k».proof.Defs
public import proofs.«01_k».proof.Proof.SamBitsFrame
public import proofs.«01_k».proof.Proof.SamValue
public import proofs.«01_k».proof.Proof.Finite

@[expose] public section

noncomputable section

namespace Cert.Pre_finite_gate

open Idealize.ShloMosaic

/-- What the predicate's operations ask of their shapes. -/
theorem shapes : Facts where
  bcast_S_S32x4096 := by decide
  reducesTo_S32x4096_S_d0_1 := by decide
  h_S_ := by decide

/-- Under the precondition each element of the gate is a real number. -/
theorem reals (hf : Facts) (X : FVec Ideal S512x4096 .f32) (U : FVec Ideal S512x4096 .bf16) (G : FVec Ideal S32x4096 .f32)
    (P : FVec Ideal S1x4096 .f32) (W1 : FVec Ideal S4096x16384 .bf16) (W2 : FVec Ideal S16384x4096 .bf16)
    (h : fn (F := Ideal) X U G P W1 W2 = fun _ => 1#1) : ∀ i, ∃ r : ℝ, G i = (r : EReal) := by
  have : Subsingleton S_.Idx := ⟨fun a b => funext fun k => k.elim0⟩
  exact fun i => Cert.Pre_finite.real_of_lt _ (Host.reduce_andi_all _ _ _ _ _ (congrFun h (fun k => k.elim0)) i)

end Cert.Pre_finite_gate

namespace Cert.Proof

open Idealize.ShloMosaic Idealize.ShloMosaic.TcCoe Idealize.SL.Sem

/-- The kernel at the words of the machine. -/
theorem frame_sam_kernel : Cert.quiescent_Kernel5 (hKernel5 := Cert.Kernel5.Gen.facts) :=
  fun m ρ _ => (θ_run _ _ _).mono (fun _ h => ⟨fun c => (h.1 c).1, h.2⟩) (Cert.Kernel5.Ffn.run_all (F := Bits) m ρ)

/-- The kernel over the extended reals. -/
theorem frame_sam_ideal : Cert.quiescent_Kernel5Ideal (hKernel5Ideal := Cert.Kernel5Ideal.Gen.facts) :=
  fun m ρ _ => (θ_run _ _ _).mono (fun _ h => ⟨fun c => (h.1 c).1, h.2⟩) (Cert.Kernel5Ideal.Ffn.run_all (F := Ideal) m ρ)

/-- The reference over the extended reals: operations of the host only, without any counter. -/
theorem frame_sam_reference : Cert.quiescent_Reference5Ideal (hReference5Ideal := Cert.Reference5Ideal.Gen.facts) :=
  fun m ρ _ => (θ_run Cert.Reference5Ideal.defs _ _).mono (fun r h => ⟨fun c => (h c).2,
      sem_eq_zero_of_no_sems (by decide) r.2⟩) (Cert.Reference5Ideal.Ffn.run m ρ)

/-- The frames, as they are stated under the precondition. -/
theorem frame_sam_ideal_pre : Cert.quiescent_Kernel5Ideal_pre_finite_gate (hKernel5Ideal := Cert.Kernel5Ideal.Gen.facts) (hPre_finite_gate := Cert.Pre_finite_gate.shapes) :=
  fun m ρ _ => frame_sam_ideal m ρ trivial

theorem frame_sam_reference_pre : Cert.quiescent_Reference5Ideal_pre_finite_gate (hReference5Ideal := Cert.Reference5Ideal.Gen.facts) (hPre_finite_gate := Cert.Pre_finite_gate.shapes) :=
  fun m ρ _ => frame_sam_reference m ρ trivial

/-- No operation of the kernel is rewritten. -/
theorem sam_unchanged : Cert.preserves_Kernel5_Kernel5Ideal := trivial

/-- **The value.** Both runs end with the reference's feed-forward result of the sample. -/
theorem sam : Cert.algebraic_Kernel5Ideal_Reference5Ideal_pre_finite_gate (hKernel5Ideal := Cert.Kernel5Ideal.Gen.facts)
    (hReference5Ideal := Cert.Reference5Ideal.Gen.facts) (hPre_finite_gate := Cert.Pre_finite_gate.shapes) := by
  intro m ρ m' ρ' hpre hargs
  refine ⟨fun c => Cert.Kernel5Ideal.Ffn.res m c, ?_, ?_⟩
  · exact (θ_run _ _ _).mono (fun r h c => ⟨(h.1 c).2, (h.1 c).1⟩) (Cert.Kernel5Ideal.Ffn.run_all (F := Ideal) m ρ)
  · refine (θ_run _ _ _).mono (fun r h c => ⟨?_, (h c).2⟩) (Cert.Reference5Ideal.Ffn.run m' ρ')
    obtain ⟨e0, e1, e2, e3, e4, e5⟩ := hargs c
    refine (h c).1.trans (Eq.trans ?_ (Cert.Kernel5Ideal.Ffn.final m c (Cert.Pre_finite_gate.reals Cert.Pre_finite_gate.shapes _ _ _ _ _ _ (hpre c))).symm)
    rw [e0, e1, e2, e3, e4, e5]

end Cert.Proof

end
-- ==== Proof.lean ====
module

public import proofs.«01_k».proof.Defs
public import proofs.«01_k».proof.Proof.Frames
public import proofs.«01_k».proof.Proof.Algebraic
public import proofs.«01_k».proof.Proof.FfnAlgebraic
public import proofs.«01_k».proof.Proof.InAlgebraic
public import proofs.«01_k».proof.Proof.OutAlgebraic
public import proofs.«01_k».proof.Proof.SamAlgebraic
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite.shapes, Cert.Pre_finite_gate.shapes,
    frame_kernel, frame_ideal, frame_ideal_pre, frame_reference, frame_reference_pre,
    frame_ffn_kernel, frame_ffn_ideal, frame_ffn_reference, frame_proj_kernel, frame_proj_ideal, frame_proj_reference,
    frame_out_kernel, frame_out_ideal, frame_out_reference,
    frame_sam_kernel, frame_sam_ideal, frame_sam_ideal_pre, frame_sam_reference, frame_sam_reference_pre,
    mask_named, attention, ffn_unchanged, ffn, proj_unchanged, projection, out_unchanged, output_projection,
    sam_unchanged, sam⟩

end Cert.Proof

end
